-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x80x2048 : Shape := ⟨3, ![2, 80, 2048]⟩
abbrev S2x2048 : Shape := ⟨2, ![2, 2048]⟩
abbrev S2x1024x11264 : Shape := ⟨3, ![2, 1024, 11264]⟩
abbrev S2x64x11264 : Shape := ⟨3, ![2, 64, 11264]⟩
abbrev S2x2816x2048 : Shape := ⟨3, ![2, 2816, 2048]⟩
abbrev S2x176x2048 : Shape := ⟨3, ![2, 176, 2048]⟩
abbrev S12x1024x512 : Shape := ⟨3, ![12, 1024, 512]⟩
abbrev S12x64x512 : Shape := ⟨3, ![12, 64, 512]⟩
abbrev S12x128x2048 : Shape := ⟨3, ![12, 128, 2048]⟩
abbrev S12x8x2048 : Shape := ⟨3, ![12, 8, 2048]⟩
abbrev S3x80x2048 : Shape := ⟨3, ![3, 80, 2048]⟩
abbrev S80x2048 : Shape := ⟨2, ![80, 2048]⟩
abbrev S_ : Shape := ⟨0, ![]⟩
abbrev S12 : Shape := ⟨1, ![12]⟩
abbrev S1 : Shape := ⟨1, ![1]⟩
abbrev S1x1024x256 : Shape := ⟨3, ![1, 1024, 256]⟩
abbrev S1024x256 : Shape := ⟨2, ![1024, 256]⟩
abbrev S1x64x256 : Shape := ⟨3, ![1, 64, 256]⟩
abbrev S64x256 : Shape := ⟨2, ![64, 256]⟩
abbrev S1x128x2048 : Shape := ⟨3, ![1, 128, 2048]⟩
abbrev S128x2048 : Shape := ⟨2, ![128, 2048]⟩
abbrev S1x8x2048 : Shape := ⟨3, ![1, 8, 2048]⟩
abbrev S8x2048 : Shape := ⟨2, ![8, 2048]⟩
abbrev S80x128 : Shape := ⟨2, ![80, 128]⟩
abbrev S1x80x2048 : Shape := ⟨3, ![1, 80, 2048]⟩
abbrev S80 : Shape := ⟨1, ![80]⟩
abbrev S80x1 : Shape := ⟨2, ![80, 1]⟩
abbrev S1x2048 : Shape := ⟨2, ![1, 2048]⟩
abbrev S1x128 : Shape := ⟨2, ![1, 128]⟩
abbrev S80x128x1 : Shape := ⟨3, ![80, 128, 1]⟩
abbrev S1x1024x512 : Shape := ⟨3, ![1, 1024, 512]⟩
abbrev S1024x512 : Shape := ⟨2, ![1024, 512]⟩
abbrev S128x256 : Shape := ⟨2, ![128, 256]⟩
abbrev S1x64x512 : Shape := ⟨3, ![1, 64, 512]⟩
abbrev S64x512 : Shape := ⟨2, ![64, 512]⟩
abbrev S8x256 : Shape := ⟨2, ![8, 256]⟩
abbrev S128x1x256 : Shape := ⟨3, ![128, 1, 256]⟩
abbrev S128x2x256 : Shape := ⟨3, ![128, 2, 256]⟩
abbrev S256x256 : Shape := ⟨2, ![256, 256]⟩
abbrev S8x1x256 : Shape := ⟨3, ![8, 1, 256]⟩
abbrev S8x32x256 : Shape := ⟨3, ![8, 32, 256]⟩
abbrev S80x256 : Shape := ⟨2, ![80, 256]⟩
abbrev S1x80x256 : Shape := ⟨3, ![1, 80, 256]⟩

abbrev nBuf : Space → Nat
  | .hbm => 7
  | .vmem => 8
  | .smem => 0
  | _ => 0

abbrev bufTy : (tb : Table) → Fin (tcTables nBuf tb) → BufTy
  | .hbm, ⟨0, _⟩ => ⟨S2x80x2048, .f32⟩
  | .hbm, ⟨1, _⟩ => ⟨S2x2048, .f32⟩
  | .hbm, ⟨2, _⟩ => ⟨S2x1024x11264, .i8⟩
  | .hbm, ⟨3, _⟩ => ⟨S2x64x11264, .bf16⟩
  | .hbm, ⟨4, _⟩ => ⟨S2x2816x2048, .i8⟩
  | .hbm, ⟨5, _⟩ => ⟨S2x176x2048, .bf16⟩
  | .hbm, ⟨6, _⟩ => ⟨S2x80x2048, .f32⟩
  | .local _ .vmem, ⟨0, _⟩ => ⟨S2x80x2048, .f32⟩
  | .local _ .vmem, ⟨1, _⟩ => ⟨S2x2048, .f32⟩
  | .local _ .vmem, ⟨2, _⟩ => ⟨S12x1024x512, .i8⟩
  | .local _ .vmem, ⟨3, _⟩ => ⟨S12x64x512, .bf16⟩
  | .local _ .vmem, ⟨4, _⟩ => ⟨S12x128x2048, .i8⟩
  | .local _ .vmem, ⟨5, _⟩ => ⟨S12x8x2048, .bf16⟩
  | .local _ .vmem, ⟨6, _⟩ => ⟨S3x80x2048, .f32⟩
  | .local _ .vmem, ⟨7, _⟩ => ⟨S80x2048, .bf16⟩
  | _, _ => ⟨S2x80x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0

abbrev nD : Nat := 1
abbrev τ : Topo := Topo.v7x

variable {F : FTy → Type} [FloatOps F]

abbrev grid0 : Pipeline.Grid := .none

def k0_mult1 : BitVec 32 :=
  let c0_i32_r0 : BitVec 32 := 0#32
  c0_i32_r0
def k0_mult2 : BitVec 32 :=
  let c5632_i32_r0 : BitVec 32 := 5632#32
  c5632_i32_r0
def k0_mult3 : BitVec 32 :=
  let c0_i32_0_r0 : BitVec 32 := 0#32
  c0_i32_0_r0
def k0_mult4 : BitVec 32 :=
  let c0_i32_1_r0 : BitVec 32 := 0#32
  c0_i32_1_r0
def k0_mult5 : BitVec 32 :=
  let c256_i32_37_r0 : BitVec 32 := 256#32
  c256_i32_37_r0
def k0_mult6 : BitVec 32 :=
  let c5888_i32_r0 : BitVec 32 := 5888#32
  c5888_i32_r0
def k0_mult7 : BitVec 32 :=
  let c128_i32_r0 : BitVec 32 := 128#32
  c128_i32_r0
def k0_mult8 : BitVec 32 :=
  let c8_i32_r0 : BitVec 32 := 8#32
  c8_i32_r0
def k0_mult9 : BitVec 32 :=
  let c512_i32_r0 : BitVec 32 := 512#32
  c512_i32_r0
def k0_mult10 : BitVec 32 :=
  let c6144_i32_r0 : BitVec 32 := 6144#32
  c6144_i32_r0
def k0_mult11 : BitVec 32 :=
  let c256_i32_73_r0 : BitVec 32 := 256#32
  c256_i32_73_r0
def k0_mult12 : BitVec 32 :=
  let c16_i32_r0 : BitVec 32 := 16#32
  c16_i32_r0
def k0_mult13 : BitVec 32 :=
  let c768_i32_r0 : BitVec 32 := 768#32
  c768_i32_r0
def k0_mult14 : BitVec 32 :=
  let c6400_i32_r0 : BitVec 32 := 6400#32
  c6400_i32_r0
def k0_mult15 : BitVec 32 :=
  let c384_i32_r0 : BitVec 32 := 384#32
  c384_i32_r0
def k0_mult16 : BitVec 32 :=
  let c24_i32_r0 : BitVec 32 := 24#32
  c24_i32_r0
def k0_mult17 : BitVec 32 :=
  let c1024_i32_r0 : BitVec 32 := 1024#32
  c1024_i32_r0
def k0_mult18 : BitVec 32 :=
  let c6656_i32_r0 : BitVec 32 := 6656#32
  c6656_i32_r0
def k0_mult19 : BitVec 32 :=
  let c512_i32_144_r0 : BitVec 32 := 512#32
  c512_i32_144_r0
def k0_mult20 : BitVec 32 :=
  let c32_i32_r0 : BitVec 32 := 32#32
  c32_i32_r0
def k0_mult21 : BitVec 32 :=
  let c1280_i32_r0 : BitVec 32 := 1280#32
  c1280_i32_r0
def k0_mult22 : BitVec 32 :=
  let c6912_i32_r0 : BitVec 32 := 6912#32
  c6912_i32_r0
def k0_mult23 : BitVec 32 :=
  let c640_i32_r0 : BitVec 32 := 640#32
  c640_i32_r0
def k0_mult24 : BitVec 32 :=
  let c40_i32_r0 : BitVec 32 := 40#32
  c40_i32_r0
def k0_mult25 : BitVec 32 :=
  let c1536_i32_r0 : BitVec 32 := 1536#32
  c1536_i32_r0
def k0_mult26 : BitVec 32 :=
  let c7168_i32_r0 : BitVec 32 := 7168#32
  c7168_i32_r0
def k0_mult27 : BitVec 32 :=
  let c768_i32_215_r0 : BitVec 32 := 768#32
  c768_i32_215_r0
def k0_mult28 : BitVec 32 :=
  let c48_i32_r0 : BitVec 32 := 48#32
  c48_i32_r0
def k0_mult29 : BitVec 32 :=
  let c1792_i32_r0 : BitVec 32 := 1792#32
  c1792_i32_r0
def k0_mult30 : BitVec 32 :=
  let c7424_i32_r0 : BitVec 32 := 7424#32
  c7424_i32_r0
def k0_mult31 : BitVec 32 :=
  let c896_i32_r0 : BitVec 32 := 896#32
  c896_i32_r0
def k0_mult32 : BitVec 32 :=
  let c56_i32_r0 : BitVec 32 := 56#32
  c56_i32_r0
def k0_mult33 : BitVec 32 :=
  let c2048_i32_r0 : BitVec 32 := 2048#32
  c2048_i32_r0
def k0_mult34 : BitVec 32 :=
  let c7680_i32_r0 : BitVec 32 := 7680#32
  c7680_i32_r0
def k0_mult35 : BitVec 32 :=
  let c1024_i32_286_r0 : BitVec 32 := 1024#32
  c1024_i32_286_r0
def k0_mult36 : BitVec 32 :=
  let c64_i32_r0 : BitVec 32 := 64#32
  c64_i32_r0
def k0_mult37 : BitVec 32 :=
  let c2304_i32_r0 : BitVec 32 := 2304#32
  c2304_i32_r0
def k0_mult38 : BitVec 32 :=
  let c7936_i32_r0 : BitVec 32 := 7936#32
  c7936_i32_r0
def k0_mult39 : BitVec 32 :=
  let c1152_i32_r0 : BitVec 32 := 1152#32
  c1152_i32_r0
def k0_mult40 : BitVec 32 :=
  let c72_i32_r0 : BitVec 32 := 72#32
  c72_i32_r0
def k0_mult41 : BitVec 32 :=
  let c2560_i32_r0 : BitVec 32 := 2560#32
  c2560_i32_r0
def k0_mult42 : BitVec 32 :=
  let c8192_i32_r0 : BitVec 32 := 8192#32
  c8192_i32_r0
def k0_mult43 : BitVec 32 :=
  let c1280_i32_358_r0 : BitVec 32 := 1280#32
  c1280_i32_358_r0
def k0_mult44 : BitVec 32 :=
  let c80_i32_r0 : BitVec 32 := 80#32
  c80_i32_r0
def k0_mult45 : BitVec 32 :=
  let c2816_i32_r0 : BitVec 32 := 2816#32
  c2816_i32_r0
def k0_mult46 : BitVec 32 :=
  let c8448_i32_r0 : BitVec 32 := 8448#32
  c8448_i32_r0
def k0_mult47 : BitVec 32 :=
  let c1408_i32_r0 : BitVec 32 := 1408#32
  c1408_i32_r0
def k0_mult48 : BitVec 32 :=
  let c88_i32_r0 : BitVec 32 := 88#32
  c88_i32_r0
@[reducible] def k0_t1_loop : Scf.Loop 32 :=
  let c0_i32_430_r0 : BitVec 32 := 0#32
  let c2_i32_431_r0 : BitVec 32 := 2#32
  let v483_r0 : BitVec 32 := Scalar.addi c0_i32_430_r0 c2_i32_431_r0
  let c1_i32_432_r0 : BitVec 32 := 1#32
  ⟨c0_i32_430_r0, v483_r0, c1_i32_432_r0⟩
def k0_off1 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c0_i32_446_r0 : BitVec 32 := 0#32
  let c0_i32_447_r0 : BitVec 32 := 0#32
  ![arg14_r0.toNat, 0, 0]
def k0_off2 (k0_t1 : Fin k0_t1_loop.trips) : Fin 2 → Nat :=
  let c0_i32_430_r0 : BitVec 32 := 0#32
  let c1_i32_432_r0 : BitVec 32 := 1#32
  let arg14_r0 : BitVec 32 := Scf.iv c0_i32_430_r0 c1_i32_432_r0 k0_t1
  let c0_i32_502_r0 : BitVec 32 := 0#32
  ![arg14_r0.toNat, 0]
def k0_cond1 (k0_t1 : Fin k0_t1_loop.trips) : BitVec 1 :=
  let c0_i32_430_r0 : BitVec 32 := 0#32
  let c1_i32_432_r0 : BitVec 32 := 1#32
  let arg14_r0 : BitVec 32 := Scf.iv c0_i32_430_r0 c1_i32_432_r0 k0_t1
  let c0_i32_752_r0 : BitVec 32 := 0#32
  let v1159_r0 : BitVec 1 := Scalar.cmpi .sgt arg14_r0 c0_i32_752_r0
  let v1160_r0 : BitVec 32 := Scalar.extui v1159_r0
  let c0_i32_753_r0 : BitVec 32 := 0#32
  let v1161_r0 : BitVec 1 := Scalar.cmpi .ne v1160_r0 c0_i32_753_r0
  v1161_r0

def k0_mult49 (k0_t1 : Fin k0_t1_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c22_i32_1135_r0 : BitVec 32 := 22#32
  let c22_i32_1134_r0 : BitVec 32 := 22#32
  let v1926_r0 : BitVec 1 := Scalar.cmpi .sge v1925_r0 c22_i32_1134_r0
  let v1927_r0 : BitVec 32 := Scalar.extui v1926_r0
  let v1928_r0 : BitVec 32 := Scalar.muli c22_i32_1135_r0 v1927_r0
  let v1929_r0 : BitVec 32 := Scalar.subi v1925_r0 v1928_r0
  let c256_i32_1137_r0 : BitVec 32 := 256#32
  let v1931_r0 : BitVec 32 := Scalar.muli v1929_r0 c256_i32_1137_r0
  v1931_r0
def k0_mult50 (k0_t1 : Fin k0_t1_loop.trips) : BitVec 32 :=
  let c5632_i32_1139_r0 : BitVec 32 := 5632#32
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c22_i32_1135_r0 : BitVec 32 := 22#32
  let c22_i32_1134_r0 : BitVec 32 := 22#32
  let v1926_r0 : BitVec 1 := Scalar.cmpi .sge v1925_r0 c22_i32_1134_r0
  let v1927_r0 : BitVec 32 := Scalar.extui v1926_r0
  let v1928_r0 : BitVec 32 := Scalar.muli c22_i32_1135_r0 v1927_r0
  let v1929_r0 : BitVec 32 := Scalar.subi v1925_r0 v1928_r0
  let c256_i32_1138_r0 : BitVec 32 := 256#32
  let v1933_r0 : BitVec 32 := Scalar.muli v1929_r0 c256_i32_1138_r0
  let v1934_r0 : BitVec 32 := Scalar.addi c5632_i32_1139_r0 v1933_r0
  v1934_r0
def k0_mult51 (k0_t1 : Fin k0_t1_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c22_i32_1135_r0 : BitVec 32 := 22#32
  let c22_i32_1134_r0 : BitVec 32 := 22#32
  let v1926_r0 : BitVec 1 := Scalar.cmpi .sge v1925_r0 c22_i32_1134_r0
  let v1927_r0 : BitVec 32 := Scalar.extui v1926_r0
  let v1928_r0 : BitVec 32 := Scalar.muli c22_i32_1135_r0 v1927_r0
  let v1929_r0 : BitVec 32 := Scalar.subi v1925_r0 v1928_r0
  let c128_i32_1140_r0 : BitVec 32 := 128#32
  let v1936_r0 : BitVec 32 := Scalar.muli v1929_r0 c128_i32_1140_r0
  v1936_r0
def k0_mult52 (k0_t1 : Fin k0_t1_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c22_i32_1135_r0 : BitVec 32 := 22#32
  let c22_i32_1134_r0 : BitVec 32 := 22#32
  let v1926_r0 : BitVec 1 := Scalar.cmpi .sge v1925_r0 c22_i32_1134_r0
  let v1927_r0 : BitVec 32 := Scalar.extui v1926_r0
  let v1928_r0 : BitVec 32 := Scalar.muli c22_i32_1135_r0 v1927_r0
  let v1929_r0 : BitVec 32 := Scalar.subi v1925_r0 v1928_r0
  let c8_i32_1141_r0 : BitVec 32 := 8#32
  let v1938_r0 : BitVec 32 := Scalar.muli v1929_r0 c8_i32_1141_r0
  v1938_r0
def k0_off3 (k0_t1 : Fin k0_t1_loop.trips) : Fin 1 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c12_i32_1136_r0 : BitVec 32 := 12#32
  let v1930_r0 : BitVec 32 := Scalar.remsi v1925_r0 c12_i32_1136_r0
  ![v1930_r0.toNat]
def k0_off4 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c12_i32_1136_r0 : BitVec 32 := 12#32
  let v1930_r0 : BitVec 32 := Scalar.remsi v1925_r0 c12_i32_1136_r0
  let c0_i32_1142_r0 : BitVec 32 := 0#32
  let c0_i32_1143_r0 : BitVec 32 := 0#32
  ![v1930_r0.toNat, 0, 0]
def k0_off5 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c22_i32_1134_r0 : BitVec 32 := 22#32
  let v1926_r0 : BitVec 1 := Scalar.cmpi .sge v1925_r0 c22_i32_1134_r0
  let v1927_r0 : BitVec 32 := Scalar.extui v1926_r0
  let c0_i32_1144_r0 : BitVec 32 := 0#32
  let c22_i32_1135_r0 : BitVec 32 := 22#32
  let v1928_r0 : BitVec 32 := Scalar.muli c22_i32_1135_r0 v1927_r0
  let v1929_r0 : BitVec 32 := Scalar.subi v1925_r0 v1928_r0
  let c256_i32_1137_r0 : BitVec 32 := 256#32
  let v1931_r0 : BitVec 32 := Scalar.muli v1929_r0 c256_i32_1137_r0
  let v1932_r0 : BitVec 32 := v1931_r0
  ![v1927_r0.toNat, 0, v1932_r0.toNat]
def k0_off6 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c12_i32_1136_r0 : BitVec 32 := 12#32
  let v1930_r0 : BitVec 32 := Scalar.remsi v1925_r0 c12_i32_1136_r0
  let c0_i32_1145_r0 : BitVec 32 := 0#32
  let c256_i32_1146_r0 : BitVec 32 := 256#32
  ![v1930_r0.toNat, 0, 256]
def k0_off7 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c22_i32_1134_r0 : BitVec 32 := 22#32
  let v1926_r0 : BitVec 1 := Scalar.cmpi .sge v1925_r0 c22_i32_1134_r0
  let v1927_r0 : BitVec 32 := Scalar.extui v1926_r0
  let c0_i32_1147_r0 : BitVec 32 := 0#32
  let c5632_i32_1139_r0 : BitVec 32 := 5632#32
  let c22_i32_1135_r0 : BitVec 32 := 22#32
  let v1928_r0 : BitVec 32 := Scalar.muli c22_i32_1135_r0 v1927_r0
  let v1929_r0 : BitVec 32 := Scalar.subi v1925_r0 v1928_r0
  let c256_i32_1138_r0 : BitVec 32 := 256#32
  let v1933_r0 : BitVec 32 := Scalar.muli v1929_r0 c256_i32_1138_r0
  let v1934_r0 : BitVec 32 := Scalar.addi c5632_i32_1139_r0 v1933_r0
  let v1935_r0 : BitVec 32 := v1934_r0
  ![v1927_r0.toNat, 0, v1935_r0.toNat]
def k0_off8 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c12_i32_1136_r0 : BitVec 32 := 12#32
  let v1930_r0 : BitVec 32 := Scalar.remsi v1925_r0 c12_i32_1136_r0
  let c0_i32_1148_r0 : BitVec 32 := 0#32
  let c0_i32_1149_r0 : BitVec 32 := 0#32
  ![v1930_r0.toNat, 0, 0]
def k0_off9 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c22_i32_1134_r0 : BitVec 32 := 22#32
  let v1926_r0 : BitVec 1 := Scalar.cmpi .sge v1925_r0 c22_i32_1134_r0
  let v1927_r0 : BitVec 32 := Scalar.extui v1926_r0
  let c0_i32_1150_r0 : BitVec 32 := 0#32
  let c22_i32_1135_r0 : BitVec 32 := 22#32
  let v1928_r0 : BitVec 32 := Scalar.muli c22_i32_1135_r0 v1927_r0
  let v1929_r0 : BitVec 32 := Scalar.subi v1925_r0 v1928_r0
  let c256_i32_1137_r0 : BitVec 32 := 256#32
  let v1931_r0 : BitVec 32 := Scalar.muli v1929_r0 c256_i32_1137_r0
  let v1932_r0 : BitVec 32 := v1931_r0
  ![v1927_r0.toNat, 0, v1932_r0.toNat]
def k0_off10 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c12_i32_1136_r0 : BitVec 32 := 12#32
  let v1930_r0 : BitVec 32 := Scalar.remsi v1925_r0 c12_i32_1136_r0
  let c0_i32_1151_r0 : BitVec 32 := 0#32
  let c256_i32_1152_r0 : BitVec 32 := 256#32
  ![v1930_r0.toNat, 0, 256]
def k0_off11 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c22_i32_1134_r0 : BitVec 32 := 22#32
  let v1926_r0 : BitVec 1 := Scalar.cmpi .sge v1925_r0 c22_i32_1134_r0
  let v1927_r0 : BitVec 32 := Scalar.extui v1926_r0
  let c0_i32_1153_r0 : BitVec 32 := 0#32
  let c5632_i32_1139_r0 : BitVec 32 := 5632#32
  let c22_i32_1135_r0 : BitVec 32 := 22#32
  let v1928_r0 : BitVec 32 := Scalar.muli c22_i32_1135_r0 v1927_r0
  let v1929_r0 : BitVec 32 := Scalar.subi v1925_r0 v1928_r0
  let c256_i32_1138_r0 : BitVec 32 := 256#32
  let v1933_r0 : BitVec 32 := Scalar.muli v1929_r0 c256_i32_1138_r0
  let v1934_r0 : BitVec 32 := Scalar.addi c5632_i32_1139_r0 v1933_r0
  let v1935_r0 : BitVec 32 := v1934_r0
  ![v1927_r0.toNat, 0, v1935_r0.toNat]
def k0_off12 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c12_i32_1136_r0 : BitVec 32 := 12#32
  let v1930_r0 : BitVec 32 := Scalar.remsi v1925_r0 c12_i32_1136_r0
  let c0_i32_1154_r0 : BitVec 32 := 0#32
  let c0_i32_1155_r0 : BitVec 32 := 0#32
  ![v1930_r0.toNat, 0, 0]
def k0_off13 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c22_i32_1134_r0 : BitVec 32 := 22#32
  let v1926_r0 : BitVec 1 := Scalar.cmpi .sge v1925_r0 c22_i32_1134_r0
  let v1927_r0 : BitVec 32 := Scalar.extui v1926_r0
  let c22_i32_1135_r0 : BitVec 32 := 22#32
  let v1928_r0 : BitVec 32 := Scalar.muli c22_i32_1135_r0 v1927_r0
  let v1929_r0 : BitVec 32 := Scalar.subi v1925_r0 v1928_r0
  let c128_i32_1140_r0 : BitVec 32 := 128#32
  let v1936_r0 : BitVec 32 := Scalar.muli v1929_r0 c128_i32_1140_r0
  let v1937_r0 : BitVec 32 := v1936_r0
  let c0_i32_1156_r0 : BitVec 32 := 0#32
  ![v1927_r0.toNat, v1937_r0.toNat, 0]
def k0_off14 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c12_i32_1136_r0 : BitVec 32 := 12#32
  let v1930_r0 : BitVec 32 := Scalar.remsi v1925_r0 c12_i32_1136_r0
  let c0_i32_1157_r0 : BitVec 32 := 0#32
  let c0_i32_1158_r0 : BitVec 32 := 0#32
  ![v1930_r0.toNat, 0, 0]
def k0_off15 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c10_i32_1133_r0 : BitVec 32 := 10#32
  let v1925_r0 : BitVec 32 := Scalar.addi v1158_r0 c10_i32_1133_r0
  let c22_i32_1134_r0 : BitVec 32 := 22#32
  let v1926_r0 : BitVec 1 := Scalar.cmpi .sge v1925_r0 c22_i32_1134_r0
  let v1927_r0 : BitVec 32 := Scalar.extui v1926_r0
  let c22_i32_1135_r0 : BitVec 32 := 22#32
  let v1928_r0 : BitVec 32 := Scalar.muli c22_i32_1135_r0 v1927_r0
  let v1929_r0 : BitVec 32 := Scalar.subi v1925_r0 v1928_r0
  let c8_i32_1141_r0 : BitVec 32 := 8#32
  let v1938_r0 : BitVec 32 := Scalar.muli v1929_r0 c8_i32_1141_r0
  let v1939_r0 : BitVec 32 := v1938_r0
  let c0_i32_1159_r0 : BitVec 32 := 0#32
  ![v1927_r0.toNat, v1939_r0.toNat, 0]
def k0_mult53 (k0_t1 : Fin k0_t1_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_755_r0 : BitVec 32 := 22#32
  let c22_i32_754_r0 : BitVec 32 := 22#32
  let v1162_r0 : BitVec 1 := Scalar.cmpi .sge v1158_r0 c22_i32_754_r0
  let v1163_r0 : BitVec 32 := Scalar.extui v1162_r0
  let v1164_r0 : BitVec 32 := Scalar.muli c22_i32_755_r0 v1163_r0
  let v1165_r0 : BitVec 32 := Scalar.subi v1158_r0 v1164_r0
  let c256_i32_756_r0 : BitVec 32 := 256#32
  let v1167_r0 : BitVec 32 := Scalar.muli v1165_r0 c256_i32_756_r0
  v1167_r0
def k0_mult54 (k0_t1 : Fin k0_t1_loop.trips) : BitVec 32 :=
  let c5632_i32_758_r0 : BitVec 32 := 5632#32
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_755_r0 : BitVec 32 := 22#32
  let c22_i32_754_r0 : BitVec 32 := 22#32
  let v1162_r0 : BitVec 1 := Scalar.cmpi .sge v1158_r0 c22_i32_754_r0
  let v1163_r0 : BitVec 32 := Scalar.extui v1162_r0
  let v1164_r0 : BitVec 32 := Scalar.muli c22_i32_755_r0 v1163_r0
  let v1165_r0 : BitVec 32 := Scalar.subi v1158_r0 v1164_r0
  let c256_i32_757_r0 : BitVec 32 := 256#32
  let v1169_r0 : BitVec 32 := Scalar.muli v1165_r0 c256_i32_757_r0
  let v1170_r0 : BitVec 32 := Scalar.addi c5632_i32_758_r0 v1169_r0
  v1170_r0
def k0_mult55 (k0_t1 : Fin k0_t1_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_755_r0 : BitVec 32 := 22#32
  let c22_i32_754_r0 : BitVec 32 := 22#32
  let v1162_r0 : BitVec 1 := Scalar.cmpi .sge v1158_r0 c22_i32_754_r0
  let v1163_r0 : BitVec 32 := Scalar.extui v1162_r0
  let v1164_r0 : BitVec 32 := Scalar.muli c22_i32_755_r0 v1163_r0
  let v1165_r0 : BitVec 32 := Scalar.subi v1158_r0 v1164_r0
  let c128_i32_759_r0 : BitVec 32 := 128#32
  let v1172_r0 : BitVec 32 := Scalar.muli v1165_r0 c128_i32_759_r0
  v1172_r0
def k0_mult56 (k0_t1 : Fin k0_t1_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_755_r0 : BitVec 32 := 22#32
  let c22_i32_754_r0 : BitVec 32 := 22#32
  let v1162_r0 : BitVec 1 := Scalar.cmpi .sge v1158_r0 c22_i32_754_r0
  let v1163_r0 : BitVec 32 := Scalar.extui v1162_r0
  let v1164_r0 : BitVec 32 := Scalar.muli c22_i32_755_r0 v1163_r0
  let v1165_r0 : BitVec 32 := Scalar.subi v1158_r0 v1164_r0
  let c8_i32_760_r0 : BitVec 32 := 8#32
  let v1174_r0 : BitVec 32 := Scalar.muli v1165_r0 c8_i32_760_r0
  v1174_r0
def k0_off16 (k0_t1 : Fin k0_t1_loop.trips) : Fin 1 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c12_i32_r0 : BitVec 32 := 12#32
  let v1166_r0 : BitVec 32 := Scalar.remsi v1158_r0 c12_i32_r0
  ![v1166_r0.toNat]
def k0_off17 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c12_i32_r0 : BitVec 32 := 12#32
  let v1166_r0 : BitVec 32 := Scalar.remsi v1158_r0 c12_i32_r0
  let c0_i32_761_r0 : BitVec 32 := 0#32
  let c0_i32_762_r0 : BitVec 32 := 0#32
  ![v1166_r0.toNat, 0, 0]
def k0_off18 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_754_r0 : BitVec 32 := 22#32
  let v1162_r0 : BitVec 1 := Scalar.cmpi .sge v1158_r0 c22_i32_754_r0
  let v1163_r0 : BitVec 32 := Scalar.extui v1162_r0
  let c0_i32_763_r0 : BitVec 32 := 0#32
  let c22_i32_755_r0 : BitVec 32 := 22#32
  let v1164_r0 : BitVec 32 := Scalar.muli c22_i32_755_r0 v1163_r0
  let v1165_r0 : BitVec 32 := Scalar.subi v1158_r0 v1164_r0
  let c256_i32_756_r0 : BitVec 32 := 256#32
  let v1167_r0 : BitVec 32 := Scalar.muli v1165_r0 c256_i32_756_r0
  let v1168_r0 : BitVec 32 := v1167_r0
  ![v1163_r0.toNat, 0, v1168_r0.toNat]
def k0_off19 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c12_i32_r0 : BitVec 32 := 12#32
  let v1166_r0 : BitVec 32 := Scalar.remsi v1158_r0 c12_i32_r0
  let c0_i32_764_r0 : BitVec 32 := 0#32
  let c256_i32_765_r0 : BitVec 32 := 256#32
  ![v1166_r0.toNat, 0, 256]
def k0_off20 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_754_r0 : BitVec 32 := 22#32
  let v1162_r0 : BitVec 1 := Scalar.cmpi .sge v1158_r0 c22_i32_754_r0
  let v1163_r0 : BitVec 32 := Scalar.extui v1162_r0
  let c0_i32_766_r0 : BitVec 32 := 0#32
  let c5632_i32_758_r0 : BitVec 32 := 5632#32
  let c22_i32_755_r0 : BitVec 32 := 22#32
  let v1164_r0 : BitVec 32 := Scalar.muli c22_i32_755_r0 v1163_r0
  let v1165_r0 : BitVec 32 := Scalar.subi v1158_r0 v1164_r0
  let c256_i32_757_r0 : BitVec 32 := 256#32
  let v1169_r0 : BitVec 32 := Scalar.muli v1165_r0 c256_i32_757_r0
  let v1170_r0 : BitVec 32 := Scalar.addi c5632_i32_758_r0 v1169_r0
  let v1171_r0 : BitVec 32 := v1170_r0
  ![v1163_r0.toNat, 0, v1171_r0.toNat]
def k0_off21 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c12_i32_r0 : BitVec 32 := 12#32
  let v1166_r0 : BitVec 32 := Scalar.remsi v1158_r0 c12_i32_r0
  let c0_i32_767_r0 : BitVec 32 := 0#32
  let c0_i32_768_r0 : BitVec 32 := 0#32
  ![v1166_r0.toNat, 0, 0]
def k0_off22 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_754_r0 : BitVec 32 := 22#32
  let v1162_r0 : BitVec 1 := Scalar.cmpi .sge v1158_r0 c22_i32_754_r0
  let v1163_r0 : BitVec 32 := Scalar.extui v1162_r0
  let c0_i32_769_r0 : BitVec 32 := 0#32
  let c22_i32_755_r0 : BitVec 32 := 22#32
  let v1164_r0 : BitVec 32 := Scalar.muli c22_i32_755_r0 v1163_r0
  let v1165_r0 : BitVec 32 := Scalar.subi v1158_r0 v1164_r0
  let c256_i32_756_r0 : BitVec 32 := 256#32
  let v1167_r0 : BitVec 32 := Scalar.muli v1165_r0 c256_i32_756_r0
  let v1168_r0 : BitVec 32 := v1167_r0
  ![v1163_r0.toNat, 0, v1168_r0.toNat]
def k0_off23 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c12_i32_r0 : BitVec 32 := 12#32
  let v1166_r0 : BitVec 32 := Scalar.remsi v1158_r0 c12_i32_r0
  let c0_i32_770_r0 : BitVec 32 := 0#32
  let c256_i32_771_r0 : BitVec 32 := 256#32
  ![v1166_r0.toNat, 0, 256]
def k0_off24 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_754_r0 : BitVec 32 := 22#32
  let v1162_r0 : BitVec 1 := Scalar.cmpi .sge v1158_r0 c22_i32_754_r0
  let v1163_r0 : BitVec 32 := Scalar.extui v1162_r0
  let c0_i32_772_r0 : BitVec 32 := 0#32
  let c5632_i32_758_r0 : BitVec 32 := 5632#32
  let c22_i32_755_r0 : BitVec 32 := 22#32
  let v1164_r0 : BitVec 32 := Scalar.muli c22_i32_755_r0 v1163_r0
  let v1165_r0 : BitVec 32 := Scalar.subi v1158_r0 v1164_r0
  let c256_i32_757_r0 : BitVec 32 := 256#32
  let v1169_r0 : BitVec 32 := Scalar.muli v1165_r0 c256_i32_757_r0
  let v1170_r0 : BitVec 32 := Scalar.addi c5632_i32_758_r0 v1169_r0
  let v1171_r0 : BitVec 32 := v1170_r0
  ![v1163_r0.toNat, 0, v1171_r0.toNat]
def k0_off25 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c12_i32_r0 : BitVec 32 := 12#32
  let v1166_r0 : BitVec 32 := Scalar.remsi v1158_r0 c12_i32_r0
  let c0_i32_773_r0 : BitVec 32 := 0#32
  let c0_i32_774_r0 : BitVec 32 := 0#32
  ![v1166_r0.toNat, 0, 0]
def k0_off26 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_754_r0 : BitVec 32 := 22#32
  let v1162_r0 : BitVec 1 := Scalar.cmpi .sge v1158_r0 c22_i32_754_r0
  let v1163_r0 : BitVec 32 := Scalar.extui v1162_r0
  let c22_i32_755_r0 : BitVec 32 := 22#32
  let v1164_r0 : BitVec 32 := Scalar.muli c22_i32_755_r0 v1163_r0
  let v1165_r0 : BitVec 32 := Scalar.subi v1158_r0 v1164_r0
  let c128_i32_759_r0 : BitVec 32 := 128#32
  let v1172_r0 : BitVec 32 := Scalar.muli v1165_r0 c128_i32_759_r0
  let v1173_r0 : BitVec 32 := v1172_r0
  let c0_i32_775_r0 : BitVec 32 := 0#32
  ![v1163_r0.toNat, v1173_r0.toNat, 0]
def k0_off27 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c12_i32_r0 : BitVec 32 := 12#32
  let v1166_r0 : BitVec 32 := Scalar.remsi v1158_r0 c12_i32_r0
  let c0_i32_776_r0 : BitVec 32 := 0#32
  let c0_i32_777_r0 : BitVec 32 := 0#32
  ![v1166_r0.toNat, 0, 0]
def k0_off28 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_754_r0 : BitVec 32 := 22#32
  let v1162_r0 : BitVec 1 := Scalar.cmpi .sge v1158_r0 c22_i32_754_r0
  let v1163_r0 : BitVec 32 := Scalar.extui v1162_r0
  let c22_i32_755_r0 : BitVec 32 := 22#32
  let v1164_r0 : BitVec 32 := Scalar.muli c22_i32_755_r0 v1163_r0
  let v1165_r0 : BitVec 32 := Scalar.subi v1158_r0 v1164_r0
  let c8_i32_760_r0 : BitVec 32 := 8#32
  let v1174_r0 : BitVec 32 := Scalar.muli v1165_r0 c8_i32_760_r0
  let v1175_r0 : BitVec 32 := v1174_r0
  let c0_i32_778_r0 : BitVec 32 := 0#32
  ![v1163_r0.toNat, v1175_r0.toNat, 0]
def k0_off29 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c12_i32_779_r0 : BitVec 32 := 12#32
  let v1212_r0 : BitVec 32 := Scalar.remsi v1158_r0 c12_i32_779_r0
  let c0_i32_780_r0 : BitVec 32 := 0#32
  let c0_i32_781_r0 : BitVec 32 := 0#32
  ![v1212_r0.toNat, 0, 0]
def k0_off30 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c12_i32_779_r0 : BitVec 32 := 12#32
  let v1212_r0 : BitVec 32 := Scalar.remsi v1158_r0 c12_i32_779_r0
  let c0_i32_784_r0 : BitVec 32 := 0#32
  let c0_i32_785_r0 : BitVec 32 := 0#32
  ![v1212_r0.toNat, 0, 0]
@[reducible] def k0_t2_loop : Scf.Loop 32 :=
  let c1_i32_980_r0 : BitVec 32 := 1#32
  let c21_i32_r0 : BitVec 32 := 21#32
  let v1597_r0 : BitVec 32 := Scalar.addi c1_i32_980_r0 c21_i32_r0
  let c1_i32_981_r0 : BitVec 32 := 1#32
  ⟨c1_i32_980_r0, v1597_r0, c1_i32_981_r0⟩
def k0_cond2 (k0_t1 : Fin k0_t1_loop.trips) (k0_t2 : Fin k0_t2_loop.trips) : BitVec 1 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c12_i32_1134_r0 : BitVec 32 := 12#32
  let v1927_r0 : BitVec 1 := Scalar.cmpi .sge v1926_r0 c12_i32_1134_r0
  let c44_i32_r0 : BitVec 32 := 44#32
  let v1928_r0 : BitVec 1 := Scalar.cmpi .slt v1926_r0 c44_i32_r0
  let v1929_r0 : BitVec 1 := Scalar.andi v1927_r0 v1928_r0
  let v1930_r0 : BitVec 32 := Scalar.extui v1929_r0
  let c0_i32_1135_r0 : BitVec 32 := 0#32
  let v1931_r0 : BitVec 1 := Scalar.cmpi .ne v1930_r0 c0_i32_1135_r0
  v1931_r0

def k0_mult57 (k0_t1 : Fin k0_t1_loop.trips) (k0_t2 : Fin k0_t2_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c22_i32_1476_r0 : BitVec 32 := 22#32
  let c22_i32_1475_r0 : BitVec 32 := 22#32
  let v2608_r0 : BitVec 1 := Scalar.cmpi .sge v1926_r0 c22_i32_1475_r0
  let v2609_r0 : BitVec 32 := Scalar.extui v2608_r0
  let v2610_r0 : BitVec 32 := Scalar.muli c22_i32_1476_r0 v2609_r0
  let v2611_r0 : BitVec 32 := Scalar.subi v1926_r0 v2610_r0
  let c256_i32_1478_r0 : BitVec 32 := 256#32
  let v2613_r0 : BitVec 32 := Scalar.muli v2611_r0 c256_i32_1478_r0
  v2613_r0
def k0_mult58 (k0_t1 : Fin k0_t1_loop.trips) (k0_t2 : Fin k0_t2_loop.trips) : BitVec 32 :=
  let c5632_i32_1480_r0 : BitVec 32 := 5632#32
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c22_i32_1476_r0 : BitVec 32 := 22#32
  let c22_i32_1475_r0 : BitVec 32 := 22#32
  let v2608_r0 : BitVec 1 := Scalar.cmpi .sge v1926_r0 c22_i32_1475_r0
  let v2609_r0 : BitVec 32 := Scalar.extui v2608_r0
  let v2610_r0 : BitVec 32 := Scalar.muli c22_i32_1476_r0 v2609_r0
  let v2611_r0 : BitVec 32 := Scalar.subi v1926_r0 v2610_r0
  let c256_i32_1479_r0 : BitVec 32 := 256#32
  let v2615_r0 : BitVec 32 := Scalar.muli v2611_r0 c256_i32_1479_r0
  let v2616_r0 : BitVec 32 := Scalar.addi c5632_i32_1480_r0 v2615_r0
  v2616_r0
def k0_mult59 (k0_t1 : Fin k0_t1_loop.trips) (k0_t2 : Fin k0_t2_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c22_i32_1476_r0 : BitVec 32 := 22#32
  let c22_i32_1475_r0 : BitVec 32 := 22#32
  let v2608_r0 : BitVec 1 := Scalar.cmpi .sge v1926_r0 c22_i32_1475_r0
  let v2609_r0 : BitVec 32 := Scalar.extui v2608_r0
  let v2610_r0 : BitVec 32 := Scalar.muli c22_i32_1476_r0 v2609_r0
  let v2611_r0 : BitVec 32 := Scalar.subi v1926_r0 v2610_r0
  let c128_i32_1481_r0 : BitVec 32 := 128#32
  let v2618_r0 : BitVec 32 := Scalar.muli v2611_r0 c128_i32_1481_r0
  v2618_r0
def k0_mult60 (k0_t1 : Fin k0_t1_loop.trips) (k0_t2 : Fin k0_t2_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c22_i32_1476_r0 : BitVec 32 := 22#32
  let c22_i32_1475_r0 : BitVec 32 := 22#32
  let v2608_r0 : BitVec 1 := Scalar.cmpi .sge v1926_r0 c22_i32_1475_r0
  let v2609_r0 : BitVec 32 := Scalar.extui v2608_r0
  let v2610_r0 : BitVec 32 := Scalar.muli c22_i32_1476_r0 v2609_r0
  let v2611_r0 : BitVec 32 := Scalar.subi v1926_r0 v2610_r0
  let c8_i32_1482_r0 : BitVec 32 := 8#32
  let v2620_r0 : BitVec 32 := Scalar.muli v2611_r0 c8_i32_1482_r0
  v2620_r0
def k0_off31 (k0_t1 : Fin k0_t1_loop.trips) (k0_t2 : Fin k0_t2_loop.trips) : Fin 1 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c12_i32_1477_r0 : BitVec 32 := 12#32
  let v2612_r0 : BitVec 32 := Scalar.remsi v1926_r0 c12_i32_1477_r0
  ![v2612_r0.toNat]
def k0_off32 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c12_i32_1477_r0 : BitVec 32 := 12#32
  let v2612_r0 : BitVec 32 := Scalar.remsi v1926_r0 c12_i32_1477_r0
  let c0_i32_1483_r0 : BitVec 32 := 0#32
  let c0_i32_1484_r0 : BitVec 32 := 0#32
  ![v2612_r0.toNat, 0, 0]
def k0_off33 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c22_i32_1475_r0 : BitVec 32 := 22#32
  let v2608_r0 : BitVec 1 := Scalar.cmpi .sge v1926_r0 c22_i32_1475_r0
  let v2609_r0 : BitVec 32 := Scalar.extui v2608_r0
  let c0_i32_1485_r0 : BitVec 32 := 0#32
  let c22_i32_1476_r0 : BitVec 32 := 22#32
  let v2610_r0 : BitVec 32 := Scalar.muli c22_i32_1476_r0 v2609_r0
  let v2611_r0 : BitVec 32 := Scalar.subi v1926_r0 v2610_r0
  let c256_i32_1478_r0 : BitVec 32 := 256#32
  let v2613_r0 : BitVec 32 := Scalar.muli v2611_r0 c256_i32_1478_r0
  let v2614_r0 : BitVec 32 := v2613_r0
  ![v2609_r0.toNat, 0, v2614_r0.toNat]
def k0_off34 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c12_i32_1477_r0 : BitVec 32 := 12#32
  let v2612_r0 : BitVec 32 := Scalar.remsi v1926_r0 c12_i32_1477_r0
  let c0_i32_1486_r0 : BitVec 32 := 0#32
  let c256_i32_1487_r0 : BitVec 32 := 256#32
  ![v2612_r0.toNat, 0, 256]
def k0_off35 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c22_i32_1475_r0 : BitVec 32 := 22#32
  let v2608_r0 : BitVec 1 := Scalar.cmpi .sge v1926_r0 c22_i32_1475_r0
  let v2609_r0 : BitVec 32 := Scalar.extui v2608_r0
  let c0_i32_1488_r0 : BitVec 32 := 0#32
  let c5632_i32_1480_r0 : BitVec 32 := 5632#32
  let c22_i32_1476_r0 : BitVec 32 := 22#32
  let v2610_r0 : BitVec 32 := Scalar.muli c22_i32_1476_r0 v2609_r0
  let v2611_r0 : BitVec 32 := Scalar.subi v1926_r0 v2610_r0
  let c256_i32_1479_r0 : BitVec 32 := 256#32
  let v2615_r0 : BitVec 32 := Scalar.muli v2611_r0 c256_i32_1479_r0
  let v2616_r0 : BitVec 32 := Scalar.addi c5632_i32_1480_r0 v2615_r0
  let v2617_r0 : BitVec 32 := v2616_r0
  ![v2609_r0.toNat, 0, v2617_r0.toNat]
def k0_off36 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c12_i32_1477_r0 : BitVec 32 := 12#32
  let v2612_r0 : BitVec 32 := Scalar.remsi v1926_r0 c12_i32_1477_r0
  let c0_i32_1489_r0 : BitVec 32 := 0#32
  let c0_i32_1490_r0 : BitVec 32 := 0#32
  ![v2612_r0.toNat, 0, 0]
def k0_off37 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c22_i32_1475_r0 : BitVec 32 := 22#32
  let v2608_r0 : BitVec 1 := Scalar.cmpi .sge v1926_r0 c22_i32_1475_r0
  let v2609_r0 : BitVec 32 := Scalar.extui v2608_r0
  let c0_i32_1491_r0 : BitVec 32 := 0#32
  let c22_i32_1476_r0 : BitVec 32 := 22#32
  let v2610_r0 : BitVec 32 := Scalar.muli c22_i32_1476_r0 v2609_r0
  let v2611_r0 : BitVec 32 := Scalar.subi v1926_r0 v2610_r0
  let c256_i32_1478_r0 : BitVec 32 := 256#32
  let v2613_r0 : BitVec 32 := Scalar.muli v2611_r0 c256_i32_1478_r0
  let v2614_r0 : BitVec 32 := v2613_r0
  ![v2609_r0.toNat, 0, v2614_r0.toNat]
def k0_off38 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c12_i32_1477_r0 : BitVec 32 := 12#32
  let v2612_r0 : BitVec 32 := Scalar.remsi v1926_r0 c12_i32_1477_r0
  let c0_i32_1492_r0 : BitVec 32 := 0#32
  let c256_i32_1493_r0 : BitVec 32 := 256#32
  ![v2612_r0.toNat, 0, 256]
def k0_off39 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c22_i32_1475_r0 : BitVec 32 := 22#32
  let v2608_r0 : BitVec 1 := Scalar.cmpi .sge v1926_r0 c22_i32_1475_r0
  let v2609_r0 : BitVec 32 := Scalar.extui v2608_r0
  let c0_i32_1494_r0 : BitVec 32 := 0#32
  let c5632_i32_1480_r0 : BitVec 32 := 5632#32
  let c22_i32_1476_r0 : BitVec 32 := 22#32
  let v2610_r0 : BitVec 32 := Scalar.muli c22_i32_1476_r0 v2609_r0
  let v2611_r0 : BitVec 32 := Scalar.subi v1926_r0 v2610_r0
  let c256_i32_1479_r0 : BitVec 32 := 256#32
  let v2615_r0 : BitVec 32 := Scalar.muli v2611_r0 c256_i32_1479_r0
  let v2616_r0 : BitVec 32 := Scalar.addi c5632_i32_1480_r0 v2615_r0
  let v2617_r0 : BitVec 32 := v2616_r0
  ![v2609_r0.toNat, 0, v2617_r0.toNat]
def k0_off40 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c12_i32_1477_r0 : BitVec 32 := 12#32
  let v2612_r0 : BitVec 32 := Scalar.remsi v1926_r0 c12_i32_1477_r0
  let c0_i32_1495_r0 : BitVec 32 := 0#32
  let c0_i32_1496_r0 : BitVec 32 := 0#32
  ![v2612_r0.toNat, 0, 0]
def k0_off41 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c22_i32_1475_r0 : BitVec 32 := 22#32
  let v2608_r0 : BitVec 1 := Scalar.cmpi .sge v1926_r0 c22_i32_1475_r0
  let v2609_r0 : BitVec 32 := Scalar.extui v2608_r0
  let c22_i32_1476_r0 : BitVec 32 := 22#32
  let v2610_r0 : BitVec 32 := Scalar.muli c22_i32_1476_r0 v2609_r0
  let v2611_r0 : BitVec 32 := Scalar.subi v1926_r0 v2610_r0
  let c128_i32_1481_r0 : BitVec 32 := 128#32
  let v2618_r0 : BitVec 32 := Scalar.muli v2611_r0 c128_i32_1481_r0
  let v2619_r0 : BitVec 32 := v2618_r0
  let c0_i32_1497_r0 : BitVec 32 := 0#32
  ![v2609_r0.toNat, v2619_r0.toNat, 0]
def k0_off42 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c12_i32_1477_r0 : BitVec 32 := 12#32
  let v2612_r0 : BitVec 32 := Scalar.remsi v1926_r0 c12_i32_1477_r0
  let c0_i32_1498_r0 : BitVec 32 := 0#32
  let c0_i32_1499_r0 : BitVec 32 := 0#32
  ![v2612_r0.toNat, 0, 0]
def k0_off43 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c10_i32_1133_r0 : BitVec 32 := 10#32
  let v1926_r0 : BitVec 32 := Scalar.addi v1925_r0 c10_i32_1133_r0
  let c22_i32_1475_r0 : BitVec 32 := 22#32
  let v2608_r0 : BitVec 1 := Scalar.cmpi .sge v1926_r0 c22_i32_1475_r0
  let v2609_r0 : BitVec 32 := Scalar.extui v2608_r0
  let c22_i32_1476_r0 : BitVec 32 := 22#32
  let v2610_r0 : BitVec 32 := Scalar.muli c22_i32_1476_r0 v2609_r0
  let v2611_r0 : BitVec 32 := Scalar.subi v1926_r0 v2610_r0
  let c8_i32_1482_r0 : BitVec 32 := 8#32
  let v2620_r0 : BitVec 32 := Scalar.muli v2611_r0 c8_i32_1482_r0
  let v2621_r0 : BitVec 32 := v2620_r0
  let c0_i32_1500_r0 : BitVec 32 := 0#32
  ![v2609_r0.toNat, v2621_r0.toNat, 0]
def k0_mult61 (k0_t1 : Fin k0_t1_loop.trips) (k0_t2 : Fin k0_t2_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c22_i32_1137_r0 : BitVec 32 := 22#32
  let c22_i32_1136_r0 : BitVec 32 := 22#32
  let v1932_r0 : BitVec 1 := Scalar.cmpi .sge v1925_r0 c22_i32_1136_r0
  let v1933_r0 : BitVec 32 := Scalar.extui v1932_r0
  let v1934_r0 : BitVec 32 := Scalar.muli c22_i32_1137_r0 v1933_r0
  let v1935_r0 : BitVec 32 := Scalar.subi v1925_r0 v1934_r0
  let c256_i32_1139_r0 : BitVec 32 := 256#32
  let v1937_r0 : BitVec 32 := Scalar.muli v1935_r0 c256_i32_1139_r0
  v1937_r0
def k0_mult62 (k0_t1 : Fin k0_t1_loop.trips) (k0_t2 : Fin k0_t2_loop.trips) : BitVec 32 :=
  let c5632_i32_1141_r0 : BitVec 32 := 5632#32
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c22_i32_1137_r0 : BitVec 32 := 22#32
  let c22_i32_1136_r0 : BitVec 32 := 22#32
  let v1932_r0 : BitVec 1 := Scalar.cmpi .sge v1925_r0 c22_i32_1136_r0
  let v1933_r0 : BitVec 32 := Scalar.extui v1932_r0
  let v1934_r0 : BitVec 32 := Scalar.muli c22_i32_1137_r0 v1933_r0
  let v1935_r0 : BitVec 32 := Scalar.subi v1925_r0 v1934_r0
  let c256_i32_1140_r0 : BitVec 32 := 256#32
  let v1939_r0 : BitVec 32 := Scalar.muli v1935_r0 c256_i32_1140_r0
  let v1940_r0 : BitVec 32 := Scalar.addi c5632_i32_1141_r0 v1939_r0
  v1940_r0
def k0_mult63 (k0_t1 : Fin k0_t1_loop.trips) (k0_t2 : Fin k0_t2_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c22_i32_1137_r0 : BitVec 32 := 22#32
  let c22_i32_1136_r0 : BitVec 32 := 22#32
  let v1932_r0 : BitVec 1 := Scalar.cmpi .sge v1925_r0 c22_i32_1136_r0
  let v1933_r0 : BitVec 32 := Scalar.extui v1932_r0
  let v1934_r0 : BitVec 32 := Scalar.muli c22_i32_1137_r0 v1933_r0
  let v1935_r0 : BitVec 32 := Scalar.subi v1925_r0 v1934_r0
  let c128_i32_1142_r0 : BitVec 32 := 128#32
  let v1942_r0 : BitVec 32 := Scalar.muli v1935_r0 c128_i32_1142_r0
  v1942_r0
def k0_mult64 (k0_t1 : Fin k0_t1_loop.trips) (k0_t2 : Fin k0_t2_loop.trips) : BitVec 32 :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c22_i32_1137_r0 : BitVec 32 := 22#32
  let c22_i32_1136_r0 : BitVec 32 := 22#32
  let v1932_r0 : BitVec 1 := Scalar.cmpi .sge v1925_r0 c22_i32_1136_r0
  let v1933_r0 : BitVec 32 := Scalar.extui v1932_r0
  let v1934_r0 : BitVec 32 := Scalar.muli c22_i32_1137_r0 v1933_r0
  let v1935_r0 : BitVec 32 := Scalar.subi v1925_r0 v1934_r0
  let c8_i32_1143_r0 : BitVec 32 := 8#32
  let v1944_r0 : BitVec 32 := Scalar.muli v1935_r0 c8_i32_1143_r0
  v1944_r0
def k0_off44 (k0_t1 : Fin k0_t1_loop.trips) (k0_t2 : Fin k0_t2_loop.trips) : Fin 1 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c12_i32_1138_r0 : BitVec 32 := 12#32
  let v1936_r0 : BitVec 32 := Scalar.remsi v1925_r0 c12_i32_1138_r0
  ![v1936_r0.toNat]
def k0_off45 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c12_i32_1138_r0 : BitVec 32 := 12#32
  let v1936_r0 : BitVec 32 := Scalar.remsi v1925_r0 c12_i32_1138_r0
  let c0_i32_1144_r0 : BitVec 32 := 0#32
  let c0_i32_1145_r0 : BitVec 32 := 0#32
  ![v1936_r0.toNat, 0, 0]
def k0_off46 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c22_i32_1136_r0 : BitVec 32 := 22#32
  let v1932_r0 : BitVec 1 := Scalar.cmpi .sge v1925_r0 c22_i32_1136_r0
  let v1933_r0 : BitVec 32 := Scalar.extui v1932_r0
  let c0_i32_1146_r0 : BitVec 32 := 0#32
  let c22_i32_1137_r0 : BitVec 32 := 22#32
  let v1934_r0 : BitVec 32 := Scalar.muli c22_i32_1137_r0 v1933_r0
  let v1935_r0 : BitVec 32 := Scalar.subi v1925_r0 v1934_r0
  let c256_i32_1139_r0 : BitVec 32 := 256#32
  let v1937_r0 : BitVec 32 := Scalar.muli v1935_r0 c256_i32_1139_r0
  let v1938_r0 : BitVec 32 := v1937_r0
  ![v1933_r0.toNat, 0, v1938_r0.toNat]
def k0_off47 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c12_i32_1138_r0 : BitVec 32 := 12#32
  let v1936_r0 : BitVec 32 := Scalar.remsi v1925_r0 c12_i32_1138_r0
  let c0_i32_1147_r0 : BitVec 32 := 0#32
  let c256_i32_1148_r0 : BitVec 32 := 256#32
  ![v1936_r0.toNat, 0, 256]
def k0_off48 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c22_i32_1136_r0 : BitVec 32 := 22#32
  let v1932_r0 : BitVec 1 := Scalar.cmpi .sge v1925_r0 c22_i32_1136_r0
  let v1933_r0 : BitVec 32 := Scalar.extui v1932_r0
  let c0_i32_1149_r0 : BitVec 32 := 0#32
  let c5632_i32_1141_r0 : BitVec 32 := 5632#32
  let c22_i32_1137_r0 : BitVec 32 := 22#32
  let v1934_r0 : BitVec 32 := Scalar.muli c22_i32_1137_r0 v1933_r0
  let v1935_r0 : BitVec 32 := Scalar.subi v1925_r0 v1934_r0
  let c256_i32_1140_r0 : BitVec 32 := 256#32
  let v1939_r0 : BitVec 32 := Scalar.muli v1935_r0 c256_i32_1140_r0
  let v1940_r0 : BitVec 32 := Scalar.addi c5632_i32_1141_r0 v1939_r0
  let v1941_r0 : BitVec 32 := v1940_r0
  ![v1933_r0.toNat, 0, v1941_r0.toNat]
def k0_off49 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c12_i32_1138_r0 : BitVec 32 := 12#32
  let v1936_r0 : BitVec 32 := Scalar.remsi v1925_r0 c12_i32_1138_r0
  let c0_i32_1150_r0 : BitVec 32 := 0#32
  let c0_i32_1151_r0 : BitVec 32 := 0#32
  ![v1936_r0.toNat, 0, 0]
def k0_off50 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c22_i32_1136_r0 : BitVec 32 := 22#32
  let v1932_r0 : BitVec 1 := Scalar.cmpi .sge v1925_r0 c22_i32_1136_r0
  let v1933_r0 : BitVec 32 := Scalar.extui v1932_r0
  let c0_i32_1152_r0 : BitVec 32 := 0#32
  let c22_i32_1137_r0 : BitVec 32 := 22#32
  let v1934_r0 : BitVec 32 := Scalar.muli c22_i32_1137_r0 v1933_r0
  let v1935_r0 : BitVec 32 := Scalar.subi v1925_r0 v1934_r0
  let c256_i32_1139_r0 : BitVec 32 := 256#32
  let v1937_r0 : BitVec 32 := Scalar.muli v1935_r0 c256_i32_1139_r0
  let v1938_r0 : BitVec 32 := v1937_r0
  ![v1933_r0.toNat, 0, v1938_r0.toNat]
def k0_off51 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c12_i32_1138_r0 : BitVec 32 := 12#32
  let v1936_r0 : BitVec 32 := Scalar.remsi v1925_r0 c12_i32_1138_r0
  let c0_i32_1153_r0 : BitVec 32 := 0#32
  let c256_i32_1154_r0 : BitVec 32 := 256#32
  ![v1936_r0.toNat, 0, 256]
def k0_off52 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c22_i32_1136_r0 : BitVec 32 := 22#32
  let v1932_r0 : BitVec 1 := Scalar.cmpi .sge v1925_r0 c22_i32_1136_r0
  let v1933_r0 : BitVec 32 := Scalar.extui v1932_r0
  let c0_i32_1155_r0 : BitVec 32 := 0#32
  let c5632_i32_1141_r0 : BitVec 32 := 5632#32
  let c22_i32_1137_r0 : BitVec 32 := 22#32
  let v1934_r0 : BitVec 32 := Scalar.muli c22_i32_1137_r0 v1933_r0
  let v1935_r0 : BitVec 32 := Scalar.subi v1925_r0 v1934_r0
  let c256_i32_1140_r0 : BitVec 32 := 256#32
  let v1939_r0 : BitVec 32 := Scalar.muli v1935_r0 c256_i32_1140_r0
  let v1940_r0 : BitVec 32 := Scalar.addi c5632_i32_1141_r0 v1939_r0
  let v1941_r0 : BitVec 32 := v1940_r0
  ![v1933_r0.toNat, 0, v1941_r0.toNat]
def k0_off53 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c12_i32_1138_r0 : BitVec 32 := 12#32
  let v1936_r0 : BitVec 32 := Scalar.remsi v1925_r0 c12_i32_1138_r0
  let c0_i32_1156_r0 : BitVec 32 := 0#32
  let c0_i32_1157_r0 : BitVec 32 := 0#32
  ![v1936_r0.toNat, 0, 0]
def k0_off54 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c22_i32_1136_r0 : BitVec 32 := 22#32
  let v1932_r0 : BitVec 1 := Scalar.cmpi .sge v1925_r0 c22_i32_1136_r0
  let v1933_r0 : BitVec 32 := Scalar.extui v1932_r0
  let c22_i32_1137_r0 : BitVec 32 := 22#32
  let v1934_r0 : BitVec 32 := Scalar.muli c22_i32_1137_r0 v1933_r0
  let v1935_r0 : BitVec 32 := Scalar.subi v1925_r0 v1934_r0
  let c128_i32_1142_r0 : BitVec 32 := 128#32
  let v1942_r0 : BitVec 32 := Scalar.muli v1935_r0 c128_i32_1142_r0
  let v1943_r0 : BitVec 32 := v1942_r0
  let c0_i32_1158_r0 : BitVec 32 := 0#32
  ![v1933_r0.toNat, v1943_r0.toNat, 0]
def k0_off55 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c12_i32_1138_r0 : BitVec 32 := 12#32
  let v1936_r0 : BitVec 32 := Scalar.remsi v1925_r0 c12_i32_1138_r0
  let c0_i32_1159_r0 : BitVec 32 := 0#32
  let c0_i32_1160_r0 : BitVec 32 := 0#32
  ![v1936_r0.toNat, 0, 0]
def k0_off56 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c22_i32_1136_r0 : BitVec 32 := 22#32
  let v1932_r0 : BitVec 1 := Scalar.cmpi .sge v1925_r0 c22_i32_1136_r0
  let v1933_r0 : BitVec 32 := Scalar.extui v1932_r0
  let c22_i32_1137_r0 : BitVec 32 := 22#32
  let v1934_r0 : BitVec 32 := Scalar.muli c22_i32_1137_r0 v1933_r0
  let v1935_r0 : BitVec 32 := Scalar.subi v1925_r0 v1934_r0
  let c8_i32_1143_r0 : BitVec 32 := 8#32
  let v1944_r0 : BitVec 32 := Scalar.muli v1935_r0 c8_i32_1143_r0
  let v1945_r0 : BitVec 32 := v1944_r0
  let c0_i32_1161_r0 : BitVec 32 := 0#32
  ![v1933_r0.toNat, v1945_r0.toNat, 0]
def k0_off57 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c12_i32_1176_r0 : BitVec 32 := 12#32
  let v2037_r0 : BitVec 32 := Scalar.remsi v1925_r0 c12_i32_1176_r0
  let c0_i32_1179_r0 : BitVec 32 := 0#32
  let c0_i32_1180_r0 : BitVec 32 := 0#32
  ![v2037_r0.toNat, 0, 0]
def k0_off58 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c12_i32_1176_r0 : BitVec 32 := 12#32
  let v2037_r0 : BitVec 32 := Scalar.remsi v1925_r0 c12_i32_1176_r0
  let c0_i32_1183_r0 : BitVec 32 := 0#32
  let c0_i32_1184_r0 : BitVec 32 := 0#32
  ![v2037_r0.toNat, 0, 0]
def k0_off59 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c1_i32_1177_r0 : BitVec 32 := 1#32
  let v2038_r0 : BitVec 32 := Scalar.subi v1925_r0 c1_i32_1177_r0
  let c12_i32_1178_r0 : BitVec 32 := 12#32
  let v2039_r0 : BitVec 32 := Scalar.remsi v2038_r0 c12_i32_1178_r0
  let c0_i32_1383_r0 : BitVec 32 := 0#32
  let c0_i32_1384_r0 : BitVec 32 := 0#32
  ![v2039_r0.toNat, 0, 0]
def k0_off60 (k0_t1 : Fin k0_t1_loop.trips) (k0_t2 : Fin k0_t2_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c1_i32_980_r0 : BitVec 32 := 1#32
  let c1_i32_981_r0 : BitVec 32 := 1#32
  let arg15_r0 : BitVec 32 := Scf.iv c1_i32_980_r0 c1_i32_981_r0 k0_t2
  let v1925_r0 : BitVec 32 := Scalar.addi v1158_r0 arg15_r0
  let c1_i32_1177_r0 : BitVec 32 := 1#32
  let v2038_r0 : BitVec 32 := Scalar.subi v1925_r0 c1_i32_1177_r0
  let c12_i32_1178_r0 : BitVec 32 := 12#32
  let v2039_r0 : BitVec 32 := Scalar.remsi v2038_r0 c12_i32_1178_r0
  let c0_i32_1387_r0 : BitVec 32 := 0#32
  let c0_i32_1388_r0 : BitVec 32 := 0#32
  ![v2039_r0.toNat, 0, 0]
def k0_off61 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_983_r0 : BitVec 32 := 22#32
  let v1598_r0 : BitVec 32 := Scalar.addi v1158_r0 c22_i32_983_r0
  let c1_i32_984_r0 : BitVec 32 := 1#32
  let v1599_r0 : BitVec 32 := Scalar.subi v1598_r0 c1_i32_984_r0
  let c12_i32_999_r0 : BitVec 32 := 12#32
  let v1655_r0 : BitVec 32 := Scalar.remsi v1599_r0 c12_i32_999_r0
  let c0_i32_1000_r0 : BitVec 32 := 0#32
  let c0_i32_1001_r0 : BitVec 32 := 0#32
  ![v1655_r0.toNat, 0, 0]
def k0_off62 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c22_i32_r0 : BitVec 32 := 22#32
  let v1158_r0 : BitVec 32 := Scalar.muli arg14_r0 c22_i32_r0
  let c22_i32_983_r0 : BitVec 32 := 22#32
  let v1598_r0 : BitVec 32 := Scalar.addi v1158_r0 c22_i32_983_r0
  let c1_i32_984_r0 : BitVec 32 := 1#32
  let v1599_r0 : BitVec 32 := Scalar.subi v1598_r0 c1_i32_984_r0
  let c12_i32_999_r0 : BitVec 32 := 12#32
  let v1655_r0 : BitVec 32 := Scalar.remsi v1599_r0 c12_i32_999_r0
  let c0_i32_1004_r0 : BitVec 32 := 0#32
  let c0_i32_1005_r0 : BitVec 32 := 0#32
  ![v1655_r0.toNat, 0, 0]
def k0_off63 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let v1840_r0 : Index := Scalar.indexCast arg14_r0
  let c0_1088_r0 : Index := 0#32
  let c0_1089_r0 : Index := 0#32
  ![v1840_r0.toNat, 0, 0]
def k0_off64 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c1_i32_1090_r0 : BitVec 32 := 1#32
  let v1845_r0 : BitVec 32 := Scalar.addi arg14_r0 c1_i32_1090_r0
  let v1846_r0 : Index := Scalar.indexCast v1845_r0
  let c0_1091_r0 : Index := 0#32
  let c0_1092_r0 : Index := 0#32
  ![v1846_r0.toNat, 0, 0]
def k0_off65 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let v1850_r0 : Index := Scalar.indexCast arg14_r0
  let c0_1093_r0 : Index := 0#32
  let c256_1094_r0 : Index := 256#32
  ![v1850_r0.toNat, 0, 256]
def k0_off66 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c1_i32_1095_r0 : BitVec 32 := 1#32
  let v1855_r0 : BitVec 32 := Scalar.addi arg14_r0 c1_i32_1095_r0
  let v1856_r0 : Index := Scalar.indexCast v1855_r0
  let c0_1096_r0 : Index := 0#32
  let c256_1097_r0 : Index := 256#32
  ![v1856_r0.toNat, 0, 256]
def k0_off67 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let v1860_r0 : Index := Scalar.indexCast arg14_r0
  let c0_1098_r0 : Index := 0#32
  let c512_1099_r0 : Index := 512#32
  ![v1860_r0.toNat, 0, 512]
def k0_off68 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c1_i32_1100_r0 : BitVec 32 := 1#32
  let v1865_r0 : BitVec 32 := Scalar.addi arg14_r0 c1_i32_1100_r0
  let v1866_r0 : Index := Scalar.indexCast v1865_r0
  let c0_1101_r0 : Index := 0#32
  let c512_1102_r0 : Index := 512#32
  ![v1866_r0.toNat, 0, 512]
def k0_off69 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let v1870_r0 : Index := Scalar.indexCast arg14_r0
  let c0_1103_r0 : Index := 0#32
  let c768_1104_r0 : Index := 768#32
  ![v1870_r0.toNat, 0, 768]
def k0_off70 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c1_i32_1105_r0 : BitVec 32 := 1#32
  let v1875_r0 : BitVec 32 := Scalar.addi arg14_r0 c1_i32_1105_r0
  let v1876_r0 : Index := Scalar.indexCast v1875_r0
  let c0_1106_r0 : Index := 0#32
  let c768_1107_r0 : Index := 768#32
  ![v1876_r0.toNat, 0, 768]
def k0_off71 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let v1880_r0 : Index := Scalar.indexCast arg14_r0
  let c0_1108_r0 : Index := 0#32
  let c1024_1109_r0 : Index := 1024#32
  ![v1880_r0.toNat, 0, 1024]
def k0_off72 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c1_i32_1110_r0 : BitVec 32 := 1#32
  let v1885_r0 : BitVec 32 := Scalar.addi arg14_r0 c1_i32_1110_r0
  let v1886_r0 : Index := Scalar.indexCast v1885_r0
  let c0_1111_r0 : Index := 0#32
  let c1024_1112_r0 : Index := 1024#32
  ![v1886_r0.toNat, 0, 1024]
def k0_off73 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let v1890_r0 : Index := Scalar.indexCast arg14_r0
  let c0_1113_r0 : Index := 0#32
  let c1280_1114_r0 : Index := 1280#32
  ![v1890_r0.toNat, 0, 1280]
def k0_off74 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c1_i32_1115_r0 : BitVec 32 := 1#32
  let v1895_r0 : BitVec 32 := Scalar.addi arg14_r0 c1_i32_1115_r0
  let v1896_r0 : Index := Scalar.indexCast v1895_r0
  let c0_1116_r0 : Index := 0#32
  let c1280_1117_r0 : Index := 1280#32
  ![v1896_r0.toNat, 0, 1280]
def k0_off75 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let v1900_r0 : Index := Scalar.indexCast arg14_r0
  let c0_1118_r0 : Index := 0#32
  let c1536_1119_r0 : Index := 1536#32
  ![v1900_r0.toNat, 0, 1536]
def k0_off76 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c1_i32_1120_r0 : BitVec 32 := 1#32
  let v1905_r0 : BitVec 32 := Scalar.addi arg14_r0 c1_i32_1120_r0
  let v1906_r0 : Index := Scalar.indexCast v1905_r0
  let c0_1121_r0 : Index := 0#32
  let c1536_1122_r0 : Index := 1536#32
  ![v1906_r0.toNat, 0, 1536]
def k0_off77 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let v1910_r0 : Index := Scalar.indexCast arg14_r0
  let c0_1123_r0 : Index := 0#32
  let c1792_1124_r0 : Index := 1792#32
  ![v1910_r0.toNat, 0, 1792]
def k0_off78 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c1_i32_1125_r0 : BitVec 32 := 1#32
  let v1915_r0 : BitVec 32 := Scalar.addi arg14_r0 c1_i32_1125_r0
  let v1916_r0 : Index := Scalar.indexCast v1915_r0
  let c0_1126_r0 : Index := 0#32
  let c1792_1127_r0 : Index := 1792#32
  ![v1916_r0.toNat, 0, 1792]
def k0_off79 (k0_t1 : Fin k0_t1_loop.trips) : Fin 3 → Nat :=
  let c0_i32_430_r0 : BitVec 32 := 0#32
  let c1_i32_432_r0 : BitVec 32 := 1#32
  let arg14_r0 : BitVec 32 := Scf.iv c0_i32_430_r0 c1_i32_432_r0 k0_t1
  let c1_i32_1128_r0 : BitVec 32 := 1#32
  let v1920_r0 : BitVec 32 := Scalar.addi arg14_r0 c1_i32_1128_r0
  let c0_i32_1131_r0 : BitVec 32 := 0#32
  let c0_i32_1132_r0 : BitVec 32 := 0#32
  ![v1920_r0.toNat, 0, 0]
abbrev stage0_0 : Fin 1 → Memref sig .tc .vmem S2x80x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x80x2048 : Shape := ⟨3, ![2, 80, 2048]⟩
abbrev S2x2048 : Shape := ⟨2, ![2, 2048]⟩
abbrev S2x1024x11264 : Shape := ⟨3, ![2, 1024, 11264]⟩
abbrev S2x64x11264 : Shape := ⟨3, ![2, 64, 11264]⟩
abbrev S2x2816x2048 : Shape := ⟨3, ![2, 2816, 2048]⟩
abbrev S2x176x2048 : Shape := ⟨3, ![2, 176, 2048]⟩
abbrev S1x80x2048 : Shape := ⟨3, ![1, 80, 2048]⟩
abbrev S80x2048 : Shape := ⟨2, ![80, 2048]⟩
abbrev S1x2048 : Shape := ⟨2, ![1, 2048]⟩
abbrev S2048 : Shape := ⟨1, ![2048]⟩
abbrev S_ : Shape := ⟨0, ![]⟩
abbrev S80 : Shape := ⟨1, ![80]⟩
abbrev S80x1 : Shape := ⟨2, ![80, 1]⟩
abbrev S1x1024x11264 : Shape := ⟨3, ![1, 1024, 11264]⟩
abbrev S1024x11264 : Shape := ⟨2, ![1024, 11264]⟩
abbrev S1x64x11264 : Shape := ⟨3, ![1, 64, 11264]⟩
abbrev S64x11264 : Shape := ⟨2, ![64, 11264]⟩
abbrev S80x64x2x16 : Shape := ⟨4, ![80, 64, 2, 16]⟩
abbrev S80x64x1x16 : Shape := ⟨4, ![80, 64, 1, 16]⟩
abbrev S80x64x16 : Shape := ⟨3, ![80, 64, 16]⟩
abbrev S80x1024 : Shape := ⟨2, ![80, 1024]⟩
abbrev S64x16x11264 : Shape := ⟨3, ![64, 16, 11264]⟩
abbrev S64x1x11264 : Shape := ⟨3, ![64, 1, 11264]⟩
abbrev S80x11264 : Shape := ⟨2, ![80, 11264]⟩
abbrev S80x5632 : Shape := ⟨2, ![80, 5632]⟩
abbrev S1x2816x2048 : Shape := ⟨3, ![1, 2816, 2048]⟩
abbrev S2816x2048 : Shape := ⟨2, ![2816, 2048]⟩
abbrev S1x176x2048 : Shape := ⟨3, ![1, 176, 2048]⟩
abbrev S176x2048 : Shape := ⟨2, ![176, 2048]⟩
abbrev S80x176x2x16 : Shape := ⟨4, ![80, 176, 2, 16]⟩
abbrev S80x176x1x16 : Shape := ⟨4, ![80, 176, 1, 16]⟩
abbrev S80x176x16 : Shape := ⟨3, ![80, 176, 16]⟩
abbrev S80x2816 : Shape := ⟨2, ![80, 2816]⟩
abbrev S176x16x2048 : Shape := ⟨3, ![176, 16, 2048]⟩
abbrev S176x1x2048 : Shape := ⟨3, ![176, 1, 2048]⟩

abbrev nBuf : Space → Nat
  | .hbm => 239
  | .vmem => 0
  | .smem => 0
  | _ => 0

abbrev hbmTy0_0 (i : Nat) : BufTy := match i % 128 with
  | 0 => ⟨S2x80x2048, .f32⟩
  | 1 => ⟨S2x2048, .f32⟩
  | 2 => ⟨S2x1024x11264, .i8⟩
  | 3 => ⟨S2x64x11264, .bf16⟩
  | 4 => ⟨S2x2816x2048, .i8⟩
  | 5 => ⟨S2x176x2048, .bf16⟩
  | 6 => ⟨S1x80x2048, .f32⟩
  | 7 => ⟨S80x2048, .f32⟩
  | 8 => ⟨S1x2048, .f32⟩
  | 9 => ⟨S2048, .f32⟩
  | 10 => ⟨S80x2048, .f32⟩
  | 11 => ⟨S_, .f32⟩
  | 12 => ⟨S80, .f32⟩
  | 13 => ⟨S80x1, .f32⟩
  | 14 => ⟨S_, .f32⟩
  | 15 => ⟨S80x1, .f32⟩
  | 16 => ⟨S80x1, .f32⟩
  | 17 => ⟨S_, .f32⟩
  | 18 => ⟨S80x1, .f32⟩
  | 19 => ⟨S80x1, .f32⟩
  | 20 => ⟨S80x1, .f32⟩
  | 21 => ⟨S80x2048, .f32⟩
  | 22 => ⟨S80x2048, .f32⟩
  | 23 => ⟨S1x2048, .f32⟩
  | 24 => ⟨S80x2048, .f32⟩
  | 25 => ⟨S80x2048, .f32⟩
  | 26 => ⟨S80x2048, .bf16⟩
  | 27 => ⟨S1x1024x11264, .i8⟩
  | 28 => ⟨S1024x11264, .i8⟩
  | 29 => ⟨S1x64x11264, .bf16⟩
  | 30 => ⟨S64x11264, .bf16⟩
  | 31 => ⟨S1024x11264, .i32⟩
  | 32 => ⟨S80x64x2x16, .bf16⟩
  | 33 => ⟨S80x64x1x16, .bf16⟩
  | 34 => ⟨S80x64x16, .bf16⟩
  | 35 => ⟨S80x1024, .bf16⟩
  | 36 => ⟨S80x64x1x16, .bf16⟩
  | 37 => ⟨S80x64x16, .bf16⟩
  | 38 => ⟨S80x1024, .bf16⟩
  | 39 => ⟨S_, .i32⟩
  | 40 => ⟨S1024x11264, .i32⟩
  | 41 => ⟨S1024x11264, .i32⟩
  | 42 => ⟨S_, .i32⟩
  | 43 => ⟨S1024x11264, .i32⟩
  | 44 => ⟨S1024x11264, .i32⟩
  | 45 => ⟨S1024x11264, .bf16⟩
  | 46 => ⟨S64x16x11264, .bf16⟩
  | 47 => ⟨S64x1x11264, .bf16⟩
  | 48 => ⟨S64x16x11264, .bf16⟩
  | 49 => ⟨S64x16x11264, .bf16⟩
  | 50 => ⟨S1024x11264, .bf16⟩
  | 51 => ⟨S80x11264, .f32⟩
  | 52 => ⟨S_, .i32⟩
  | 53 => ⟨S1024x11264, .i32⟩
  | 54 => ⟨S1024x11264, .i32⟩
  | 55 => ⟨S_, .i32⟩
  | 56 => ⟨S1024x11264, .i32⟩
  | 57 => ⟨S1024x11264, .i32⟩
  | 58 => ⟨S1024x11264, .bf16⟩
  | 59 => ⟨S64x16x11264, .bf16⟩
  | 60 => ⟨S64x1x11264, .bf16⟩
  | 61 => ⟨S64x16x11264, .bf16⟩
  | 62 => ⟨S64x16x11264, .bf16⟩
  | 63 => ⟨S1024x11264, .bf16⟩
  | 64 => ⟨S80x11264, .f32⟩
  | 65 => ⟨S80x11264, .f32⟩
  | 66 => ⟨S80x5632, .f32⟩
  | 67 => ⟨S80x5632, .f32⟩
  | 68 => ⟨S80x5632, .f32⟩
  | 69 => ⟨S80x5632, .f32⟩
  | 70 => ⟨S_, .f32⟩
  | 71 => ⟨S80x5632, .f32⟩
  | 72 => ⟨S80x5632, .f32⟩
  | 73 => ⟨S_, .f32⟩
  | 74 => ⟨S80x5632, .f32⟩
  | 75 => ⟨S80x5632, .f32⟩
  | 76 => ⟨S80x5632, .f32⟩
  | 77 => ⟨S80x5632, .f32⟩
  | 78 => ⟨S80x5632, .bf16⟩
  | 79 => ⟨S1x80x2048, .f32⟩
  | 80 => ⟨S80x2048, .f32⟩
  | 81 => ⟨S1x2816x2048, .i8⟩
  | 82 => ⟨S2816x2048, .i8⟩
  | 83 => ⟨S1x176x2048, .bf16⟩
  | 84 => ⟨S176x2048, .bf16⟩
  | 85 => ⟨S2816x2048, .i32⟩
  | 86 => ⟨S80x176x2x16, .bf16⟩
  | 87 => ⟨S80x176x1x16, .bf16⟩
  | 88 => ⟨S80x176x16, .bf16⟩
  | 89 => ⟨S80x2816, .bf16⟩
  | 90 => ⟨S80x176x1x16, .bf16⟩
  | 91 => ⟨S80x176x16, .bf16⟩
  | 92 => ⟨S80x2816, .bf16⟩
  | 93 => ⟨S_, .i32⟩
  | 94 => ⟨S2816x2048, .i32⟩
  | 95 => ⟨S2816x2048, .i32⟩
  | 96 => ⟨S_, .i32⟩
  | 97 => ⟨S2816x2048, .i32⟩
  | 98 => ⟨S2816x2048, .i32⟩
  | 99 => ⟨S2816x2048, .bf16⟩
  | 100 => ⟨S176x16x2048, .bf16⟩
  | 101 => ⟨S176x1x2048, .bf16⟩
  | 102 => ⟨S176x16x2048, .bf16⟩
  | 103 => ⟨S176x16x2048, .bf16⟩
  | 104 => ⟨S2816x2048, .bf16⟩
  | 105 => ⟨S80x2048, .f32⟩
  | 106 => ⟨S_, .i32⟩
  | 107 => ⟨S2816x2048, .i32⟩
  | 108 => ⟨S2816x2048, .i32⟩
  | 109 => ⟨S_, .i32⟩
  | 110 => ⟨S2816x2048, .i32⟩
  | 111 => ⟨S2816x2048, .i32⟩
  | 112 => ⟨S2816x2048, .bf16⟩
  | 113 => ⟨S176x16x2048, .bf16⟩
  | 114 => ⟨S176x1x2048, .bf16⟩
  | 115 => ⟨S176x16x2048, .bf16⟩
  | 116 => ⟨S176x16x2048, .bf16⟩
  | 117 => ⟨S2816x2048, .bf16⟩
  | 118 => ⟨S80x2048, .f32⟩
  | 119 => ⟨S80x2048, .f32⟩
  | 120 => ⟨S80x2048, .f32⟩
  | 121 => ⟨S1x80x2048, .f32⟩
  | 122 => ⟨S80x2048, .f32⟩
  | 123 => ⟨S1x2048, .f32⟩
  | 124 => ⟨S2048, .f32⟩
  | 125 => ⟨S80x2048, .f32⟩
  | 126 => ⟨S_, .f32⟩
  | 127 => ⟨S80, .f32⟩
  | _ => ⟨S2x80x2048, .f32⟩

abbrev hbmTy0_1 (i : Nat) : BufTy := match i % 128 with
  | 0 => ⟨S80x1, .f32⟩
  | 1 => ⟨S_, .f32⟩
  | 2 => ⟨S80x1, .f32⟩
  | 3 => ⟨S80x1, .f32⟩
  | 4 => ⟨S_, .f32⟩
  | 5 => ⟨S80x1, .f32⟩
  | 6 => ⟨S80x1, .f32⟩
  | 7 => ⟨S80x1, .f32⟩
  | 8 => ⟨S80x2048, .f32⟩
  | 9 => ⟨S80x2048, .f32⟩
  | 10 => ⟨S1x2048, .f32⟩
  | 11 => ⟨S80x2048, .f32⟩
  | 12 => ⟨S80x2048, .f32⟩
  | 13 => ⟨S80x2048, .bf16⟩
  | 14 => ⟨S1x1024x11264, .i8⟩
  | 15 => ⟨S1024x11264, .i8⟩
  | 16 => ⟨S1x64x11264, .bf16⟩
  | 17 => ⟨S64x11264, .bf16⟩
  | 18 => ⟨S1024x11264, .i32⟩
  | 19 => ⟨S80x64x2x16, .bf16⟩
  | 20 => ⟨S80x64x1x16, .bf16⟩
  | 21 => ⟨S80x64x16, .bf16⟩
  | 22 => ⟨S80x1024, .bf16⟩
  | 23 => ⟨S80x64x1x16, .bf16⟩
  | 24 => ⟨S80x64x16, .bf16⟩
  | 25 => ⟨S80x1024, .bf16⟩
  | 26 => ⟨S_, .i32⟩
  | 27 => ⟨S1024x11264, .i32⟩
  | 28 => ⟨S1024x11264, .i32⟩
  | 29 => ⟨S_, .i32⟩
  | 30 => ⟨S1024x11264, .i32⟩
  | 31 => ⟨S1024x11264, .i32⟩
  | 32 => ⟨S1024x11264, .bf16⟩
  | 33 => ⟨S64x16x11264, .bf16⟩
  | 34 => ⟨S64x1x11264, .bf16⟩
  | 35 => ⟨S64x16x11264, .bf16⟩
  | 36 => ⟨S64x16x11264, .bf16⟩
  | 37 => ⟨S1024x11264, .bf16⟩
  | 38 => ⟨S80x11264, .f32⟩
  | 39 => ⟨S_, .i32⟩
  | 40 => ⟨S1024x11264, .i32⟩
  | 41 => ⟨S1024x11264, .i32⟩
  | 42 => ⟨S_, .i32⟩
  | 43 => ⟨S1024x11264, .i32⟩
  | 44 => ⟨S1024x11264, .i32⟩
  | 45 => ⟨S1024x11264, .bf16⟩
  | 46 => ⟨S64x16x11264, .bf16⟩
  | 47 => ⟨S64x1x11264, .bf16⟩
  | 48 => ⟨S64x16x11264, .bf16⟩
  | 49 => ⟨S64x16x11264, .bf16⟩
  | 50 => ⟨S1024x11264, .bf16⟩
  | 51 => ⟨S80x11264, .f32⟩
  | 52 => ⟨S80x11264, .f32⟩
  | 53 => ⟨S80x5632, .f32⟩
  | 54 => ⟨S80x5632, .f32⟩
  | 55 => ⟨S80x5632, .f32⟩
  | 56 => ⟨S80x5632, .f32⟩
  | 57 => ⟨S_, .f32⟩
  | 58 => ⟨S80x5632, .f32⟩
  | 59 => ⟨S80x5632, .f32⟩
  | 60 => ⟨S_, .f32⟩
  | 61 => ⟨S80x5632, .f32⟩
  | 62 => ⟨S80x5632, .f32⟩
  | 63 => ⟨S80x5632, .f32⟩
  | 64 => ⟨S80x5632, .f32⟩
  | 65 => ⟨S80x5632, .bf16⟩
  | 66 => ⟨S1x80x2048, .f32⟩
  | 67 => ⟨S80x2048, .f32⟩
  | 68 => ⟨S1x2816x2048, .i8⟩
  | 69 => ⟨S2816x2048, .i8⟩
  | 70 => ⟨S1x176x2048, .bf16⟩
  | 71 => ⟨S176x2048, .bf16⟩
  | 72 => ⟨S2816x2048, .i32⟩
  | 73 => ⟨S80x176x2x16, .bf16⟩
  | 74 => ⟨S80x176x1x16, .bf16⟩
  | 75 => ⟨S80x176x16, .bf16⟩
  | 76 => ⟨S80x2816, .bf16⟩
  | 77 => ⟨S80x176x1x16, .bf16⟩
  | 78 => ⟨S80x176x16, .bf16⟩
  | 79 => ⟨S80x2816, .bf16⟩
  | 80 => ⟨S_, .i32⟩
  | 81 => ⟨S2816x2048, .i32⟩
  | 82 => ⟨S2816x2048, .i32⟩
  | 83 => ⟨S_, .i32⟩
  | 84 => ⟨S2816x2048, .i32⟩
  | 85 => ⟨S2816x2048, .i32⟩
  | 86 => ⟨S2816x2048, .bf16⟩
  | 87 => ⟨S176x16x2048, .bf16⟩
  | 88 => ⟨S176x1x2048, .bf16⟩
  | 89 => ⟨S176x16x2048, .bf16⟩
  | 90 => ⟨S176x16x2048, .bf16⟩
  | 91 => ⟨S2816x2048, .bf16⟩
  | 92 => ⟨S80x2048, .f32⟩
  | 93 => ⟨S_, .i32⟩
  | 94 => ⟨S2816x2048, .i32⟩
  | 95 => ⟨S2816x2048, .i32⟩
  | 96 => ⟨S_, .i32⟩
  | 97 => ⟨S2816x2048, .i32⟩
  | 98 => ⟨S2816x2048, .i32⟩
  | 99 => ⟨S2816x2048, .bf16⟩
  | 100 => ⟨S176x16x2048, .bf16⟩
  | 101 => ⟨S176x1x2048, .bf16⟩
  | 102 => ⟨S176x16x2048, .bf16⟩
  | 103 => ⟨S176x16x2048, .bf16⟩
  | 104 => ⟨S2816x2048, .bf16⟩
  | 105 => ⟨S80x2048, .f32⟩
  | 106 => ⟨S80x2048, .f32⟩
  | 107 => ⟨S80x2048, .f32⟩
  | 108 => ⟨S1x80x2048, .f32⟩
  | 109 => ⟨S1x80x2048, .f32⟩
  | 110 => ⟨S2x80x2048, .f32⟩
  | _ => ⟨S2x80x2048, .f32⟩

abbrev hbmTy (i : Nat) : BufTy := match i / 128 with
  | 0 => hbmTy0_0 i
  | 1 => hbmTy0_1 i
  | _ => ⟨S2x80x2048, .f32⟩

abbrev bufTy : (tb : Table) → Fin (tcTables nBuf tb) → BufTy
  | .hbm, ⟨i, _⟩ => hbmTy i
  | _, _ => ⟨S2x80x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_3 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_c_7 : Ref sig .tc := ⟨.hbm, 93, rfl⟩
abbrev main_v78 : Ref sig .tc := ⟨.hbm, 94, rfl⟩
abbrev main_v79 : Ref sig .tc := ⟨.hbm, 95, rfl⟩
abbrev main_c_8 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_c_9 : Ref sig .tc := ⟨.hbm, 106, rfl⟩
abbrev main_v89 : Ref sig .tc := ⟨.hbm, 107, rfl⟩
abbrev main_v90 : Ref sig .tc := ⟨.hbm, 108, rfl⟩
abbrev main_c_10 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_11 : Ref sig .tc := ⟨.hbm, 126, rfl⟩
abbrev main_v107 : Ref sig .tc := ⟨.hbm, 127, rfl⟩
abbrev main_v108 : Ref sig .tc := ⟨.hbm, 128, rfl⟩
abbrev main_cst_12 : Ref sig .tc := ⟨.hbm, 129, rfl⟩
abbrev main_v109 : Ref sig .tc := ⟨.hbm, 130, rfl⟩
abbrev main_v110 : Ref sig .tc := ⟨.hbm, 131, rfl⟩
abbrev main_cst_13 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_c_14 : Ref sig .tc := ⟨.hbm, 154, rfl⟩
abbrev main_v132 : Ref sig .tc := ⟨.hbm, 155, rfl⟩
abbrev main_v133 : Ref sig .tc := ⟨.hbm, 156, rfl⟩
abbrev main_c_15 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_c_16 : Ref sig .tc := ⟨.hbm, 167, rfl⟩
abbrev main_v143 : Ref sig .tc := ⟨.hbm, 168, rfl⟩
abbrev main_v144 : Ref sig .tc := ⟨.hbm, 169, rfl⟩
abbrev main_c_17 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_cst_18 : Ref sig .tc := ⟨.hbm, 185, rfl⟩
abbrev main_v159 : Ref sig .tc := ⟨.hbm, 186, rfl⟩
abbrev main_v160 : Ref sig .tc := ⟨.hbm, 187, rfl⟩
abbrev main_cst_19 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_c_20 : Ref sig .tc := ⟨.hbm, 208, rfl⟩
abbrev main_v180 : Ref sig .tc := ⟨.hbm, 209, rfl⟩
abbrev main_v181 : Ref sig .tc := ⟨.hbm, 210, rfl⟩
abbrev main_c_21 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_c_22 : Ref sig .tc := ⟨.hbm, 221, rfl⟩
abbrev main_v191 : Ref sig .tc := ⟨.hbm, 222, rfl⟩
abbrev main_v192 : Ref sig .tc := ⟨.hbm, 223, rfl⟩
abbrev main_c_23 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩

abbrev nD : Nat := 1
abbrev τ : Topo := Topo.v7x

variable {F : FTy → Type} [FloatOps F]
-- ==== Proof.Canon.lean ====
/-
  Canonical names of the views the kernel moves and reads: the blocks of the packed weights and of their scales in
  HBM, the slots of the four rings, the three slots of the residual buffer, the ring's semaphores. A chunk `c` (44 of
  them, 22 a layer) lies in layer `c / 22` and uses ring slot `c % 12`. Every printed slice equals one of these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.MixedBatch
public import Idealize.ShloMosaic.Lib.Ring
public import Idealize.ShloMosaic.Lib.Tactic

@[expose] public section

noncomputable section

namespace Cert.Proof.Mlp

open Cert.KernelIdeal Cert.KernelIdeal.Gen
open Idealize.ShloMosaic
open Idealize.ShloMosaic.TcCoe Idealize.ShloMosaic.Tactic

/-! ## The buffers -/

abbrev nmH : Memref sig .tc .hbm S2x2048 .f32 := Memref.whole main_arg1
abbrev wguH : Memref sig .tc .hbm S2x1024x11264 .i8 := Memref.whole main_arg2
abbrev sguH : Memref sig .tc .hbm S2x64x11264 .bf16 := Memref.whole main_arg3
abbrev wdH : Memref sig .tc .hbm S2x2816x2048 .i8 := Memref.whole main_arg4
abbrev sdH : Memref sig .tc .hbm S2x176x2048 .bf16 := Memref.whole main_arg5
abbrev hidH : Memref sig .tc .hbm S2x80x2048 .f32 := Memref.whole main_v0
abbrev nmM : Memref sig .tc .vmem S2x2048 .f32 := Memref.whole cc0_scratch0
abbrev wgM : Memref sig .tc .vmem S12x1024x512 .i8 := Memref.whole cc0_scratch1
abbrev sgM : Memref sig .tc .vmem S12x64x512 .bf16 := Memref.whole cc0_scratch2
abbrev wdM : Memref sig .tc .vmem S12x128x2048 .i8 := Memref.whole cc0_scratch3
abbrev sdM : Memref sig .tc .vmem S12x8x2048 .bf16 := Memref.whole cc0_scratch4
abbrev rhM : Memref sig .tc .vmem S3x80x2048 .f32 := Memref.whole cc0_scratch5
abbrev hpM : Memref sig .tc .vmem S80x2048 .bf16 := Memref.whole cc0_scratch6

/-! ## Offsets, clamped so that every number names a view -/

abbrev gSrcOff (l x : ℕ) : Fin 3 → ℕ := ![min l 1, 0, min x 11008]
theorem gSrcOff_inb (l x : ℕ) : ∀ a, gSrcOff l x a + S1x1024x256.size a ≤ S2x1024x11264.size a := by
  intro a; fin_cases a
  · show min l 1 + 1 ≤ 2; omega
  · show 0 + 1024 ≤ 1024; omega
  · show min x 11008 + 256 ≤ 11264; omega
/-- The packed gate or up weights of 256 columns from column `x` on, layer `l`. -/
def gSrc (l x : ℕ) : Memref sig .tc .hbm S1024x256 .i8 :=
  (wguH.slice (Rect.unit (s := S2x1024x11264) (gSrcOff l x) S1x1024x256.size (gSrcOff_inb l x)) (fun _ => rfl)).squeeze S1024x256 squeezes_S1x1024x256_S1024x256
theorem gSrc_congr {off : Fin 3 → ℕ} {l x : ℕ} (e : off = gSrcOff l x) (hh hs) :
    (wguH.slice (Rect.unit (s := S2x1024x11264) off S1x1024x256.size hh) hs).squeeze S1024x256 squeezes_S1x1024x256_S1024x256 = gSrc l x :=
  congrArg (fun M : Memref sig .tc .hbm S1x1024x256 .i8 => M.squeeze S1024x256 squeezes_S1x1024x256_S1024x256) (Memref.slice_unit_congr _ e _ _ _ _)
instance (l x : ℕ) : ClosedOff (gSrcOff l x) := ⟨gSrcOff l x, rfl⟩

abbrev sgSrcOff (l x : ℕ) : Fin 3 → ℕ := ![min l 1, 0, min x 11008]
theorem sgSrcOff_inb (l x : ℕ) : ∀ a, sgSrcOff l x a + S1x64x256.size a ≤ S2x64x11264.size a := by
  intro a; fin_cases a
  · show min l 1 + 1 ≤ 2; omega
  · show 0 + 64 ≤ 64; omega
  · show min x 11008 + 256 ≤ 11264; omega
/-- Their scales. -/
def sgSrc (l x : ℕ) : Memref sig .tc .hbm S64x256 .bf16 :=
  (sguH.slice (Rect.unit (s := S2x64x11264) (sgSrcOff l x) S1x64x256.size (sgSrcOff_inb l x)) (fun _ => rfl)).squeeze S64x256 squeezes_S1x64x256_S64x256
theorem sgSrc_congr {off : Fin 3 → ℕ} {l x : ℕ} (e : off = sgSrcOff l x) (hh hs) :
    (sguH.slice (Rect.unit (s := S2x64x11264) off S1x64x256.size hh) hs).squeeze S64x256 squeezes_S1x64x256_S64x256 = sgSrc l x :=
  congrArg (fun M : Memref sig .tc .hbm S1x64x256 .bf16 => M.squeeze S64x256 squeezes_S1x64x256_S64x256) (Memref.slice_unit_congr _ e _ _ _ _)
instance (l x : ℕ) : ClosedOff (sgSrcOff l x) := ⟨sgSrcOff l x, rfl⟩

abbrev dSrcOff (l x : ℕ) : Fin 3 → ℕ := ![min l 1, min x 2688, 0]
theorem dSrcOff_inb (l x : ℕ) : ∀ a, dSrcOff l x a + S1x128x2048.size a ≤ S2x2816x2048.size a := by
  intro a; fin_cases a
  · show min l 1 + 1 ≤ 2; omega
  · show min x 2688 + 128 ≤ 2816; omega
  · show 0 + 2048 ≤ 2048; omega
/-- 128 packed rows of the down weights from row `x` on, layer `l`. -/
def dSrc (l x : ℕ) : Memref sig .tc .hbm S128x2048 .i8 :=
  (wdH.slice (Rect.unit (s := S2x2816x2048) (dSrcOff l x) S1x128x2048.size (dSrcOff_inb l x)) (fun _ => rfl)).squeeze S128x2048 squeezes_S1x128x2048_S128x2048
theorem dSrc_congr {off : Fin 3 → ℕ} {l x : ℕ} (e : off = dSrcOff l x) (hh hs) :
    (wdH.slice (Rect.unit (s := S2x2816x2048) off S1x128x2048.size hh) hs).squeeze S128x2048 squeezes_S1x128x2048_S128x2048 = dSrc l x :=
  congrArg (fun M : Memref sig .tc .hbm S1x128x2048 .i8 => M.squeeze S128x2048 squeezes_S1x128x2048_S128x2048) (Memref.slice_unit_congr _ e _ _ _ _)
instance (l x : ℕ) : ClosedOff (dSrcOff l x) := ⟨dSrcOff l x, rfl⟩

abbrev sdSrcOff (l x : ℕ) : Fin 3 → ℕ := ![min l 1, min x 168, 0]
theorem sdSrcOff_inb (l x : ℕ) : ∀ a, sdSrcOff l x a + S1x8x2048.size a ≤ S2x176x2048.size a := by
  intro a; fin_cases a
  · show min l 1 + 1 ≤ 2; omega
  · show min x 168 + 8 ≤ 176; omega
  · show 0 + 2048 ≤ 2048; omega
/-- Eight rows of their scales. -/
def sdSrc (l x : ℕ) : Memref sig .tc .hbm S8x2048 .bf16 :=
  (sdH.slice (Rect.unit (s := S2x176x2048) (sdSrcOff l x) S1x8x2048.size (sdSrcOff_inb l x)) (fun _ => rfl)).squeeze S8x2048 squeezes_S1x8x2048_S8x2048
theorem sdSrc_congr {off : Fin 3 → ℕ} {l x : ℕ} (e : off = sdSrcOff l x) (hh hs) :
    (sdH.slice (Rect.unit (s := S2x176x2048) off S1x8x2048.size hh) hs).squeeze S8x2048 squeezes_S1x8x2048_S8x2048 = sdSrc l x :=
  congrArg (fun M : Memref sig .tc .hbm S1x8x2048 .bf16 => M.squeeze S8x2048 squeezes_S1x8x2048_S8x2048) (Memref.slice_unit_congr _ e _ _ _ _)
instance (l x : ℕ) : ClosedOff (sdSrcOff l x) := ⟨sdSrcOff l x, rfl⟩

abbrev gDstOff (s x : ℕ) : Fin 3 → ℕ := ![min s 11, 0, min x 256]
theorem gDstOff_inb (s x : ℕ) : ∀ a, gDstOff s x a + S1x1024x256.size a ≤ S12x1024x512.size a := by
  intro a; fin_cases a
  · show min s 11 + 1 ≤ 12; omega
  · show 0 + 1024 ≤ 1024; omega
  · show min x 256 + 256 ≤ 512; omega
/-- Half a slot of the gate and up ring. -/
def gDst (s x : ℕ) : Memref sig .tc .vmem S1024x256 .i8 :=
  (wgM.slice (Rect.unit (s := S12x1024x512) (gDstOff s x) S1x1024x256.size (gDstOff_inb s x)) (fun _ => rfl)).squeeze S1024x256 squeezes_S1x1024x256_S1024x256
theorem gDst_congr {off : Fin 3 → ℕ} {s x : ℕ} (e : off = gDstOff s x) (hh hs) :
    (wgM.slice (Rect.unit (s := S12x1024x512) off S1x1024x256.size hh) hs).squeeze S1024x256 squeezes_S1x1024x256_S1024x256 = gDst s x :=
  congrArg (fun M : Memref sig .tc .vmem S1x1024x256 .i8 => M.squeeze S1024x256 squeezes_S1x1024x256_S1024x256) (Memref.slice_unit_congr _ e _ _ _ _)
instance (s x : ℕ) : ClosedOff (gDstOff s x) := ⟨gDstOff s x, rfl⟩

abbrev sgDstOff (s x : ℕ) : Fin 3 → ℕ := ![min s 11, 0, min x 256]
theorem sgDstOff_inb (s x : ℕ) : ∀ a, sgDstOff s x a + S1x64x256.size a ≤ S12x64x512.size a := by
  intro a; fin_cases a
  · show min s 11 + 1 ≤ 12; omega
  · show 0 + 64 ≤ 64; omega
  · show min x 256 + 256 ≤ 512; omega
/-- Half a slot of its scales' ring. -/
def sgDst (s x : ℕ) : Memref sig .tc .vmem S64x256 .bf16 :=
  (sgM.slice (Rect.unit (s := S12x64x512) (sgDstOff s x) S1x64x256.size (sgDstOff_inb s x)) (fun _ => rfl)).squeeze S64x256 squeezes_S1x64x256_S64x256
theorem sgDst_congr {off : Fin 3 → ℕ} {s x : ℕ} (e : off = sgDstOff s x) (hh hs) :
    (sgM.slice (Rect.unit (s := S12x64x512) off S1x64x256.size hh) hs).squeeze S64x256 squeezes_S1x64x256_S64x256 = sgDst s x :=
  congrArg (fun M : Memref sig .tc .vmem S1x64x256 .bf16 => M.squeeze S64x256 squeezes_S1x64x256_S64x256) (Memref.slice_unit_congr _ e _ _ _ _)
instance (s x : ℕ) : ClosedOff (sgDstOff s x) := ⟨sgDstOff s x, rfl⟩

abbrev gSlotOff (s : ℕ) : Fin 3 → ℕ := ![min s 11, 0, 0]
theorem gSlotOff_inb (s : ℕ) : ∀ a, gSlotOff s a + S1x1024x512.size a ≤ S12x1024x512.size a := by
  intro a; fin_cases a
  · show min s 11 + 1 ≤ 12; omega
  · show 0 + 1024 ≤ 1024; omega
  · show 0 + 512 ≤ 512; omega
/-- A whole slot of the gate and up ring. -/
def gSlot (s : ℕ) : Memref sig .tc .vmem S1024x512 .i8 :=
  (wgM.slice (Rect.unit (s := S12x1024x512) (gSlotOff s) S1x1024x512.size (gSlotOff_inb s)) (fun _ => rfl)).squeeze S1024x512 squeezes_S1x1024x512_S1024x512
theorem gSlot_congr {off : Fin 3 → ℕ} {s : ℕ} (e : off = gSlotOff s) (hh hs) :
    (wgM.slice (Rect.unit (s := S12x1024x512) off S1x1024x512.size hh) hs).squeeze S1024x512 squeezes_S1x1024x512_S1024x512 = gSlot s :=
  congrArg (fun M : Memref sig .tc .vmem S1x1024x512 .i8 => M.squeeze S1024x512 squeezes_S1x1024x512_S1024x512) (Memref.slice_unit_congr _ e _ _ _ _)
instance (s : ℕ) : ClosedOff (gSlotOff s) := ⟨gSlotOff s, rfl⟩

abbrev sgSlotOff (s : ℕ) : Fin 3 → ℕ := ![min s 11, 0, 0]
theorem sgSlotOff_inb (s : ℕ) : ∀ a, sgSlotOff s a + S1x64x512.size a ≤ S12x64x512.size a := by
  intro a; fin_cases a
  · show min s 11 + 1 ≤ 12; omega
  · show 0 + 64 ≤ 64; omega
  · show 0 + 512 ≤ 512; omega
/-- A whole slot of its scales' ring. -/
def sgSlot (s : ℕ) : Memref sig .tc .vmem S64x512 .bf16 :=
  (sgM.slice (Rect.unit (s := S12x64x512) (sgSlotOff s) S1x64x512.size (sgSlotOff_inb s)) (fun _ => rfl)).squeeze S64x512 squeezes_S1x64x512_S64x512
theorem sgSlot_congr {off : Fin 3 → ℕ} {s : ℕ} (e : off = sgSlotOff s) (hh hs) :
    (sgM.slice (Rect.unit (s := S12x64x512) off S1x64x512.size hh) hs).squeeze S64x512 squeezes_S1x64x512_S64x512 = sgSlot s :=
  congrArg (fun M : Memref sig .tc .vmem S1x64x512 .bf16 => M.squeeze S64x512 squeezes_S1x64x512_S64x512) (Memref.slice_unit_congr _ e _ _ _ _)
instance (s : ℕ) : ClosedOff (sgSlotOff s) := ⟨sgSlotOff s, rfl⟩

abbrev dSlotOff (s : ℕ) : Fin 3 → ℕ := ![min s 11, 0, 0]
theorem dSlotOff_inb (s : ℕ) : ∀ a, dSlotOff s a + S1x128x2048.size a ≤ S12x128x2048.size a := by
  intro a; fin_cases a
  · show min s 11 + 1 ≤ 12; omega
  · show 0 + 128 ≤ 128; omega
  · show 0 + 2048 ≤ 2048; omega
/-- A slot of the down ring. -/
def dSlot (s : ℕ) : Memref sig .tc .vmem S128x2048 .i8 :=
  (wdM.slice (Rect.unit (s := S12x128x2048) (dSlotOff s) S1x128x2048.size (dSlotOff_inb s)) (fun _ => rfl)).squeeze S128x2048 squeezes_S1x128x2048_S128x2048
theorem dSlot_congr {off : Fin 3 → ℕ} {s : ℕ} (e : off = dSlotOff s) (hh hs) :
    (wdM.slice (Rect.unit (s := S12x128x2048) off S1x128x2048.size hh) hs).squeeze S128x2048 squeezes_S1x128x2048_S128x2048 = dSlot s :=
  congrArg (fun M : Memref sig .tc .vmem S1x128x2048 .i8 => M.squeeze S128x2048 squeezes_S1x128x2048_S128x2048) (Memref.slice_unit_congr _ e _ _ _ _)
instance (s : ℕ) : ClosedOff (dSlotOff s) := ⟨dSlotOff s, rfl⟩

abbrev sdSlotOff (s : ℕ) : Fin 3 → ℕ := ![min s 11, 0, 0]
theorem sdSlotOff_inb (s : ℕ) : ∀ a, sdSlotOff s a + S1x8x2048.size a ≤ S12x8x2048.size a := by
  intro a; fin_cases a
  · show min s 11 + 1 ≤ 12; omega
  · show 0 + 8 ≤ 8; omega
  · show 0 + 2048 ≤ 2048; omega
/-- A slot of its scales' ring. -/
def sdSlot (s : ℕ) : Memref sig .tc .vmem S8x2048 .bf16 :=
  (sdM.slice (Rect.unit (s := S12x8x2048) (sdSlotOff s) S1x8x2048.size (sdSlotOff_inb s)) (fun _ => rfl)).squeeze S8x2048 squeezes_S1x8x2048_S8x2048
theorem sdSlot_congr {off : Fin 3 → ℕ} {s : ℕ} (e : off = sdSlotOff s) (hh hs) :
    (sdM.slice (Rect.unit (s := S12x8x2048) off S1x8x2048.size hh) hs).squeeze S8x2048 squeezes_S1x8x2048_S8x2048 = sdSlot s :=
  congrArg (fun M : Memref sig .tc .vmem S1x8x2048 .bf16 => M.squeeze S8x2048 squeezes_S1x8x2048_S8x2048) (Memref.slice_unit_congr _ e _ _ _ _)
instance (s : ℕ) : ClosedOff (sdSlotOff s) := ⟨sdSlotOff s, rfl⟩

abbrev rSlotOff (s : ℕ) : Fin 3 → ℕ := ![min s 1 + 1, 0, 0]
theorem rSlotOff_inb (s : ℕ) : ∀ a, rSlotOff s a + S1x80x2048.size a ≤ S3x80x2048.size a := by
  intro a; fin_cases a
  · show min s 1 + 1 + 1 ≤ 3; omega
  · show 0 + 80 ≤ 80; omega
  · show 0 + 2048 ≤ 2048; omega
/-- The slot of the residual buffer layer `s` writes. -/
def rSlot (s : ℕ) : Memref sig .tc .vmem S80x2048 .f32 :=
  (rhM.slice (Rect.unit (s := S3x80x2048) (rSlotOff s) S1x80x2048.size (rSlotOff_inb s)) (fun _ => rfl)).squeeze S80x2048 squeezes_S1x80x2048_S80x2048
theorem rSlot_congr {off : Fin 3 → ℕ} {s : ℕ} (e : off = rSlotOff s) (hh hs) :
    (rhM.slice (Rect.unit (s := S3x80x2048) off S1x80x2048.size hh) hs).squeeze S80x2048 squeezes_S1x80x2048_S80x2048 = rSlot s :=
  congrArg (fun M : Memref sig .tc .vmem S1x80x2048 .f32 => M.squeeze S80x2048 squeezes_S1x80x2048_S80x2048) (Memref.slice_unit_congr _ e _ _ _ _)
instance (s : ℕ) : ClosedOff (rSlotOff s) := ⟨rSlotOff s, rfl⟩

abbrev hOutOff (s : ℕ) : Fin 3 → ℕ := ![min s 1, 0, 0]
theorem hOutOff_inb (s : ℕ) : ∀ a, hOutOff s a + S1x80x2048.size a ≤ S2x80x2048.size a := by
  intro a; fin_cases a
  · show min s 1 + 1 ≤ 2; omega
  · show 0 + 80 ≤ 80; omega
  · show 0 + 2048 ≤ 2048; omega
/-- A layer of the result. -/
def hOut (s : ℕ) : Memref sig .tc .hbm S80x2048 .f32 :=
  (hidH.slice (Rect.unit (s := S2x80x2048) (hOutOff s) S1x80x2048.size (hOutOff_inb s)) (fun _ => rfl)).squeeze S80x2048 squeezes_S1x80x2048_S80x2048
theorem hOut_congr {off : Fin 3 → ℕ} {s : ℕ} (e : off = hOutOff s) (hh hs) :
    (hidH.slice (Rect.unit (s := S2x80x2048) off S1x80x2048.size hh) hs).squeeze S80x2048 squeezes_S1x80x2048_S80x2048 = hOut s :=
  congrArg (fun M : Memref sig .tc .hbm S1x80x2048 .f32 => M.squeeze S80x2048 squeezes_S1x80x2048_S80x2048) (Memref.slice_unit_congr _ e _ _ _ _)
instance (s : ℕ) : ClosedOff (hOutOff s) := ⟨hOutOff s, rfl⟩

abbrev csmOff (s : ℕ) : Fin 1 → ℕ := ![min s 11]
theorem csmOff_inb (s : ℕ) : ∀ a, csmOff s a + S1.size a ≤ S12.size a := by
  intro a; fin_cases a; show min s 11 + 1 ≤ 12; omega
/-- The ring's semaphore of slot `s`. -/
def csm (s : ℕ) : DmaSems sig S_ := (cc0_scoped1.slice (Rect.unit (s := S12) (csmOff s) S1.size (csmOff_inb s))).squeeze S_ squeezes_S1_S_
theorem csm_congr {off : Fin 1 → ℕ} {s : ℕ} (e : off = csmOff s) (hh) :
    (cc0_scoped1.slice (Rect.unit (s := S12) off S1.size hh)).squeeze S_ squeezes_S1_S_ = csm s :=
  congrArg (fun A : DmaSems sig S1 => A.squeeze S_ squeezes_S1_S_) (SemArray.slice_unit_congr _ e _ _)

/-! ## The printed offsets in closed form -/

abbrev T1 := Fin k0_t1_loop.trips
abbrev T2 := Fin k0_t2_loop.trips

/-! The refill at a layer's start. -/

theorem off3_eq : ∀ (t1 : T1), k0_cond1 t1 = 1#1 → k0_off3 t1 = csmOff (((22 * t1.val + 10) % 12)) := by decide +kernel
@[sl_canon] theorem canon3 (t1 : T1) (h : k0_cond1 t1 = 1#1) (hh) :
    (cc0_scoped1.slice (Rect.unit (s := S12) (k0_off3 t1) S1.size hh)).squeeze S_ squeezes_S1_S_ = csm (((22 * t1.val + 10) % 12)) := csm_congr (off3_eq t1 h) _
theorem off4_eq : ∀ (t1 : T1), k0_cond1 t1 = 1#1 → k0_off4 t1 = gDstOff ((22 * t1.val + 10) % 12) 0 := by decide +kernel
@[sl_canon] theorem canon4 (t1 : T1) (h : k0_cond1 t1 = 1#1) (hh hs) :
    (wgM.slice (Rect.unit (s := S12x1024x512) (k0_off4 t1) S1x1024x256.size hh) hs).squeeze S1024x256 squeezes_S1x1024x256_S1024x256 = gDst ((22 * t1.val + 10) % 12) 0 := gDst_congr (off4_eq t1 h) _ _
theorem off5_eq : ∀ (t1 : T1), k0_cond1 t1 = 1#1 → k0_off5 t1 = gSrcOff ((22 * t1.val + 10) / 22) (256 * ((22 * t1.val + 10) % 22)) := by decide +kernel
@[sl_canon] theorem canon5 (t1 : T1) (h : k0_cond1 t1 = 1#1) (hh hs) :
    (wguH.slice (Rect.unit (s := S2x1024x11264) (k0_off5 t1) S1x1024x256.size hh) hs).squeeze S1024x256 squeezes_S1x1024x256_S1024x256 = gSrc ((22 * t1.val + 10) / 22) (256 * ((22 * t1.val + 10) % 22)) := gSrc_congr (off5_eq t1 h) _ _
theorem off6_eq : ∀ (t1 : T1), k0_cond1 t1 = 1#1 → k0_off6 t1 = gDstOff ((22 * t1.val + 10) % 12) 256 := by decide +kernel
@[sl_canon] theorem canon6 (t1 : T1) (h : k0_cond1 t1 = 1#1) (hh hs) :
    (wgM.slice (Rect.unit (s := S12x1024x512) (k0_off6 t1) S1x1024x256.size hh) hs).squeeze S1024x256 squeezes_S1x1024x256_S1024x256 = gDst ((22 * t1.val + 10) % 12) 256 := gDst_congr (off6_eq t1 h) _ _
theorem off7_eq : ∀ (t1 : T1), k0_cond1 t1 = 1#1 → k0_off7 t1 = gSrcOff ((22 * t1.val + 10) / 22) (5632 + 256 * ((22 * t1.val + 10) % 22)) := by decide +kernel
@[sl_canon] theorem canon7 (t1 : T1) (h : k0_cond1 t1 = 1#1) (hh hs) :
    (wguH.slice (Rect.unit (s := S2x1024x11264) (k0_off7 t1) S1x1024x256.size hh) hs).squeeze S1024x256 squeezes_S1x1024x256_S1024x256 = gSrc ((22 * t1.val + 10) / 22) (5632 + 256 * ((22 * t1.val + 10) % 22)) := gSrc_congr (off7_eq t1 h) _ _
theorem off8_eq : ∀ (t1 : T1), k0_cond1 t1 = 1#1 → k0_off8 t1 = sgDstOff ((22 * t1.val + 10) % 12) 0 := by decide +kernel
@[sl_canon] theorem canon8 (t1 : T1) (h : k0_cond1 t1 = 1#1) (hh hs) :
    (sgM.slice (Rect.unit (s := S12x64x512) (k0_off8 t1) S1x64x256.size hh) hs).squeeze S64x256 squeezes_S1x64x256_S64x256 = sgDst ((22 * t1.val + 10) % 12) 0 := sgDst_congr (off8_eq t1 h) _ _
theorem off9_eq : ∀ (t1 : T1), k0_cond1 t1 = 1#1 → k0_off9 t1 = sgSrcOff ((22 * t1.val + 10) / 22) (256 * ((22 * t1.val + 10) % 22)) := by decide +kernel
@[sl_canon] theorem canon9 (t1 : T1) (h : k0_cond1 t1 = 1#1) (hh hs) :
    (sguH.slice (Rect.unit (s := S2x64x11264) (k0_off9 t1) S1x64x256.size hh) hs).squeeze S64x256 squeezes_S1x64x256_S64x256 = sgSrc ((22 * t1.val + 10) / 22) (256 * ((22 * t1.val + 10) % 22)) := sgSrc_congr (off9_eq t1 h) _ _
theorem off10_eq : ∀ (t1 : T1), k0_cond1 t1 = 1#1 → k0_off10 t1 = sgDstOff ((22 * t1.val + 10) % 12) 256 := by decide +kernel
@[sl_canon] theorem canon10 (t1 : T1) (h : k0_cond1 t1 = 1#1) (hh hs) :
    (sgM.slice (Rect.unit (s := S12x64x512) (k0_off10 t1) S1x64x256.size hh) hs).squeeze S64x256 squeezes_S1x64x256_S64x256 = sgDst ((22 * t1.val + 10) % 12) 256 := sgDst_congr (off10_eq t1 h) _ _
theorem off11_eq : ∀ (t1 : T1), k0_cond1 t1 = 1#1 → k0_off11 t1 = sgSrcOff ((22 * t1.val + 10) / 22) (5632 + 256 * ((22 * t1.val + 10) % 22)) := by decide +kernel
@[sl_canon] theorem canon11 (t1 : T1) (h : k0_cond1 t1 = 1#1) (hh hs) :
    (sguH.slice (Rect.unit (s := S2x64x11264) (k0_off11 t1) S1x64x256.size hh) hs).squeeze S64x256 squeezes_S1x64x256_S64x256 = sgSrc ((22 * t1.val + 10) / 22) (5632 + 256 * ((22 * t1.val + 10) % 22)) := sgSrc_congr (off11_eq t1 h) _ _
theorem off12_eq : ∀ (t1 : T1), k0_cond1 t1 = 1#1 → k0_off12 t1 = dSlotOff ((22 * t1.val + 10) % 12) := by decide +kernel
@[sl_canon] theorem canon12 (t1 : T1) (h : k0_cond1 t1 = 1#1) (hh hs) :
    (wdM.slice (Rect.unit (s := S12x128x2048) (k0_off12 t1) S1x128x2048.size hh) hs).squeeze S128x2048 squeezes_S1x128x2048_S128x2048 = dSlot ((22 * t1.val + 10) % 12) := dSlot_congr (off12_eq t1 h) _ _
theorem off13_eq : ∀ (t1 : T1), k0_cond1 t1 = 1#1 → k0_off13 t1 = dSrcOff ((22 * t1.val + 10) / 22) (128 * ((22 * t1.val + 10) % 22)) := by decide +kernel
@[sl_canon] theorem canon13 (t1 : T1) (h : k0_cond1 t1 = 1#1) (hh hs) :
    (wdH.slice (Rect.unit (s := S2x2816x2048) (k0_off13 t1) S1x128x2048.size hh) hs).squeeze S128x2048 squeezes_S1x128x2048_S128x2048 = dSrc ((22 * t1.val + 10) / 22) (128 * ((22 * t1.val + 10) % 22)) := dSrc_congr (off13_eq t1 h) _ _
theorem off14_eq : ∀ (t1 : T1), k0_cond1 t1 = 1#1 → k0_off14 t1 = sdSlotOff ((22 * t1.val + 10) % 12) := by decide +kernel
@[sl_canon] theorem canon14 (t1 : T1) (h : k0_cond1 t1 = 1#1) (hh hs) :
    (sdM.slice (Rect.unit (s := S12x8x2048) (k0_off14 t1) S1x8x2048.size hh) hs).squeeze S8x2048 squeezes_S1x8x2048_S8x2048 = sdSlot ((22 * t1.val + 10) % 12) := sdSlot_congr (off14_eq t1 h) _ _
theorem off15_eq : ∀ (t1 : T1), k0_cond1 t1 = 1#1 → k0_off15 t1 = sdSrcOff ((22 * t1.val + 10) / 22) (8 * ((22 * t1.val + 10) % 22)) := by decide +kernel
@[sl_canon] theorem canon15 (t1 : T1) (h : k0_cond1 t1 = 1#1) (hh hs) :
    (sdH.slice (Rect.unit (s := S2x176x2048) (k0_off15 t1) S1x8x2048.size hh) hs).squeeze S8x2048 squeezes_S1x8x2048_S8x2048 = sdSrc ((22 * t1.val + 10) / 22) (8 * ((22 * t1.val + 10) % 22)) := sdSrc_congr (off15_eq t1 h) _ _

/-! The wait at a layer's start. -/

theorem off16_eq : ∀ (t1 : T1), k0_off16 t1 = csmOff (((22 * t1.val) % 12)) := by decide +kernel
@[sl_canon] theorem canon16 (t1 : T1)  (hh) :
    (cc0_scoped1.slice (Rect.unit (s := S12) (k0_off16 t1) S1.size hh)).squeeze S_ squeezes_S1_S_ = csm (((22 * t1.val) % 12)) := csm_congr (off16_eq t1 ) _
theorem off17_eq : ∀ (t1 : T1), k0_off17 t1 = gDstOff ((22 * t1.val) % 12) 0 := by decide +kernel
@[sl_canon] theorem canon17 (t1 : T1)  (hh hs) :
    (wgM.slice (Rect.unit (s := S12x1024x512) (k0_off17 t1) S1x1024x256.size hh) hs).squeeze S1024x256 squeezes_S1x1024x256_S1024x256 = gDst ((22 * t1.val) % 12) 0 := gDst_congr (off17_eq t1 ) _ _
theorem off18_eq : ∀ (t1 : T1), k0_off18 t1 = gSrcOff ((22 * t1.val) / 22) (256 * ((22 * t1.val) % 22)) := by decide +kernel
@[sl_canon] theorem canon18 (t1 : T1)  (hh hs) :
    (wguH.slice (Rect.unit (s := S2x1024x11264) (k0_off18 t1) S1x1024x256.size hh) hs).squeeze S1024x256 squeezes_S1x1024x256_S1024x256 = gSrc ((22 * t1.val) / 22) (256 * ((22 * t1.val) % 22)) := gSrc_congr (off18_eq t1 ) _ _
theorem off19_eq : ∀ (t1 : T1), k0_off19 t1 = gDstOff ((22 * t1.val) % 12) 256 := by decide +kernel
@[sl_canon] theorem canon19 (t1 : T1)  (hh hs) :
    (wgM.slice (Rect.unit (s := S12x1024x512) (k0_off19 t1) S1x1024x256.size hh) hs).squeeze S1024x256 squeezes_S1x1024x256_S1024x256 = gDst ((22 * t1.val) % 12) 256 := gDst_congr (off19_eq t1 ) _ _
theorem off20_eq : ∀ (t1 : T1), k0_off20 t1 = gSrcOff ((22 * t1.val) / 22) (5632 + 256 * ((22 * t1.val) % 22)) := by decide +kernel
@[sl_canon] theorem canon20 (t1 : T1)  (hh hs) :
    (wguH.slice (Rect.unit (s := S2x1024x11264) (k0_off20 t1) S1x1024x256.size hh) hs).squeeze S1024x256 squeezes_S1x1024x256_S1024x256 = gSrc ((22 * t1.val) / 22) (5632 + 256 * ((22 * t1.val) % 22)) := gSrc_congr (off20_eq t1 ) _ _
theorem off21_eq : ∀ (t1 : T1), k0_off21 t1 = sgDstOff ((22 * t1.val) % 12) 0 := by decide +kernel
@[sl_canon] theorem canon21 (t1 : T1)  (hh hs) :
    (sgM.slice (Rect.unit (s := S12x64x512) (k0_off21 t1) S1x64x256.size hh) hs).squeeze S64x256 squeezes_S1x64x256_S64x256 = sgDst ((22 * t1.val) % 12) 0 := sgDst_congr (off21_eq t1 ) _ _
theorem off22_eq : ∀ (t1 : T1), k0_off22 t1 = sgSrcOff ((22 * t1.val) / 22) (256 * ((22 * t1.val) % 22)) := by decide +kernel
@[sl_canon] theorem canon22 (t1 : T1)  (hh hs) :
    (sguH.slice (Rect.unit (s := S2x64x11264) (k0_off22 t1) S1x64x256.size hh) hs).squeeze S64x256 squeezes_S1x64x256_S64x256 = sgSrc ((22 * t1.val) / 22) (256 * ((22 * t1.val) % 22)) := sgSrc_congr (off22_eq t1 ) _ _
theorem off23_eq : ∀ (t1 : T1), k0_off23 t1 = sgDstOff ((22 * t1.val) % 12) 256 := by decide +kernel
@[sl_canon] theorem canon23 (t1 : T1)  (hh hs) :
    (sgM.slice (Rect.unit (s := S12x64x512) (k0_off23 t1) S1x64x256.size hh) hs).squeeze S64x256 squeezes_S1x64x256_S64x256 = sgDst ((22 * t1.val) % 12) 256 := sgDst_congr (off23_eq t1 ) _ _
theorem off24_eq : ∀ (t1 : T1), k0_off24 t1 = sgSrcOff ((22 * t1.val) / 22) (5632 + 256 * ((22 * t1.val) % 22)) := by decide +kernel
@[sl_canon] theorem canon24 (t1 : T1)  (hh hs) :
    (sguH.slice (Rect.unit (s := S2x64x11264) (k0_off24 t1) S1x64x256.size hh) hs).squeeze S64x256 squeezes_S1x64x256_S64x256 = sgSrc ((22 * t1.val) / 22) (5632 + 256 * ((22 * t1.val) % 22)) := sgSrc_congr (off24_eq t1 ) _ _
theorem off25_eq : ∀ (t1 : T1), k0_off25 t1 = dSlotOff ((22 * t1.val) % 12) := by decide +kernel
@[sl_canon] theorem canon25 (t1 : T1)  (hh hs) :
    (wdM.slice (Rect.unit (s := S12x128x2048) (k0_off25 t1) S1x128x2048.size hh) hs).squeeze S128x2048 squeezes_S1x128x2048_S128x2048 = dSlot ((22 * t1.val) % 12) := dSlot_congr (off25_eq t1 ) _ _
theorem off26_eq : ∀ (t1 : T1), k0_off26 t1 = dSrcOff ((22 * t1.val) / 22) (128 * ((22 * t1.val) % 22)) := by decide +kernel
@[sl_canon] theorem canon26 (t1 : T1)  (hh hs) :
    (wdH.slice (Rect.unit (s := S2x2816x2048) (k0_off26 t1) S1x128x2048.size hh) hs).squeeze S128x2048 squeezes_S1x128x2048_S128x2048 = dSrc ((22 * t1.val) / 22) (128 * ((22 * t1.val) % 22)) := dSrc_congr (off26_eq t1 ) _ _
theorem off27_eq : ∀ (t1 : T1), k0_off27 t1 = sdSlotOff ((22 * t1.val) % 12) := by decide +kernel
@[sl_canon] theorem canon27 (t1 : T1)  (hh hs) :
    (sdM.slice (Rect.unit (s := S12x8x2048) (k0_off27 t1) S1x8x2048.size hh) hs).squeeze S8x2048 squeezes_S1x8x2048_S8x2048 = sdSlot ((22 * t1.val) % 12) := sdSlot_congr (off27_eq t1 ) _ _
theorem off28_eq : ∀ (t1 : T1), k0_off28 t1 = sdSrcOff ((22 * t1.val) / 22) (8 * ((22 * t1.val) % 22)) := by decide +kernel
@[sl_canon] theorem canon28 (t1 : T1)  (hh hs) :
    (sdH.slice (Rect.unit (s := S2x176x2048) (k0_off28 t1) S1x8x2048.size hh) hs).squeeze S8x2048 squeezes_S1x8x2048_S8x2048 = sdSrc ((22 * t1.val) / 22) (8 * ((22 * t1.val) % 22)) := sdSrc_congr (off28_eq t1 ) _ _

theorem off29_eq : ∀ (t1 : T1), k0_off29 t1 = gSlotOff ((22 * t1.val) % 12) := by decide +kernel
@[sl_canon] theorem canon29 (t1 : T1)  (hh hs) :
    (wgM.slice (Rect.unit (s := S12x1024x512) (k0_off29 t1) S1x1024x512.size hh) hs).squeeze S1024x512 squeezes_S1x1024x512_S1024x512 = gSlot ((22 * t1.val) % 12) := gSlot_congr (off29_eq t1 ) _ _
theorem off30_eq : ∀ (t1 : T1), k0_off30 t1 = sgSlotOff ((22 * t1.val) % 12) := by decide +kernel
@[sl_canon] theorem canon30 (t1 : T1)  (hh hs) :
    (sgM.slice (Rect.unit (s := S12x64x512) (k0_off30 t1) S1x64x512.size hh) hs).squeeze S64x512 squeezes_S1x64x512_S64x512 = sgSlot ((22 * t1.val) % 12) := sgSlot_congr (off30_eq t1 ) _ _
/-! The refill of a step. -/

theorem off31_eq : ∀ (t1 : T1) (t2 : T2), k0_cond2 t1 t2 = 1#1 → k0_off31 t1 t2 = csmOff (((22 * t1.val + t2.val + 11) % 12)) := by decide +kernel
@[sl_canon] theorem canon31 (t1 : T1) (t2 : T2) (h : k0_cond2 t1 t2 = 1#1) (hh) :
    (cc0_scoped1.slice (Rect.unit (s := S12) (k0_off31 t1 t2) S1.size hh)).squeeze S_ squeezes_S1_S_ = csm (((22 * t1.val + t2.val + 11) % 12)) := csm_congr (off31_eq t1 t2 h) _
theorem off32_eq : ∀ (t1 : T1) (t2 : T2), k0_cond2 t1 t2 = 1#1 → k0_off32 t1 t2 = gDstOff ((22 * t1.val + t2.val + 11) % 12) 0 := by decide +kernel
@[sl_canon] theorem canon32 (t1 : T1) (t2 : T2) (h : k0_cond2 t1 t2 = 1#1) (hh hs) :
    (wgM.slice (Rect.unit (s := S12x1024x512) (k0_off32 t1 t2) S1x1024x256.size hh) hs).squeeze S1024x256 squeezes_S1x1024x256_S1024x256 = gDst ((22 * t1.val + t2.val + 11) % 12) 0 := gDst_congr (off32_eq t1 t2 h) _ _
theorem off33_eq : ∀ (t1 : T1) (t2 : T2), k0_cond2 t1 t2 = 1#1 → k0_off33 t1 t2 = gSrcOff ((22 * t1.val + t2.val + 11) / 22) (256 * ((22 * t1.val + t2.val + 11) % 22)) := by decide +kernel
@[sl_canon] theorem canon33 (t1 : T1) (t2 : T2) (h : k0_cond2 t1 t2 = 1#1) (hh hs) :
    (wguH.slice (Rect.unit (s := S2x1024x11264) (k0_off33 t1 t2) S1x1024x256.size hh) hs).squeeze S1024x256 squeezes_S1x1024x256_S1024x256 = gSrc ((22 * t1.val + t2.val + 11) / 22) (256 * ((22 * t1.val + t2.val + 11) % 22)) := gSrc_congr (off33_eq t1 t2 h) _ _
theorem off34_eq : ∀ (t1 : T1) (t2 : T2), k0_cond2 t1 t2 = 1#1 → k0_off34 t1 t2 = gDstOff ((22 * t1.val + t2.val + 11) % 12) 256 := by decide +kernel
@[sl_canon] theorem canon34 (t1 : T1) (t2 : T2) (h : k0_cond2 t1 t2 = 1#1) (hh hs) :
    (wgM.slice (Rect.unit (s := S12x1024x512) (k0_off34 t1 t2) S1x1024x256.size hh) hs).squeeze S1024x256 squeezes_S1x1024x256_S1024x256 = gDst ((22 * t1.val + t2.val + 11) % 12) 256 := gDst_congr (off34_eq t1 t2 h) _ _
theorem off35_eq : ∀ (t1 : T1) (t2 : T2), k0_cond2 t1 t2 = 1#1 → k0_off35 t1 t2 = gSrcOff ((22 * t1.val + t2.val + 11) / 22) (5632 + 256 * ((22 * t1.val + t2.val + 11) % 22)) := by decide +kernel
@[sl_canon] theorem canon35 (t1 : T1) (t2 : T2) (h : k0_cond2 t1 t2 = 1#1) (hh hs) :
    (wguH.slice (Rect.unit (s := S2x1024x11264) (k0_off35 t1 t2) S1x1024x256.size hh) hs).squeeze S1024x256 squeezes_S1x1024x256_S1024x256 = gSrc ((22 * t1.val + t2.val + 11) / 22) (5632 + 256 * ((22 * t1.val + t2.val + 11) % 22)) := gSrc_congr (off35_eq t1 t2 h) _ _
theorem off36_eq : ∀ (t1 : T1) (t2 : T2), k0_cond2 t1 t2 = 1#1 → k0_off36 t1 t2 = sgDstOff ((22 * t1.val + t2.val + 11) % 12) 0 := by decide +kernel
@[sl_canon] theorem canon36 (t1 : T1) (t2 : T2) (h : k0_cond2 t1 t2 = 1#1) (hh hs) :
    (sgM.slice (Rect.unit (s := S12x64x512) (k0_off36 t1 t2) S1x64x256.size hh) hs).squeeze S64x256 squeezes_S1x64x256_S64x256 = sgDst ((22 * t1.val + t2.val + 11) % 12) 0 := sgDst_congr (off36_eq t1 t2 h) _ _
theorem off37_eq : ∀ (t1 : T1) (t2 : T2), k0_cond2 t1 t2 = 1#1 → k0_off37 t1 t2 = sgSrcOff ((22 * t1.val + t2.val + 11) / 22) (256 * ((22 * t1.val + t2.val + 11) % 22)) := by decide +kernel
@[sl_canon] theorem canon37 (t1 : T1) (t2 : T2) (h : k0_cond2 t1 t2 = 1#1) (hh hs) :
    (sguH.slice (Rect.unit (s := S2x64x11264) (k0_off37 t1 t2) S1x64x256.size hh) hs).squeeze S64x256 squeezes_S1x64x256_S64x256 = sgSrc ((22 * t1.val + t2.val + 11) / 22) (256 * ((22 * t1.val + t2.val + 11) % 22)) := sgSrc_congr (off37_eq t1 t2 h) _ _
theorem off38_eq : ∀ (t1 : T1) (t2 : T2), k0_cond2 t1 t2 = 1#1 → k0_off38 t1 t2 = sgDstOff ((22 * t1.val + t2.val + 11) % 12) 256 := by decide +kernel
@[sl_canon] theorem canon38 (t1 : T1) (t2 : T2) (h : k0_cond2 t1 t2 = 1#1) (hh hs) :
    (sgM.slice (Rect.unit (s := S12x64x512) (k0_off38 t1 t2) S1x64x256.size hh) hs).squeeze S64x256 squeezes_S1x64x256_S64x256 = sgDst ((22 * t1.val + t2.val + 11) % 12) 256 := sgDst_congr (off38_eq t1 t2 h) _ _
theorem off39_eq : ∀ (t1 : T1) (t2 : T2), k0_cond2 t1 t2 = 1#1 → k0_off39 t1 t2 = sgSrcOff ((22 * t1.val + t2.val + 11) / 22) (5632 + 256 * ((22 * t1.val + t2.val + 11) % 22)) := by decide +kernel
@[sl_canon] theorem canon39 (t1 : T1) (t2 : T2) (h : k0_cond2 t1 t2 = 1#1) (hh hs) :
    (sguH.slice (Rect.unit (s := S2x64x11264) (k0_off39 t1 t2) S1x64x256.size hh) hs).squeeze S64x256 squeezes_S1x64x256_S64x256 = sgSrc ((22 * t1.val + t2.val + 11) / 22) (5632 + 256 * ((22 * t1.val + t2.val + 11) % 22)) := sgSrc_congr (off39_eq t1 t2 h) _ _
theorem off40_eq : ∀ (t1 : T1) (t2 : T2), k0_cond2 t1 t2 = 1#1 → k0_off40 t1 t2 = dSlotOff ((22 * t1.val + t2.val + 11) % 12) := by decide +kernel
@[sl_canon] theorem canon40 (t1 : T1) (t2 : T2) (h : k0_cond2 t1 t2 = 1#1) (hh hs) :
    (wdM.slice (Rect.unit (s := S12x128x2048) (k0_off40 t1 t2) S1x128x2048.size hh) hs).squeeze S128x2048 squeezes_S1x128x2048_S128x2048 = dSlot ((22 * t1.val + t2.val + 11) % 12) := dSlot_congr (off40_eq t1 t2 h) _ _
theorem off41_eq : ∀ (t1 : T1) (t2 : T2), k0_cond2 t1 t2 = 1#1 → k0_off41 t1 t2 = dSrcOff ((22 * t1.val + t2.val + 11) / 22) (128 * ((22 * t1.val + t2.val + 11) % 22)) := by decide +kernel
@[sl_canon] theorem canon41 (t1 : T1) (t2 : T2) (h : k0_cond2 t1 t2 = 1#1) (hh hs) :
    (wdH.slice (Rect.unit (s := S2x2816x2048) (k0_off41 t1 t2) S1x128x2048.size hh) hs).squeeze S128x2048 squeezes_S1x128x2048_S128x2048 = dSrc ((22 * t1.val + t2.val + 11) / 22) (128 * ((22 * t1.val + t2.val + 11) % 22)) := dSrc_congr (off41_eq t1 t2 h) _ _
theorem off42_eq : ∀ (t1 : T1) (t2 : T2), k0_cond2 t1 t2 = 1#1 → k0_off42 t1 t2 = sdSlotOff ((22 * t1.val + t2.val + 11) % 12) := by decide +kernel
@[sl_canon] theorem canon42 (t1 : T1) (t2 : T2) (h : k0_cond2 t1 t2 = 1#1) (hh hs) :
    (sdM.slice (Rect.unit (s := S12x8x2048) (k0_off42 t1 t2) S1x8x2048.size hh) hs).squeeze S8x2048 squeezes_S1x8x2048_S8x2048 = sdSlot ((22 * t1.val + t2.val + 11) % 12) := sdSlot_congr (off42_eq t1 t2 h) _ _
theorem off43_eq : ∀ (t1 : T1) (t2 : T2), k0_cond2 t1 t2 = 1#1 → k0_off43 t1 t2 = sdSrcOff ((22 * t1.val + t2.val + 11) / 22) (8 * ((22 * t1.val + t2.val + 11) % 22)) := by decide +kernel
@[sl_canon] theorem canon43 (t1 : T1) (t2 : T2) (h : k0_cond2 t1 t2 = 1#1) (hh hs) :
    (sdH.slice (Rect.unit (s := S2x176x2048) (k0_off43 t1 t2) S1x8x2048.size hh) hs).squeeze S8x2048 squeezes_S1x8x2048_S8x2048 = sdSrc ((22 * t1.val + t2.val + 11) / 22) (8 * ((22 * t1.val + t2.val + 11) % 22)) := sdSrc_congr (off43_eq t1 t2 h) _ _

/-! The wait of a step. -/

theorem off44_eq : ∀ (t1 : T1) (t2 : T2), k0_off44 t1 t2 = csmOff (((22 * t1.val + t2.val + 1) % 12)) := by decide +kernel
@[sl_canon] theorem canon44 (t1 : T1) (t2 : T2)  (hh) :
    (cc0_scoped1.slice (Rect.unit (s := S12) (k0_off44 t1 t2) S1.size hh)).squeeze S_ squeezes_S1_S_ = csm (((22 * t1.val + t2.val + 1) % 12)) := csm_congr (off44_eq t1 t2 ) _
theorem off45_eq : ∀ (t1 : T1) (t2 : T2), k0_off45 t1 t2 = gDstOff ((22 * t1.val + t2.val + 1) % 12) 0 := by decide +kernel
@[sl_canon] theorem canon45 (t1 : T1) (t2 : T2)  (hh hs) :
    (wgM.slice (Rect.unit (s := S12x1024x512) (k0_off45 t1 t2) S1x1024x256.size hh) hs).squeeze S1024x256 squeezes_S1x1024x256_S1024x256 = gDst ((22 * t1.val + t2.val + 1) % 12) 0 := gDst_congr (off45_eq t1 t2 ) _ _
theorem off46_eq : ∀ (t1 : T1) (t2 : T2), k0_off46 t1 t2 = gSrcOff ((22 * t1.val + t2.val + 1) / 22) (256 * ((22 * t1.val + t2.val + 1) % 22)) := by decide +kernel
@[sl_canon] theorem canon46 (t1 : T1) (t2 : T2)  (hh hs) :
    (wguH.slice (Rect.unit (s := S2x1024x11264) (k0_off46 t1 t2) S1x1024x256.size hh) hs).squeeze S1024x256 squeezes_S1x1024x256_S1024x256 = gSrc ((22 * t1.val + t2.val + 1) / 22) (256 * ((22 * t1.val + t2.val + 1) % 22)) := gSrc_congr (off46_eq t1 t2 ) _ _
theorem off47_eq : ∀ (t1 : T1) (t2 : T2), k0_off47 t1 t2 = gDstOff ((22 * t1.val + t2.val + 1) % 12) 256 := by decide +kernel
@[sl_canon] theorem canon47 (t1 : T1) (t2 : T2)  (hh hs) :
    (wgM.slice (Rect.unit (s := S12x1024x512) (k0_off47 t1 t2) S1x1024x256.size hh) hs).squeeze S1024x256 squeezes_S1x1024x256_S1024x256 = gDst ((22 * t1.val + t2.val + 1) % 12) 256 := gDst_congr (off47_eq t1 t2 ) _ _
theorem off48_eq : ∀ (t1 : T1) (t2 : T2), k0_off48 t1 t2 = gSrcOff ((22 * t1.val + t2.val + 1) / 22) (5632 + 256 * ((22 * t1.val + t2.val + 1) % 22)) := by decide +kernel
@[sl_canon] theorem canon48 (t1 : T1) (t2 : T2)  (hh hs) :
    (wguH.slice (Rect.unit (s := S2x1024x11264) (k0_off48 t1 t2) S1x1024x256.size hh) hs).squeeze S1024x256 squeezes_S1x1024x256_S1024x256 = gSrc ((22 * t1.val + t2.val + 1) / 22) (5632 + 256 * ((22 * t1.val + t2.val + 1) % 22)) := gSrc_congr (off48_eq t1 t2 ) _ _
theorem off49_eq : ∀ (t1 : T1) (t2 : T2), k0_off49 t1 t2 = sgDstOff ((22 * t1.val + t2.val + 1) % 12) 0 := by decide +kernel
@[sl_canon] theorem canon49 (t1 : T1) (t2 : T2)  (hh hs) :
    (sgM.slice (Rect.unit (s := S12x64x512) (k0_off49 t1 t2) S1x64x256.size hh) hs).squeeze S64x256 squeezes_S1x64x256_S64x256 = sgDst ((22 * t1.val + t2.val + 1) % 12) 0 := sgDst_congr (off49_eq t1 t2 ) _ _
theorem off50_eq : ∀ (t1 : T1) (t2 : T2), k0_off50 t1 t2 = sgSrcOff ((22 * t1.val + t2.val + 1) / 22) (256 * ((22 * t1.val + t2.val + 1) % 22)) := by decide +kernel
@[sl_canon] theorem canon50 (t1 : T1) (t2 : T2)  (hh hs) :
    (sguH.slice (Rect.unit (s := S2x64x11264) (k0_off50 t1 t2) S1x64x256.size hh) hs).squeeze S64x256 squeezes_S1x64x256_S64x256 = sgSrc ((22 * t1.val + t2.val + 1) / 22) (256 * ((22 * t1.val + t2.val + 1) % 22)) := sgSrc_congr (off50_eq t1 t2 ) _ _
theorem off51_eq : ∀ (t1 : T1) (t2 : T2), k0_off51 t1 t2 = sgDstOff ((22 * t1.val + t2.val + 1) % 12) 256 := by decide +kernel
@[sl_canon] theorem canon51 (t1 : T1) (t2 : T2)  (hh hs) :
    (sgM.slice (Rect.unit (s := S12x64x512) (k0_off51 t1 t2) S1x64x256.size hh) hs).squeeze S64x256 squeezes_S1x64x256_S64x256 = sgDst ((22 * t1.val + t2.val + 1) % 12) 256 := sgDst_congr (off51_eq t1 t2 ) _ _
theorem off52_eq : ∀ (t1 : T1) (t2 : T2), k0_off52 t1 t2 = sgSrcOff ((22 * t1.val + t2.val + 1) / 22) (5632 + 256 * ((22 * t1.val + t2.val + 1) % 22)) := by decide +kernel
@[sl_canon] theorem canon52 (t1 : T1) (t2 : T2)  (hh hs) :
    (sguH.slice (Rect.unit (s := S2x64x11264) (k0_off52 t1 t2) S1x64x256.size hh) hs).squeeze S64x256 squeezes_S1x64x256_S64x256 = sgSrc ((22 * t1.val + t2.val + 1) / 22) (5632 + 256 * ((22 * t1.val + t2.val + 1) % 22)) := sgSrc_congr (off52_eq t1 t2 ) _ _
theorem off53_eq : ∀ (t1 : T1) (t2 : T2), k0_off53 t1 t2 = dSlotOff ((22 * t1.val + t2.val + 1) % 12) := by decide +kernel
@[sl_canon] theorem canon53 (t1 : T1) (t2 : T2)  (hh hs) :
    (wdM.slice (Rect.unit (s := S12x128x2048) (k0_off53 t1 t2) S1x128x2048.size hh) hs).squeeze S128x2048 squeezes_S1x128x2048_S128x2048 = dSlot ((22 * t1.val + t2.val + 1) % 12) := dSlot_congr (off53_eq t1 t2 ) _ _
theorem off54_eq : ∀ (t1 : T1) (t2 : T2), k0_off54 t1 t2 = dSrcOff ((22 * t1.val + t2.val + 1) / 22) (128 * ((22 * t1.val + t2.val + 1) % 22)) := by decide +kernel
@[sl_canon] theorem canon54 (t1 : T1) (t2 : T2)  (hh hs) :
    (wdH.slice (Rect.unit (s := S2x2816x2048) (k0_off54 t1 t2) S1x128x2048.size hh) hs).squeeze S128x2048 squeezes_S1x128x2048_S128x2048 = dSrc ((22 * t1.val + t2.val + 1) / 22) (128 * ((22 * t1.val + t2.val + 1) % 22)) := dSrc_congr (off54_eq t1 t2 ) _ _
theorem off55_eq : ∀ (t1 : T1) (t2 : T2), k0_off55 t1 t2 = sdSlotOff ((22 * t1.val + t2.val + 1) % 12) := by decide +kernel
@[sl_canon] theorem canon55 (t1 : T1) (t2 : T2)  (hh hs) :
    (sdM.slice (Rect.unit (s := S12x8x2048) (k0_off55 t1 t2) S1x8x2048.size hh) hs).squeeze S8x2048 squeezes_S1x8x2048_S8x2048 = sdSlot ((22 * t1.val + t2.val + 1) % 12) := sdSlot_congr (off55_eq t1 t2 ) _ _
theorem off56_eq : ∀ (t1 : T1) (t2 : T2), k0_off56 t1 t2 = sdSrcOff ((22 * t1.val + t2.val + 1) / 22) (8 * ((22 * t1.val + t2.val + 1) % 22)) := by decide +kernel
@[sl_canon] theorem canon56 (t1 : T1) (t2 : T2)  (hh hs) :
    (sdH.slice (Rect.unit (s := S2x176x2048) (k0_off56 t1 t2) S1x8x2048.size hh) hs).squeeze S8x2048 squeezes_S1x8x2048_S8x2048 = sdSrc ((22 * t1.val + t2.val + 1) / 22) (8 * ((22 * t1.val + t2.val + 1) % 22)) := sdSrc_congr (off56_eq t1 t2 ) _ _

theorem off57_eq : ∀ (t1 : T1) (t2 : T2), k0_off57 t1 t2 = gSlotOff ((22 * t1.val + t2.val + 1) % 12) := by decide +kernel
@[sl_canon] theorem canon57 (t1 : T1) (t2 : T2)  (hh hs) :
    (wgM.slice (Rect.unit (s := S12x1024x512) (k0_off57 t1 t2) S1x1024x512.size hh) hs).squeeze S1024x512 squeezes_S1x1024x512_S1024x512 = gSlot ((22 * t1.val + t2.val + 1) % 12) := gSlot_congr (off57_eq t1 t2 ) _ _
theorem off58_eq : ∀ (t1 : T1) (t2 : T2), k0_off58 t1 t2 = sgSlotOff ((22 * t1.val + t2.val + 1) % 12) := by decide +kernel
@[sl_canon] theorem canon58 (t1 : T1) (t2 : T2)  (hh hs) :
    (sgM.slice (Rect.unit (s := S12x64x512) (k0_off58 t1 t2) S1x64x512.size hh) hs).squeeze S64x512 squeezes_S1x64x512_S64x512 = sgSlot ((22 * t1.val + t2.val + 1) % 12) := sgSlot_congr (off58_eq t1 t2 ) _ _
theorem off59_eq : ∀ (t1 : T1) (t2 : T2), k0_off59 t1 t2 = dSlotOff ((22 * t1.val + t2.val) % 12) := by decide +kernel
@[sl_canon] theorem canon59 (t1 : T1) (t2 : T2)  (hh hs) :
    (wdM.slice (Rect.unit (s := S12x128x2048) (k0_off59 t1 t2) S1x128x2048.size hh) hs).squeeze S128x2048 squeezes_S1x128x2048_S128x2048 = dSlot ((22 * t1.val + t2.val) % 12) := dSlot_congr (off59_eq t1 t2 ) _ _
theorem off60_eq : ∀ (t1 : T1) (t2 : T2), k0_off60 t1 t2 = sdSlotOff ((22 * t1.val + t2.val) % 12) := by decide +kernel
@[sl_canon] theorem canon60 (t1 : T1) (t2 : T2)  (hh hs) :
    (sdM.slice (Rect.unit (s := S12x8x2048) (k0_off60 t1 t2) S1x8x2048.size hh) hs).squeeze S8x2048 squeezes_S1x8x2048_S8x2048 = sdSlot ((22 * t1.val + t2.val) % 12) := sdSlot_congr (off60_eq t1 t2 ) _ _
theorem off61_eq : ∀ (t1 : T1), k0_off61 t1 = dSlotOff ((22 * t1.val + 21) % 12) := by decide +kernel
@[sl_canon] theorem canon61 (t1 : T1)  (hh hs) :
    (wdM.slice (Rect.unit (s := S12x128x2048) (k0_off61 t1) S1x128x2048.size hh) hs).squeeze S128x2048 squeezes_S1x128x2048_S128x2048 = dSlot ((22 * t1.val + 21) % 12) := dSlot_congr (off61_eq t1 ) _ _
theorem off62_eq : ∀ (t1 : T1), k0_off62 t1 = sdSlotOff ((22 * t1.val + 21) % 12) := by decide +kernel
@[sl_canon] theorem canon62 (t1 : T1)  (hh hs) :
    (sdM.slice (Rect.unit (s := S12x8x2048) (k0_off62 t1) S1x8x2048.size hh) hs).squeeze S8x2048 squeezes_S1x8x2048_S8x2048 = sdSlot ((22 * t1.val + 21) % 12) := sdSlot_congr (off62_eq t1 ) _ _
theorem off79_eq : ∀ (t1 : T1), k0_off79 t1 = rSlotOff t1.val := by decide +kernel
@[sl_canon] theorem canon79 (t1 : T1)  (hh hs) :
    (rhM.slice (Rect.unit (s := S3x80x2048) (k0_off79 t1) S1x80x2048.size hh) hs).squeeze S80x2048 squeezes_S1x80x2048_S80x2048 = rSlot t1.val := rSlot_congr (off79_eq t1 ) _ _
theorem off1_eq : ∀ (t1 : T1), k0_off1 t1 = hOutOff t1.val := by decide +kernel
@[sl_canon] theorem canon1 (t1 : T1)  (hh hs) :
    (hidH.slice (Rect.unit (s := S2x80x2048) (k0_off1 t1) S1x80x2048.size hh) hs).squeeze S80x2048 squeezes_S1x80x2048_S80x2048 = hOut t1.val := hOut_congr (off1_eq t1 ) _ _

/-! ## The prologue's and the epilogue's literal offsets -/

@[sl_canon] theorem litGSrc (l x : ℕ) (hh hs) :
    (wguH.slice (Rect.unit (s := S2x1024x11264) ![l, 0, x] S1x1024x256.size hh) hs).squeeze S1024x256 squeezes_S1x1024x256_S1024x256 = gSrc l x :=
  gSrc_congr (by
    have h0 := hh 0; have h1 := hh 1; have h2 := hh 2
    simp [S2x1024x11264, S1x1024x256] at h0 h1 h2
    funext a; fin_cases a <;> simp <;> omega) _ _
@[sl_canon] theorem litSgSrc (l x : ℕ) (hh hs) :
    (sguH.slice (Rect.unit (s := S2x64x11264) ![l, 0, x] S1x64x256.size hh) hs).squeeze S64x256 squeezes_S1x64x256_S64x256 = sgSrc l x :=
  sgSrc_congr (by
    have h0 := hh 0; have h1 := hh 1; have h2 := hh 2
    simp [S2x64x11264, S1x64x256] at h0 h1 h2
    funext a; fin_cases a <;> simp <;> omega) _ _
@[sl_canon] theorem litDSrc (l x : ℕ) (hh hs) :
    (wdH.slice (Rect.unit (s := S2x2816x2048) ![l, x, 0] S1x128x2048.size hh) hs).squeeze S128x2048 squeezes_S1x128x2048_S128x2048 = dSrc l x :=
  dSrc_congr (by
    have h0 := hh 0; have h1 := hh 1; have h2 := hh 2
    simp [S2x2816x2048, S1x128x2048] at h0 h1 h2
    funext a; fin_cases a <;> simp <;> omega) _ _
@[sl_canon] theorem litSdSrc (l x : ℕ) (hh hs) :
    (sdH.slice (Rect.unit (s := S2x176x2048) ![l, x, 0] S1x8x2048.size hh) hs).squeeze S8x2048 squeezes_S1x8x2048_S8x2048 = sdSrc l x :=
  sdSrc_congr (by
    have h0 := hh 0; have h1 := hh 1; have h2 := hh 2
    simp [S2x176x2048, S1x8x2048] at h0 h1 h2
    funext a; fin_cases a <;> simp <;> omega) _ _
@[sl_canon] theorem litGDst (s x : ℕ) (hh hs) :
    (wgM.slice (Rect.unit (s := S12x1024x512) ![s, 0, x] S1x1024x256.size hh) hs).squeeze S1024x256 squeezes_S1x1024x256_S1024x256 = gDst s x :=
  gDst_congr (by
    have h0 := hh 0; have h1 := hh 1; have h2 := hh 2
    simp [S12x1024x512, S1x1024x256] at h0 h1 h2
    funext a; fin_cases a <;> simp <;> omega) _ _
@[sl_canon] theorem litSgDst (s x : ℕ) (hh hs) :
    (sgM.slice (Rect.unit (s := S12x64x512) ![s, 0, x] S1x64x256.size hh) hs).squeeze S64x256 squeezes_S1x64x256_S64x256 = sgDst s x :=
  sgDst_congr (by
    have h0 := hh 0; have h1 := hh 1; have h2 := hh 2
    simp [S12x64x512, S1x64x256] at h0 h1 h2
    funext a; fin_cases a <;> simp <;> omega) _ _
@[sl_canon] theorem litDSlot (s : ℕ) (hh hs) :
    (wdM.slice (Rect.unit (s := S12x128x2048) ![s, 0, 0] S1x128x2048.size hh) hs).squeeze S128x2048 squeezes_S1x128x2048_S128x2048 = dSlot s :=
  dSlot_congr (by
    have h0 := hh 0; have h1 := hh 1; have h2 := hh 2
    simp [S12x128x2048, S1x128x2048] at h0 h1 h2
    funext a; fin_cases a <;> simp <;> omega) _ _
@[sl_canon] theorem litSdSlot (s : ℕ) (hh hs) :
    (sdM.slice (Rect.unit (s := S12x8x2048) ![s, 0, 0] S1x8x2048.size hh) hs).squeeze S8x2048 squeezes_S1x8x2048_S8x2048 = sdSlot s :=
  sdSlot_congr (by
    have h0 := hh 0; have h1 := hh 1; have h2 := hh 2
    simp [S12x8x2048, S1x8x2048] at h0 h1 h2
    funext a; fin_cases a <;> simp <;> omega) _ _
@[sl_canon] theorem litRSlot0 (hh hs) :
    (rhM.slice (Rect.unit (s := S3x80x2048) ![1, 0, 0] S1x80x2048.size hh) hs).squeeze S80x2048 squeezes_S1x80x2048_S80x2048 = rSlot 0 :=
  rSlot_congr (by decide) _ _
@[sl_canon] theorem litRSlot1 (hh hs) :
    (rhM.slice (Rect.unit (s := S3x80x2048) ![2, 0, 0] S1x80x2048.size hh) hs).squeeze S80x2048 squeezes_S1x80x2048_S80x2048 = rSlot 1 :=
  rSlot_congr (by decide) _ _
@[sl_canon] theorem litHOut (s : ℕ) (hh hs) :
    (hidH.slice (Rect.unit (s := S2x80x2048) ![s, 0, 0] S1x80x2048.size hh) hs).squeeze S80x2048 squeezes_S1x80x2048_S80x2048 = hOut s :=
  hOut_congr (by
    have h0 := hh 0; have h1 := hh 1; have h2 := hh 2
    simp [S2x80x2048, S1x80x2048] at h0 h1 h2
    funext a; fin_cases a <;> simp <;> omega) _ _
@[sl_canon] theorem litCsm (s : ℕ) (hh) :
    (cc0_scoped1.slice (Rect.unit (s := S12) ![s] S1.size hh)).squeeze S_ squeezes_S1_S_ = csm s :=
  csm_congr (by
    have h0 := hh 0
    simp [S12, S1] at h0
    funext a; fin_cases a; simp; omega) _

end Cert.Proof.Mlp
-- ==== Proof.Ring.lean ====
/-
  What the ring's resources are: a chunk's six blocks at home in HBM, a slot free, a slot in flight with a chunk, a slot
  landed — and how one becomes the other.
-/
module

public import proofs.«01_k».proof.Proof.Canon
public import Idealize.ShloMosaic.Lib.Pipeline.Frame
public import Idealize.ShloMosaic.Lib.ViewIndex
public import Idealize.ShloMosaic.Lib.ValueIdxCore

@[expose] public section

set_option backward.isDefEq.respectTransparency.types false

noncomputable section

namespace Cert.Proof.Mlp

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline library's beside the transfers' counters. -/
abbrev UU (nD : Nat) (τ : Topo) : Type := Pipeline.UD sig nD τ
abbrev 𝒱₀ : Variants := Variants.none

local notation "𝕄" => MT nD τ sig Unit (Elt F) ℕ (UU nD τ) ℕ

/-- The contents of a view's buffer. -/
abbrev Cts (c : Dev nD) {sp : Space} {S : Shape} {e : EltTy} (M : Memref sig .tc sp S e) : Type := Buf (Elt F) (M.view.loc (c : Thread nD τ))
/-- A view held by exactly its own elements, at contents `f` of its buffer. -/
abbrev own (c : Dev nD) {sp : Space} {S : Shape} {e : EltTy} (M : Memref sig .tc sp S e) (f : Cts (F := F) c M) : sProp 𝕄 :=
  M.view.loc (c : Thread nD τ) ↦[M.view.set]{fullShare} f

/-- The contents of the four weight arrays in HBM. -/
structure Wts (F : FTy → Type) (c : Dev nD) where
  gu : Cts (F := F) c wguH
  sgu : Cts (F := F) c sguH
  d : Cts (F := F) c wdH
  sd : Cts (F := F) c sdH

/-- What view `D` holds after the whole of view `S` is copied into it. -/
abbrev copied {c : Dev nD} {sp sp' : Space} {T : Shape} {e : EltTy} (D : Memref sig .tc sp T e) (S : Memref sig .tc sp' T e)
    (f : Cts (F := F) c D) (a : Cts (F := F) c S) : Cts (F := F) c D :=
  D.view.writes (Elt F) f [⟨Rect.whole T, ReadAs.same.apply (S.view.read (Elt F) a)⟩]

variable (c : Dev nD) (A : Wts F c)

/-! ## The six blocks of chunk `n`, and its slot -/

abbrev sl (n : ℕ) : ℕ := n % 12

abbrev gS (n : ℕ) := gSrc (n / 22) (256 * (n % 22))
abbrev uS (n : ℕ) := gSrc (n / 22) (5632 + 256 * (n % 22))
abbrev sgS (n : ℕ) := sgSrc (n / 22) (256 * (n % 22))
abbrev suS (n : ℕ) := sgSrc (n / 22) (5632 + 256 * (n % 22))
abbrev dS (n : ℕ) := dSrc (n / 22) (128 * (n % 22))
abbrev sdS (n : ℕ) := sdSrc (n / 22) (8 * (n % 22))

/-- Chunk `n` at home in HBM. -/
def homeP (n : ℕ) : sProp 𝕄 :=
  iprop(own c (gS n) A.gu ∗ own c (uS n) A.gu ∗ own c (sgS n) A.sgu ∗ own c (suS n) A.sgu ∗ own c (dS n) A.d ∗ own c (sdS n) A.sd)

/-- The semaphore of slot `s` at zero. -/
abbrev cellP (s : ℕ) : sProp 𝕄 := semVal ((c : Thread nD τ), SemLoc.dma (csm s).sem) 0

/-- Slot `n % 12` free, at any contents. -/
def freeP (n : ℕ) : sProp 𝕄 :=
  iprop(cellP c (sl n) ∗ (∃ f, own c (gDst (sl n) 0) f) ∗ (∃ f, own c (gDst (sl n) 256) f) ∗ (∃ f, own c (sgDst (sl n) 0) f)
    ∗ (∃ f, own c (sgDst (sl n) 256) f) ∗ (∃ f, own c (dSlot (sl n)) f) ∗ (∃ f, own c (sdSlot (sl n)) f))

/-- The six copies' amounts, in issue order. -/
abbrev amts : Fin 6 → ℕ := ![8192, 8192, 1024, 1024, 8192, 1024]

/-- What the six copies of chunk `n` deliver. -/
def deliv (n : ℕ) (f0 : Cts (F := F) c (gDst (sl n) 0)) (f1 : Cts (F := F) c (gDst (sl n) 256)) (f2 : Cts (F := F) c (sgDst (sl n) 0))
    (f3 : Cts (F := F) c (sgDst (sl n) 256)) (f4 : Cts (F := F) c (dSlot (sl n))) (f5 : Cts (F := F) c (sdSlot (sl n))) : Fin 6 → sProp 𝕄
  | 0 => iprop(own c (gDst (sl n) 0) (copied (gDst (sl n) 0) (gS n) f0 A.gu) ∗ own c (gS n) A.gu)
  | 1 => iprop(own c (gDst (sl n) 256) (copied (gDst (sl n) 256) (uS n) f1 A.gu) ∗ own c (uS n) A.gu)
  | 2 => iprop(own c (sgDst (sl n) 0) (copied (sgDst (sl n) 0) (sgS n) f2 A.sgu) ∗ own c (sgS n) A.sgu)
  | 3 => iprop(own c (sgDst (sl n) 256) (copied (sgDst (sl n) 256) (suS n) f3 A.sgu) ∗ own c (suS n) A.sgu)
  | 4 => iprop(own c (dSlot (sl n)) (copied (dSlot (sl n)) (dS n) f4 A.d) ∗ own c (dS n) A.d)
  | 5 => iprop(own c (sdSlot (sl n)) (copied (sdSlot (sl n)) (sdS n) f5 A.sd) ∗ own c (sdS n) A.sd)

instance deliv_storable (n : ℕ) (f0 : Cts (F := F) c (gDst (sl n) 0)) (f1 : Cts (F := F) c (gDst (sl n) 256)) (f2 : Cts (F := F) c (sgDst (sl n) 0))
    (f3 : Cts (F := F) c (sgDst (sl n) 256)) (f4 : Cts (F := F) c (dSlot (sl n))) (f5 : Cts (F := F) c (sdSlot (sl n))) (t : Fin 6) :
    Storable (upEmb : UEmb _ 𝕄) (deliv c A n f0 f1 f2 f3 f4 f5 t) := by
  fin_cases t <;> simp only [deliv] <;> infer_instance

/-- Slot `n % 12` in flight with chunk `n`, `k` of its copies issued and `u` units waited for. -/
def flightAt (n k u : ℕ) : sProp 𝕄 :=
  iprop(∃ f0 f1 f2 f3 f4 f5, Transfers.MixedBatch (Lvl := ℕ) (countersEmb (U := UU nD τ)) (c : Thread nD τ) (SemLoc.dma (csm (sl n)).sem) () amts
    (deliv c A n f0 f1 f2 f3 f4 f5) k u)
abbrev flightP (n : ℕ) : sProp 𝕄 := flightAt c A n 6 0

/-! ## A landed slot's contents -/

section Geo

/-- The element under an index of a two-dimensional block cut out of a three-dimensional view. -/
theorem blk_emb {κ : Kind} {sp : Space} {e : EltTy} {d : Fin 3 → ℕ} (v : View sig κ sp ⟨3, d⟩ e) (off : Fin 3 → ℕ) {p q : ℕ}
    (inb : ∀ a, off a + (⟨3, ![1, p, q]⟩ : Shape).size a ≤ (⟨3, d⟩ : Shape).size a)
    (h : (⟨2, ![p, q]⟩ : Shape).numel = (Rect.unit (s := ⟨3, d⟩) off (⟨3, ![1, p, q]⟩ : Shape).size inb).shape.numel) (y : (⟨2, ![p, q]⟩ : Shape).Idx) :
    ((v.slice (Rect.unit (s := ⟨3, d⟩) off (⟨3, ![1, p, q]⟩ : Shape).size inb)).reshape ⟨2, ![p, q]⟩ h).emb y
      = v.emb ((Rect.unit (s := ⟨3, d⟩) off (⟨3, ![1, p, q]⟩ : Shape).size inb).emb (Fin.cons ⟨0, Nat.one_pos⟩ y)) := by
  have h1 : ((v.slice (Rect.unit (s := ⟨3, d⟩) off (⟨3, ![1, p, q]⟩ : Shape).size inb)).reshape ⟨2, ![p, q]⟩ h).emb y
    = v.emb ((Rect.unit (s := ⟨3, d⟩) off (⟨3, ![1, p, q]⟩ : Shape).size inb).emb (Shape.reshapeEquiv h y)) := rfl
  rw [h1]
  exact congrArg (fun z => v.emb ((Rect.unit (s := ⟨3, d⟩) off (⟨3, ![1, p, q]⟩ : Shape).size inb).emb z)) (Shape.reshapeEquiv_cons_one h y)

theorem gDst_emb (s x : ℕ) (y : S1024x256.Idx) : ((gDst s x).view.emb y : S12x1024x512.Idx)
    = ix3 ⟨min s 11, by omega⟩ ⟨(y 0).val, (y 0).isLt⟩ ⟨min x 256 + (y 1).val, by have : (y 1).val < 256 := (y 1).isLt; omega⟩ := by
  refine @Eq.trans S12x1024x512.Idx _ _ _ (blk_emb wgM.view (gDstOff s x) (gDstOff_inb s x) _ y) ?_
  refine funext fun a => ?_
  fin_cases a <;> apply Fin.ext
  · show min s 11 + 1 * 0 = _; simp
  · show 0 + 1 * (y 0).val = _; simp
  · show min x 256 + 1 * (y 1).val = _; simp
theorem sgDst_emb (s x : ℕ) (y : S64x256.Idx) : ((sgDst s x).view.emb y : S12x64x512.Idx)
    = ix3 ⟨min s 11, by omega⟩ ⟨(y 0).val, (y 0).isLt⟩ ⟨min x 256 + (y 1).val, by have : (y 1).val < 256 := (y 1).isLt; omega⟩ := by
  refine @Eq.trans S12x64x512.Idx _ _ _ (blk_emb sgM.view (sgDstOff s x) (sgDstOff_inb s x) _ y) ?_
  refine funext fun a => ?_
  fin_cases a <;> apply Fin.ext
  · show min s 11 + 1 * 0 = _; simp
  · show 0 + 1 * (y 0).val = _; simp
  · show min x 256 + 1 * (y 1).val = _; simp
theorem dSlot_emb (s : ℕ) (y : S128x2048.Idx) : ((dSlot s).view.emb y : S12x128x2048.Idx)
    = ix3 ⟨min s 11, by omega⟩ ⟨(y 0).val, (y 0).isLt⟩ ⟨(y 1).val, (y 1).isLt⟩ := by
  refine @Eq.trans S12x128x2048.Idx _ _ _ (blk_emb wdM.view (dSlotOff s) (dSlotOff_inb s) _ y) ?_
  refine funext fun a => ?_
  fin_cases a <;> apply Fin.ext
  · show min s 11 + 1 * 0 = _; simp
  · show 0 + 1 * (y 0).val = _; simp
  · show 0 + 1 * (y 1).val = _; simp
theorem sdSlot_emb (s : ℕ) (y : S8x2048.Idx) : ((sdSlot s).view.emb y : S12x8x2048.Idx)
    = ix3 ⟨min s 11, by omega⟩ ⟨(y 0).val, (y 0).isLt⟩ ⟨(y 1).val, (y 1).isLt⟩ := by
  refine @Eq.trans S12x8x2048.Idx _ _ _ (blk_emb sdM.view (sdSlotOff s) (sdSlotOff_inb s) _ y) ?_
  refine funext fun a => ?_
  fin_cases a <;> apply Fin.ext
  · show min s 11 + 1 * 0 = _; simp
  · show 0 + 1 * (y 0).val = _; simp
  · show 0 + 1 * (y 1).val = _; simp

end Geo

/-- The gate and up weights of chunk `n`, as its slot holds them. -/
def gC (n : ℕ) : Cts (F := F) c wgM := fun (i : S12x1024x512.Idx) =>
  if h : (i 2).val < 256 then (gS n).view.read (Elt F) A.gu (ix2 (i 1) ⟨(i 2).val, h⟩)
  else (uS n).view.read (Elt F) A.gu (ix2 (i 1) ⟨(i 2).val - 256, by have : (i 2).val < 512 := (i 2).isLt; omega⟩)
/-- Their scales. -/
def sgC (n : ℕ) : Cts (F := F) c sgM := fun (i : S12x64x512.Idx) =>
  if h : (i 2).val < 256 then (sgS n).view.read (Elt F) A.sgu (ix2 (i 1) ⟨(i 2).val, h⟩)
  else (suS n).view.read (Elt F) A.sgu (ix2 (i 1) ⟨(i 2).val - 256, by have : (i 2).val < 512 := (i 2).isLt; omega⟩)
/-- The down weights. -/
def dC (n : ℕ) : Cts (F := F) c wdM := fun (i : S12x128x2048.Idx) => (dS n).view.read (Elt F) A.d (ix2 (i 1) (i 2))
/-- Their scales. -/
def sdC (n : ℕ) : Cts (F := F) c sdM := fun (i : S12x8x2048.Idx) => (sdS n).view.read (Elt F) A.sd (ix2 (i 1) (i 2))

/-- Slot `n % 12` landed with chunk `n`, the semaphore at zero. -/
def landP (n : ℕ) : sProp 𝕄 :=
  iprop(cellP c (sl n) ∗ own c (gSlot (sl n)) (gC c A n) ∗ own c (sgSlot (sl n)) (sgC c A n)
    ∗ own c (dSlot (sl n)) (dC c A n) ∗ own c (sdSlot (sl n)) (sdC c A n))

/-- A copied view's contents, where they are known element by element. -/
theorem own_copied {sp sp' : Space} {T : Shape} {e : EltTy} (D : Memref sig .tc sp T e) (S : Memref sig .tc sp' T e)
    (f : Cts (F := F) c D) (a : Cts (F := F) c S) (g : Cts (F := F) c D)
    (h : ∀ y, D.view.read (Elt F) g y = S.view.read (Elt F) a y) : own c D (copied D S f a) = own c D g := by
  refine pointsTo_congr fun i hi => ?_
  obtain ⟨y, -, rfl⟩ := Finset.mem_map.mp hi
  refine View.eq_of_read_eq (v := D.view) ?_
  rw [h y, copied, ← View.write_univ_eq_writes_whole, View.read_write_univ]

abbrev gR (s x : ℕ) : Finset S12x1024x512.Idx := (Rect.unit (s := S12x1024x512) (gDstOff s x) S1x1024x256.size (gDstOff_inb s x)).set
abbrev gSR (s : ℕ) : Finset S12x1024x512.Idx := (Rect.unit (s := S12x1024x512) (gSlotOff s) S1x1024x512.size (gSlotOff_inb s)).set
theorem gDst_set (s x : ℕ) : ((gDst s x).view.set : Finset S12x1024x512.Idx) = gR s x :=
  (View.set_reshape _ _).trans (View.set_slice_whole _ _)
theorem gSlot_set (s : ℕ) : ((gSlot s).view.set : Finset S12x1024x512.Idx) = gSR s :=
  (View.set_reshape _ _).trans (View.set_slice_whole _ _)
theorem gSR_union (s : ℕ) : gSR s = gR s 0 ∪ gR s 256 := by
  ext i
  rw [Finset.mem_union, Rect.mem_set_unit, Rect.mem_set_unit, Rect.mem_set_unit]
  have h1 := (i 1).isLt
  have h2 := (i 2).isLt
  simp [Fin.forall_fin_succ] at h1 h2 ⊢
  omega
theorem gR_disj (s : ℕ) : Disjoint (gR s 0) (gR s 256) := by
  rw [Finset.disjoint_left]
  intro i
  rw [Rect.mem_set_unit, Rect.mem_set_unit]
  simp [Fin.forall_fin_succ]
  omega
theorem own_gDst (s x : ℕ) (f : Cts (F := F) c wgM) : own c (gDst s x) f = (wgM.view.loc (c : Thread nD τ) ↦[gR s x]{fullShare} f : sProp 𝕄) :=
  congrArg (fun I : Finset S12x1024x512.Idx => (wgM.view.loc (c : Thread nD τ) ↦[I]{fullShare} f : sProp 𝕄)) (gDst_set s x)
theorem own_gSlot (s : ℕ) (f : Cts (F := F) c wgM) : own c (gSlot s) f = iprop(own c (gDst s 0) f ∗ own c (gDst s 256) f) := by
  rw [own_gDst, own_gDst]
  refine (congrArg (fun I : Finset S12x1024x512.Idx => (wgM.view.loc (c : Thread nD τ) ↦[I]{fullShare} f : sProp 𝕄)) ((gSlot_set s).trans (gSR_union s))).trans ?_
  have h : (wgM.view.loc (c : Thread nD τ) ↦[gR s 0 ∪ gR s 256]{fullShare} f : sProp 𝕄)
    ⊣⊢ iprop((wgM.view.loc (c : Thread nD τ) ↦[gR s 0]{fullShare} f) ∗ wgM.view.loc (c : Thread nD τ) ↦[gR s 256]{fullShare} f) := pointsTo_union (gR_disj s)
  exact h.1.antisymm h.2

abbrev sgR (s x : ℕ) : Finset S12x64x512.Idx := (Rect.unit (s := S12x64x512) (sgDstOff s x) S1x64x256.size (sgDstOff_inb s x)).set
abbrev sgSR (s : ℕ) : Finset S12x64x512.Idx := (Rect.unit (s := S12x64x512) (sgSlotOff s) S1x64x512.size (sgSlotOff_inb s)).set
theorem sgDst_set (s x : ℕ) : ((sgDst s x).view.set : Finset S12x64x512.Idx) = sgR s x :=
  (View.set_reshape _ _).trans (View.set_slice_whole _ _)
theorem sgSlot_set (s : ℕ) : ((sgSlot s).view.set : Finset S12x64x512.Idx) = sgSR s :=
  (View.set_reshape _ _).trans (View.set_slice_whole _ _)
theorem sgSR_union (s : ℕ) : sgSR s = sgR s 0 ∪ sgR s 256 := by
  ext i
  rw [Finset.mem_union, Rect.mem_set_unit, Rect.mem_set_unit, Rect.mem_set_unit]
  have h1 := (i 1).isLt
  have h2 := (i 2).isLt
  simp [Fin.forall_fin_succ] at h1 h2 ⊢
  omega
theorem sgR_disj (s : ℕ) : Disjoint (sgR s 0) (sgR s 256) := by
  rw [Finset.disjoint_left]
  intro i
  rw [Rect.mem_set_unit, Rect.mem_set_unit]
  simp [Fin.forall_fin_succ]
  omega
theorem own_sgDst (s x : ℕ) (f : Cts (F := F) c sgM) : own c (sgDst s x) f = (sgM.view.loc (c : Thread nD τ) ↦[sgR s x]{fullShare} f : sProp 𝕄) :=
  congrArg (fun I : Finset S12x64x512.Idx => (sgM.view.loc (c : Thread nD τ) ↦[I]{fullShare} f : sProp 𝕄)) (sgDst_set s x)
theorem own_sgSlot (s : ℕ) (f : Cts (F := F) c sgM) : own c (sgSlot s) f = iprop(own c (sgDst s 0) f ∗ own c (sgDst s 256) f) := by
  rw [own_sgDst, own_sgDst]
  refine (congrArg (fun I : Finset S12x64x512.Idx => (sgM.view.loc (c : Thread nD τ) ↦[I]{fullShare} f : sProp 𝕄)) ((sgSlot_set s).trans (sgSR_union s))).trans ?_
  have h : (sgM.view.loc (c : Thread nD τ) ↦[sgR s 0 ∪ sgR s 256]{fullShare} f : sProp 𝕄)
    ⊣⊢ iprop((sgM.view.loc (c : Thread nD τ) ↦[sgR s 0]{fullShare} f) ∗ sgM.view.loc (c : Thread nD τ) ↦[sgR s 256]{fullShare} f) := pointsTo_union (sgR_disj s)
  exact h.1.antisymm h.2

/-! ## From landed copies to a landed slot, and from a landed slot to a free one -/

variable {c} {A}

theorem land_g (n : ℕ) (f : Cts (F := F) c (gDst (sl n) 0)) :
    own c (gDst (sl n) 0) (copied (gDst (sl n) 0) (gS n) f A.gu) = own c (gDst (sl n) 0) (gC c A n) := by
  refine own_copied c _ _ _ _ _ fun y => ?_
  rw [View.read]
  have he := gDst_emb (sl n) 0 y
  show gC c A n ((gDst (sl n) 0).view.emb y) = _
  rw [he]
  have h1 : (y 1).val < 256 := (y 1).isLt
  simp only [gC, ix3]
  rw [dif_pos (by omega)]
  refine congrArg _ (funext fun a => ?_)
  fin_cases a <;> apply Fin.ext
  · rfl
  · show _ = (y 1).val
    simp
theorem land_u (n : ℕ) (f : Cts (F := F) c (gDst (sl n) 256)) :
    own c (gDst (sl n) 256) (copied (gDst (sl n) 256) (uS n) f A.gu) = own c (gDst (sl n) 256) (gC c A n) := by
  refine own_copied c _ _ _ _ _ fun y => ?_
  rw [View.read]
  have he := gDst_emb (sl n) 256 y
  show gC c A n ((gDst (sl n) 256).view.emb y) = _
  rw [he]
  have h1 : (y 1).val < 256 := (y 1).isLt
  simp only [gC, ix3]
  rw [dif_neg (by omega)]
  refine congrArg _ (funext fun a => ?_)
  fin_cases a <;> apply Fin.ext
  · rfl
  · show _ = (y 1).val
    simp
theorem land_sg (n : ℕ) (f : Cts (F := F) c (sgDst (sl n) 0)) :
    own c (sgDst (sl n) 0) (copied (sgDst (sl n) 0) (sgS n) f A.sgu) = own c (sgDst (sl n) 0) (sgC c A n) := by
  refine own_copied c _ _ _ _ _ fun y => ?_
  rw [View.read]
  have he := sgDst_emb (sl n) 0 y
  show sgC c A n ((sgDst (sl n) 0).view.emb y) = _
  rw [he]
  have h1 : (y 1).val < 256 := (y 1).isLt
  simp only [sgC, ix3]
  rw [dif_pos (by omega)]
  refine congrArg _ (funext fun a => ?_)
  fin_cases a <;> apply Fin.ext
  · rfl
  · show _ = (y 1).val
    simp
theorem land_su (n : ℕ) (f : Cts (F := F) c (sgDst (sl n) 256)) :
    own c (sgDst (sl n) 256) (copied (sgDst (sl n) 256) (suS n) f A.sgu) = own c (sgDst (sl n) 256) (sgC c A n) := by
  refine own_copied c _ _ _ _ _ fun y => ?_
  rw [View.read]
  have he := sgDst_emb (sl n) 256 y
  show sgC c A n ((sgDst (sl n) 256).view.emb y) = _
  rw [he]
  have h1 : (y 1).val < 256 := (y 1).isLt
  simp only [sgC, ix3]
  rw [dif_neg (by omega)]
  refine congrArg _ (funext fun a => ?_)
  fin_cases a <;> apply Fin.ext
  · rfl
  · show _ = (y 1).val
    simp
theorem land_d (n : ℕ) (f : Cts (F := F) c (dSlot (sl n))) :
    own c (dSlot (sl n)) (copied (dSlot (sl n)) (dS n) f A.d) = own c (dSlot (sl n)) (dC c A n) := by
  refine own_copied c _ _ _ _ _ fun y => ?_
  rw [View.read]
  have he := dSlot_emb (sl n) y
  show dC c A n ((dSlot (sl n)).view.emb y) = _
  rw [he]
  have h1 : (y 1).val < 2048 := (y 1).isLt
  simp only [dC, ix3]
  refine congrArg _ (funext fun a => ?_)
  fin_cases a <;> apply Fin.ext
  · rfl
  · show _ = (y 1).val
    simp
theorem land_sd (n : ℕ) (f : Cts (F := F) c (sdSlot (sl n))) :
    own c (sdSlot (sl n)) (copied (sdSlot (sl n)) (sdS n) f A.sd) = own c (sdSlot (sl n)) (sdC c A n) := by
  refine own_copied c _ _ _ _ _ fun y => ?_
  rw [View.read]
  have he := sdSlot_emb (sl n) y
  show sdC c A n ((sdSlot (sl n)).view.emb y) = _
  rw [he]
  have h1 : (y 1).val < 2048 := (y 1).isLt
  simp only [sdC, ix3]
  refine congrArg _ (funext fun a => ?_)
  fin_cases a <;> apply Fin.ext
  · rfl
  · show _ = (y 1).val
    simp

theorem sl_add (n : ℕ) : sl (n + 12) = sl n := by simp [sl]

/-- A landed slot is a free one for the chunk twelve later. -/
theorem land_free (n : ℕ) : landP c A n ⊢ freeP (F := F) c (n + 12) := by
  unfold landP freeP
  rw [sl_add, own_gSlot, own_sgSlot]
  iintro ⟨Hc, ⟨Ha, Hb⟩, ⟨Hs, Ht⟩, Hd, He⟩
  isplitl [Hc]; · iexact Hc
  isplitl [Ha]; · iexists _; iexact Ha
  isplitl [Hb]; · iexists _; iexact Hb
  isplitl [Hs]; · iexists _; iexact Hs
  isplitl [Ht]; · iexists _; iexact Ht
  isplitl [Hd]; · iexists _; iexact Hd
  iexists _; iexact He

/-- What the six drained copies hand over is the landed slot. -/
theorem landed_of (n : ℕ) (f0 : Cts (F := F) c (gDst (sl n) 0)) (f1 : Cts (F := F) c (gDst (sl n) 256)) (f2 : Cts (F := F) c (sgDst (sl n) 0))
    (f3 : Cts (F := F) c (sgDst (sl n) 256)) (f4 : Cts (F := F) c (dSlot (sl n))) (f5 : Cts (F := F) c (sdSlot (sl n))) :
    iprop(cellP c (sl n) ∗ own c (gDst (sl n) 0) (copied (gDst (sl n) 0) (gS n) f0 A.gu)
      ∗ own c (gDst (sl n) 256) (copied (gDst (sl n) 256) (uS n) f1 A.gu)
      ∗ own c (sgDst (sl n) 0) (copied (sgDst (sl n) 0) (sgS n) f2 A.sgu)
      ∗ own c (sgDst (sl n) 256) (copied (sgDst (sl n) 256) (suS n) f3 A.sgu)
      ∗ own c (dSlot (sl n)) (copied (dSlot (sl n)) (dS n) f4 A.d)
      ∗ own c (sdSlot (sl n)) (copied (sdSlot (sl n)) (sdS n) f5 A.sd))
    ⊢ landP c A n := by
  unfold landP
  rw [land_g, land_u, land_sg, land_su, land_d, land_sd, own_gSlot, own_sgSlot]
  iintro ⟨Hc, Ha, Hb, Hs, Ht, Hd, He⟩
  isplitl [Hc]; · iexact Hc
  isplitl [Ha Hb]; · isplitl [Ha]; · iexact Ha
                     iexact Hb
  isplitl [Hs Ht]; · isplitl [Hs]; · iexact Hs
                     iexact Ht
  isplitl [Hd]; · iexact Hd
  iexact He

end Cert.Proof.Mlp

end
-- ==== Proof.Wait.lean ====
/-
  The opening of one trip of the inner loop: the refill of the ring, when there is one left to start, and the first two waits
  for the chunk of this trip.
-/
module

public import proofs.«01_k».proof.Proof.Ring
public import proofs.«01_k».proof.Proof.Gen.KernelIdeal.Skeleton
public import proofs.«01_k».proof.Proof.Gen.KernelIdeal.Loops
public import Idealize.ShloMosaic.Lib.Tactic

@[expose] public section

set_option backward.isDefEq.respectTransparency.types false

noncomputable section

namespace Cert.Proof.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (A : Wts F c)
  (arg0 : Memref sig .tc .vmem S2x80x2048 .f32) (harg0 : arg0.IsWhole)

abbrev part3 (t1 : T1) (t2 : T2) (v : BitVec 32) : Prog (TpuEff nD τ sig (Elt F) Λ₀ .tc) (BitVec 32) :=
  k0_part3 (F := F) arg0 harg0 nmH (Memref.isWhole_whole _) wguH (Memref.isWhole_whole _) sguH (Memref.isWhole_whole _) wdH (Memref.isWhole_whole _)
    sdH (Memref.isWhole_whole _) hidH (Memref.isWhole_whole _) nmM (Memref.isWhole_whole _) wgM (Memref.isWhole_whole _) sgM (Memref.isWhole_whole _)
    wdM (Memref.isWhole_whole _) sdM (Memref.isWhole_whole _) rhM (Memref.isWhole_whole _) hpM (Memref.isWhole_whole _) cc0_scoped0 cc0_scoped1 cc0_scoped2
    t1 v 1#32 1#32 t2

/-- A trip with a chunk left to start: its six copies are issued, and two of the trip's own six waits are done. -/
theorem refill (t1 : T1) (t2 : T2) (v : BitVec 32) (h : k0_cond2 t1 t2 = 1#1) :
    iprop(freeP (F := F) c (22 * t1.val + t2.val + 11) ∗ homeP c A (22 * t1.val + t2.val + 11) ∗ flightP c A (22 * t1.val + t2.val + 1) ∗ ∃ W, owes (c : Thread nD τ) 0 W)
      ⊢ wp frame (wpE (defs₀ (F := F)) 𝒱₀ (c : Thread nD τ) none) Set.univ (part3 arg0 harg0 t1 t2 v)
        (fun _ => iprop(flightP c A (22 * t1.val + t2.val + 11) ∗ flightAt c A (22 * t1.val + t2.val + 1) 6 16384 ∗ ∃ W, owes (c : Thread nD τ) 0 W)) := by
  unfold freeP homeP flightP flightAt
  iintro ⟨⟨Hq, ⟨%f0, Hd0⟩, ⟨%f1, Hd1⟩, ⟨%f2, Hd2⟩, ⟨%f3, Hd3⟩, ⟨%f4, Hd4⟩, ⟨%f5, Hd5⟩⟩, ⟨Hs0, Hs1, Hs2, Hs3, Hs4, Hs5⟩, ⟨%g0, %g1, %g2, %g3, %g4, %g5, HF⟩, %W, HW⟩
  imod (Transfers.mixedBatch_alloc' (Lvl := ℕ) (countersEmb (U := UU nD τ)) (c : Thread nD τ) () amts
    (deliv c A (22 * t1.val + t2.val + 11) f0 f1 f2 f3 f4 f5) (sm := SemLoc.dma (csm (sl (22 * t1.val + t2.val + 11))).sem) (E := Set.univ)) $$ Hq with HB
  unfold deliv
  dsimp only [part3]
  sl_unfold [k0_part3]
  sl_exec
  sl_step
  isplitl [HB]
  · iexists f0, f1, f2, f3, f4, f5; iexact HB
  isplitl [HF]
  · iexists g0, g1, g2, g3, g4, g5; iexact HF
  iexists _; iexact HW

/-- A trip with none left: the two waits alone. -/
theorem norefill (t1 : T1) (t2 : T2) (v : BitVec 32) (h : ¬ k0_cond2 t1 t2 = 1#1) :
    iprop(flightP c A (22 * t1.val + t2.val + 1) ∗ ∃ W, owes (c : Thread nD τ) 0 W)
      ⊢ wp frame (wpE (defs₀ (F := F)) 𝒱₀ (c : Thread nD τ) none) Set.univ (part3 arg0 harg0 t1 t2 v)
        (fun _ => iprop(flightAt c A (22 * t1.val + t2.val + 1) 6 16384 ∗ ∃ W, owes (c : Thread nD τ) 0 W)) := by
  unfold flightP flightAt
  iintro ⟨⟨%g0, %g1, %g2, %g3, %g4, %g5, HF⟩, %W, HW⟩
  unfold deliv
  dsimp only [part3]
  sl_unfold [k0_part3]
  sl_exec
  sl_step
  isplitl [HF]
  · iexists g0, g1, g2, g3, g4, g5; iexact HF
  iexists _; iexact HW

end Cert.Proof.Mlp

end
-- ==== Proof.Unit.lean ====
/-
  The matrix units' stream: pairs of tiles staged one step ahead, each step's pass deposited into one of five accumulators
  (rows `80 n … 80 n + 79` of either unit). What a stream leaves in an accumulator is the fold of the passes deposited there.
-/
module

public import Idealize.ShloMosaic.Lib.Mxu.Lemmas

@[expose] public section

noncomputable section

namespace Cert.Proof.Mlp

open Idealize.ShloMosaic Idealize.ShloMosaic.Mxu

variable {F : FTy → Type} [FloatOps F]

abbrev Til (F : FTy → Type) := FVec F (STile 256) .bf16
abbrev Lhs (F : FTy → Type) := FVec F (STile 80) .bf16
abbrev Acc (F : FTy → Type) := FVec F (STile 80) .f32

theorem fits5 (n : Fin 5) : Fits (20 * n.val) 80 := by have := n.isLt; unfold Fits; omega

/-- One step of a stream: a tile for each unit, the accumulator, the left-hand operand. -/
structure Stp (F : FTy → Type) where
  t : Fin 2 → Til F
  n : Fin 5
  lhs : Lhs F

/-- A step's tiles staged in register `r` of the two units. -/
def push2 (r : Fin 2) (x : Stp F) (s : Mxu F) : Mxu F := (s.pushed 0 r false (x.t 0)).pushed 1 r false (x.t 1)
/-- A step's two accumulates from register `r`. -/
def acc2 (r : Fin 2) (x : Stp F) (s : Mxu F) : Mxu F :=
  (s.accLhs 0 r (20 * x.n.val) x.lhs (fits5 x.n)).accLhs 1 r (20 * x.n.val) x.lhs (fits5 x.n)
/-- The stream once its first tiles are staged in register `r`. -/
def strm : List (Stp F) → Fin 2 → Fin 2 → Mxu F → Mxu F
  | [], _, _, s => s
  | [x], r, _, s => acc2 r x s
  | x :: y :: l, r, r', s => strm (y :: l) r' r (acc2 r x (push2 r' y s))
/-- A whole stream. -/
def stream : List (Stp F) → Mxu F → Mxu F
  | [], s => s
  | x :: l, s => strm (x :: l) 0 1 (push2 0 x s)

/-- A step as two plain accumulates. -/
def by2 (x : Stp F) (s : Mxu F) : Mxu F :=
  (s.accBy 0 ⟨.bf16, false, x.t 0⟩ (20 * x.n.val) x.lhs (fits5 x.n)).accBy 1 ⟨.bf16, false, x.t 1⟩ (20 * x.n.val) x.lhs (fits5 x.n)

/-- Two states with the same accumulators. -/
def Same (s u : Mxu F) : Prop := s.acc = u.acc ∧ s.live = u.live

theorem same_accBy {s u : Mxu F} (h : Same s u) (q : Fin 2) (t : Staged F) (A : ℕ) (lhs : Lhs F) (hf : Fits A 80) :
    Same (s.accBy q t A lhs hf) (u.accBy q t A lhs hf) := by
  obtain ⟨h1, h2⟩ := h
  constructor
  · funext q' R C
    simp only [accBy, h1, h2]
  · funext q' R
    simp only [live_accBy, h2]

theorem same_by2 {s u : Mxu F} (h : Same s u) (x : Stp F) : Same (by2 x s) (by2 x u) :=
  same_accBy (same_accBy h _ _ _ _ _) _ _ _ _ _

theorem same_push2 (r : Fin 2) (x : Stp F) (s : Mxu F) : Same (push2 r x s) s := by
  constructor <;> simp [push2]

/-- A step's tiles staged in register `r`. -/
def Has (r : Fin 2) (x : Stp F) (s : Mxu F) : Prop := ∀ q, s.reg q r = some ⟨.bf16, false, x.t q⟩
def Free (r : Fin 2) (s : Mxu F) : Prop := ∀ q, s.reg q r = none

theorem has_push2 {r : Fin 2} (x : Stp F) {s : Mxu F} (h : Free r s) : Has r x (push2 r x s) := by
  intro q
  unfold push2
  fin_cases q
  · show _ = some (⟨.bf16, false, x.t 0⟩ : Staged F)
    rw [reg_pushed_ne _ _ _ _ _ _ _ (by simp)]
    exact reg_pushed_of_none _ _ _ _ _ (h 0)
  · show _ = some (⟨.bf16, false, x.t 1⟩ : Staged F)
    refine reg_pushed_of_none _ _ _ _ _ ?_
    rw [reg_pushed_ne _ _ _ _ _ _ _ (by simp)]
    exact h 1

theorem reg_push2_ne {r r' : Fin 2} (hr : r ≠ r') (x : Stp F) (s : Mxu F) (q : Fin 2) : (push2 r' x s).reg q r = s.reg q r := by
  unfold push2
  rw [reg_pushed_ne _ _ _ _ _ _ _ (by simp [hr]), reg_pushed_ne _ _ _ _ _ _ _ (by simp [hr])]

theorem reg_acc2_ne {r r' : Fin 2} (hr : r' ≠ r) (x : Stp F) (s : Mxu F) (q : Fin 2) : (acc2 r x s).reg q r' = s.reg q r' := by
  unfold acc2
  rw [reg_accLhs_ne _ _ _ _ _ _ _ _ (by simp [hr]), reg_accLhs_ne _ _ _ _ _ _ _ _ (by simp [hr])]

theorem free_acc2 (r : Fin 2) (x : Stp F) (s : Mxu F) : Free r (acc2 r x s) := by
  intro q
  unfold acc2
  fin_cases q
  · show _ = (none : Option (Staged F))
    rw [reg_accLhs_ne _ _ _ _ _ _ _ _ (by simp)]; exact reg_accLhs _ _ _ _ _ _
  · show _ = (none : Option (Staged F))
    exact reg_accLhs _ _ _ _ _ _

theorem same_acc2 {r : Fin 2} {x : Stp F} {s u : Mxu F} (h : Has r x s) (hs : Same s u) : Same (acc2 r x s) (by2 x u) := by
  have e0 : s.staged 0 r = ⟨.bf16, false, x.t 0⟩ := by rw [staged_eq, h 0]; rfl
  have e1 : (s.accLhs 0 r (20 * x.n.val) x.lhs (fits5 x.n)).staged 1 r = ⟨.bf16, false, x.t 1⟩ := by
    rw [staged_eq, reg_accLhs_ne _ _ _ _ _ _ _ _ (by simp), h 1]; rfl
  have h1 : Same (s.accLhs 0 r (20 * x.n.val) x.lhs (fits5 x.n)) (u.accBy 0 ⟨.bf16, false, x.t 0⟩ (20 * x.n.val) x.lhs (fits5 x.n)) := by
    rw [← e0]
    exact same_accBy hs 0 (s.staged 0 r) _ _ _
  unfold by2 acc2
  rw [← e1]
  exact same_accBy h1 1 _ _ _ _

theorem strm_spec : ∀ (l : List (Stp F)) (x : Stp F) (r r' : Fin 2) (s u : Mxu F), r ≠ r' → Has r x s → Free r' s → Same s u →
    Same (strm (x :: l) r r' s) ((x :: l).foldl (fun u x => by2 x u) u) ∧ Free r (strm (x :: l) r r' s) ∧ Free r' (strm (x :: l) r r' s)
  | [], x, r, r', s, u, hr, hx, hf, hs => by
    refine ⟨same_acc2 hx hs, free_acc2 r x s, fun q => ?_⟩
    show (acc2 r x s).reg q r' = none
    rw [reg_acc2_ne hr.symm]; exact hf q
  | y :: l, x, r, r', s, u, hr, hx, hf, hs => by
    have h1 : Has r x (push2 r' y s) := fun q => by rw [reg_push2_ne hr]; exact hx q
    have h2 : Has r' y (acc2 r x (push2 r' y s)) := fun q => by rw [reg_acc2_ne hr.symm]; exact has_push2 y hf q
    have h3 : Same (push2 r' y s) u := ⟨(same_push2 r' y s).1.trans hs.1, (same_push2 r' y s).2.trans hs.2⟩
    obtain ⟨a, b, d⟩ := strm_spec l y r' r (acc2 r x (push2 r' y s)) (by2 x u) hr.symm h2 (free_acc2 r x _) (same_acc2 h1 h3)
    exact ⟨a, d, b⟩

/-- A stream from empty registers: the fold of its steps, the registers empty again. -/
theorem stream_spec (l : List (Stp F)) (s : Mxu F) (h : ∀ q r, s.reg q r = none) :
    Same (stream l s) (l.foldl (fun u x => by2 x u) s) ∧ ∀ q r, (stream l s).reg q r = none := by
  match l with
  | [] => exact ⟨⟨rfl, rfl⟩, h⟩
  | x :: l =>
    obtain ⟨a, b, d⟩ := strm_spec l x 0 1 (push2 0 x s) s (by decide) (has_push2 x fun q => h q 0)
      (fun q => by rw [reg_push2_ne (by decide)]; exact h q 1) (same_push2 0 x s)
    refine ⟨a, fun q r => ?_⟩
    fin_cases r
    · exact b q
    · exact d q

theorem read_same {s u : Mxu F} (h : Same s u) (q : Fin 2) (A : ℕ) (hf : Fits A 80) : s.read q A hf = u.read q A hf := by
  funext i; unfold Mxu.read; rw [h.1]

/-- One pass. -/
abbrev pass (a : Lhs F) (t : Til F) : Acc F := FloatOps.mxuPass (DotDims.plain 80 256 256) a t

/-- Passes deposited one after another into rows holding `e`, live or not. -/
def depF : Bool → Acc F → List (Lhs F × Til F) → Acc F
  | _, e, [] => e
  | b, e, p :: l => depF true (if b then addf e (pass p.1 p.2) else pass p.1 p.2) l

theorem live_by2 (x : Stp F) (s : Mxu F) (q : Fin 2) (R : Fin 1024) :
    (by2 x s).live q R = if 80 * x.n.val ≤ R.val ∧ R.val < 80 * x.n.val + 80 then true else s.live q R := by
  unfold by2
  rw [live_accBy, live_accBy]
  have h4 : 4 * (20 * x.n.val) = 80 * x.n.val := by omega
  rw [h4]
  by_cases h : 80 * x.n.val ≤ R.val ∧ R.val < 80 * x.n.val + 80
  · rw [if_pos h]; fin_cases q <;> simp [h]
  · rw [if_neg h]; simp [h]

theorem read_by2_ne (x : Stp F) (s : Mxu F) (q : Fin 2) (n : Fin 5) (h : x.n ≠ n) :
    (by2 x s).read q (20 * n.val) (fits5 n) = s.read q (20 * n.val) (fits5 n) := by
  have h' : x.n.val ≠ n.val := fun e => h (Fin.ext e)
  unfold by2
  rw [read_accBy_ne _ _ _ _ _ _ _ _ _ (Or.inr (by omega)), read_accBy_ne _ _ _ _ _ _ _ _ _ (Or.inr (by omega))]

theorem read_accBy_uniform (s : Mxu F) (q : Fin 2) (A : ℕ) (t : Til F) (lhs : Lhs F) (h : Fits A 80) (b : Bool)
    (hb : ∀ r : Fin 80, s.live q (row h r) = b) :
    (s.accBy q ⟨.bf16, false, t⟩ A lhs h).read q A h = if b then addf (s.read q A h) (pass lhs t) else pass lhs t := by
  cases b
  · exact read_accBy_of_not_live s q A ⟨.bf16, false, t⟩ lhs h hb
  · exact read_accBy_of_live s q A ⟨.bf16, false, t⟩ lhs h hb

theorem read_by2 (x : Stp F) (s : Mxu F) (q : Fin 2) (b : Bool) (hb : ∀ r : Fin 80, s.live q (row (fits5 x.n) r) = b) :
    (by2 x s).read q (20 * x.n.val) (fits5 x.n) = if b then addf (s.read q (20 * x.n.val) (fits5 x.n)) (pass x.lhs (x.t q)) else pass x.lhs (x.t q) := by
  unfold by2
  fin_cases q
  · rw [read_accBy_ne _ _ _ _ _ _ _ _ _ (Or.inl (by decide))]
    exact read_accBy_uniform s 0 _ _ _ _ b hb
  · refine (read_accBy_uniform (s.accBy 0 ⟨.bf16, false, x.t 0⟩ (20 * x.n.val) x.lhs (fits5 x.n)) 1 _ (x.t 1) _ _ b fun r => ?_).trans ?_
    · rw [live_accBy, if_neg (by simp)]; exact hb r
    · rw [read_accBy_ne _ _ _ _ _ _ _ _ _ (Or.inl (by decide))]; rfl

/-- What the steps of a stream leave in accumulator `n` of unit `q`. -/
theorem read_fold : ∀ (l : List (Stp F)) (s : Mxu F) (q : Fin 2) (n : Fin 5) (b : Bool) (hb : ∀ r : Fin 80, s.live q (row (fits5 n) r) = b),
    (l.foldl (fun u x => by2 x u) s).read q (20 * n.val) (fits5 n)
      = depF b (s.read q (20 * n.val) (fits5 n)) ((l.filter fun x => x.n = n).map fun x => (x.lhs, x.t q))
  | [], s, q, n, b, hb => rfl
  | x :: l, s, q, n, b, hb => by
    rw [List.foldl_cons]
    by_cases h : x.n = n
    · subst h
      rw [read_fold l (by2 x s) q x.n true (fun r => by
        have hr : r.val < 80 := r.isLt
        rw [live_by2]; dsimp only [row]; exact if_pos ⟨by omega, by omega⟩)]
      rw [List.filter_cons_of_pos (by simp), List.map_cons, depF, read_by2 x s q b hb]
    · rw [List.filter_cons_of_neg (by simpa using h)]
      rw [read_fold l (by2 x s) q n b (fun r => by
        have hr : r.val < 80 := r.isLt
        have h' : x.n.val ≠ n.val := fun e => h (Fin.ext e)
        rw [live_by2, if_neg (by dsimp only [row]; omega)]; exact hb r), read_by2_ne x s q n h]

theorem live_fold : ∀ (l : List (Stp F)) (s : Mxu F) (q : Fin 2) (R : Fin 1024),
    (l.foldl (fun u x => by2 x u) s).live q R = (s.live q R || l.any fun x => decide (80 * x.n.val ≤ R.val ∧ R.val < 80 * x.n.val + 80))
  | [], s, q, R => by simp
  | x :: l, s, q, R => by
    rw [List.foldl_cons, live_fold l, live_by2, List.any_cons]
    by_cases h : 80 * x.n.val ≤ R.val ∧ R.val < 80 * x.n.val + 80
    · rw [if_pos h]; simp [h]
    · rw [if_neg h]; simp [h]

end Cert.Proof.Mlp

end
-- ==== Proof.State.lean ====
/-
  What the accumulators hold, layer by layer and chunk by chunk: the gate and up products of a chunk, and the partial sums of
  the down product — at any float type, in the order the passes are deposited.
-/
module

public import proofs.«01_k».proof.Proof.Ring
public import proofs.«01_k».proof.Proof.Unit
public import proofs.«01_k».proof.Proof.Gen.KernelIdeal.Skeleton

@[expose] public section

set_option backward.isDefEq.respectTransparency.types false

noncomputable section

namespace Cert.Proof.Mlp

open Cert.KernelIdeal Cert.KernelIdeal.Gen
open Idealize.ShloMosaic Idealize.ShloMosaic.TcCoe Idealize.ShloMosaic.Mxu

variable {F : FTy → Type} [FloatOps F]

/-- A weight tile widened: the codes of 128 packed rows times their scales. -/
abbrev tile (w : Vec F S128x256 .i8) (s : Vec F S8x256 .bf16) : Til F := k0_pay120 w s
/-- The gate applied: the left-hand operand of the down product. -/
abbrev gated (g u : Acc F) : Lhs F := k0_pay119 (k0_pay116 u (k0_pay114 g)) (k0_pay117 u (k0_pay114 g)) k0_pay118

variable (c : Dev nD) (A : Wts F c) (H : Cts (F := F) c hpM)

theorem gT_inb (k : Fin 8) (q : Fin 2) : ∀ a, (![128 * k.val, 256 * q.val] : Fin 2 → ℕ) a + S128x256.size a ≤ S1024x512.size a := by
  have := k.isLt; have := q.isLt; intro a; fin_cases a
  · show 128 * k.val + 128 ≤ 1024; omega
  · show 256 * q.val + 256 ≤ 512; omega
theorem gsT_inb (k : Fin 8) (q : Fin 2) : ∀ a, (![8 * k.val, 256 * q.val] : Fin 2 → ℕ) a + S8x256.size a ≤ S64x512.size a := by
  have := k.isLt; have := q.isLt; intro a; fin_cases a
  · show 8 * k.val + 8 ≤ 64; omega
  · show 256 * q.val + 256 ≤ 512; omega
theorem dT_inb (n : Fin 4) (q : Fin 2) : ∀ a, (![0, 256 * (2 * n.val + q.val)] : Fin 2 → ℕ) a + S128x256.size a ≤ S128x2048.size a := by
  have := n.isLt; have := q.isLt; intro a; fin_cases a
  · show 0 + 128 ≤ 128; omega
  · show 256 * (2 * n.val + q.val) + 256 ≤ 2048; omega
theorem dsT_inb (n : Fin 4) (q : Fin 2) : ∀ a, (![0, 256 * (2 * n.val + q.val)] : Fin 2 → ℕ) a + S8x256.size a ≤ S8x2048.size a := by
  have := n.isLt; have := q.isLt; intro a; fin_cases a
  · show 0 + 8 ≤ 8; omega
  · show 256 * (2 * n.val + q.val) + 256 ≤ 2048; omega
theorem hp_inb (k : Fin 8) : ∀ a, (![0, 256 * k.val] : Fin 2 → ℕ) a + S80x256.size a ≤ S80x2048.size a := by
  have := k.isLt; intro a; fin_cases a
  · show 0 + 80 ≤ 80; omega
  · show 256 * k.val + 256 ≤ 2048; omega

/-- Tile `k` of chunk `m`'s gate (`q = 0`) or up (`q = 1`) block. -/
def gT (m : ℕ) (k : Fin 8) (q : Fin 2) : Til F :=
  tile ((gSlot (sl m)).view.readAt (Elt F) (Rect.unit (s := S1024x512) ![128 * k.val, 256 * q.val] S128x256.size (gT_inb k q)).toLoadRect (gC c A m))
    ((sgSlot (sl m)).view.readAt (Elt F) (Rect.unit (s := S64x512) ![8 * k.val, 256 * q.val] S8x256.size (gsT_inb k q)).toLoadRect (sgC c A m))
/-- Tile `2 n + q` of chunk `m`'s down block. -/
def dT (m : ℕ) (n : Fin 4) (q : Fin 2) : Til F :=
  tile ((dSlot (sl m)).view.readAt (Elt F) (Rect.unit (s := S128x2048) ![0, 256 * (2 * n.val + q.val)] S128x256.size (dT_inb n q)).toLoadRect (dC c A m))
    ((sdSlot (sl m)).view.readAt (Elt F) (Rect.unit (s := S8x2048) ![0, 256 * (2 * n.val + q.val)] S8x256.size (dsT_inb n q)).toLoadRect (sdC c A m))
/-- Columns `256 k …` of the normalised rows. -/
def hpT (k : Fin 8) : Lhs F :=
  hpM.view.readAt (Elt F) (Rect.unit (s := S80x2048) ![0, 256 * k.val] S80x256.size (hp_inb k)).toLoadRect H

/-- The eight steps of chunk `m`'s gate and up products. -/
def guSteps (m : ℕ) : List (Stp F) :=
  [⟨gT c A m 0, 4, hpT c H 0⟩, ⟨gT c A m 1, 4, hpT c H 1⟩, ⟨gT c A m 2, 4, hpT c H 2⟩, ⟨gT c A m 3, 4, hpT c H 3⟩,
   ⟨gT c A m 4, 4, hpT c H 4⟩, ⟨gT c A m 5, 4, hpT c H 5⟩, ⟨gT c A m 6, 4, hpT c H 6⟩, ⟨gT c A m 7, 4, hpT c H 7⟩]
/-- The four steps of chunk `m`'s down product. -/
def dSteps (m : ℕ) (a : Lhs F) : List (Stp F) :=
  [⟨dT c A m 0, 0, a⟩, ⟨dT c A m 1, 1, a⟩, ⟨dT c A m 2, 2, a⟩, ⟨dT c A m 3, 3, a⟩]

theorem fits_g : Fits 80 80 := by unfold Fits; omega
/-- The gate and up sums taken out. -/
abbrev popped (s : Mxu F) : Mxu F := (s.pop 0 80 80 fits_g).pop 1 80 80 fits_g
abbrev actOf (s : Mxu F) : Lhs F := gated (s.read 0 80 fits_g) ((s.pop 0 80 80 fits_g).read 1 80 fits_g)

/-- One trip: chunk `m`'s products, and chunk `m - 1 = m'`'s down product. -/
def tripM (m' m : ℕ) (s : Mxu F) : Mxu F := stream (guSteps c A H m ++ dSteps c A m' (actOf s)) (popped s)

/-- The gate or up product of chunk `m`. -/
def guV (m : ℕ) (q : Fin 2) : Acc F := depF false (constant _ .f32 0) ((guSteps c A H m).map fun x => (x.lhs, x.t q))
/-- Chunk `m` gated. -/
def actV (m : ℕ) : Lhs F := gated (guV c A H m 0) (guV c A H m 1)
/-- The down product of layer `L` over its first `k` chunks. -/
def dV (L : ℕ) : ℕ → Fin 4 → Fin 2 → Acc F
  | 0, _, _ => constant _ .f32 0
  | 1, n, q => pass (actV c A H (22 * L)) (dT c A (22 * L) n q)
  | k + 2, n, q => addf (dV L (k + 1) n q) (pass (actV c A H (22 * L + (k + 1))) (dT c A (22 * L + (k + 1)) n q))

/-- Which rows are live before trip `k`. -/
def lv (k : ℕ) (R : Fin 1024) : Bool := decide ((320 ≤ R.val ∨ 0 < k) ∧ R.val < 400)

abbrev up4 (n : Fin 4) : Fin 5 := ⟨n.val, by have := n.isLt; omega⟩

/-- The units before trip `k` of layer `L`: registers empty, the products of chunk `22 L + k` held, and the down product over the
    chunks before it. -/
structure At (L k : ℕ) (s : Mxu F) : Prop where
  reg : ∀ q r, s.reg q r = none
  live : ∀ q R, s.live q R = lv k R
  gu : ∀ q, s.read q (20 * (4 : Fin 5).val) (fits5 4) = guV c A H (22 * L + k) q
  dn : 0 < k → ∀ (n : Fin 4) q, s.read q (20 * (up4 n).val) (fits5 (up4 n)) = dV c A H L k n q

variable {c A H}

theorem read_popped (s : Mxu F) (q : Fin 2) (n : Fin 4) :
    (popped s).read q (20 * (up4 n).val) (fits5 (up4 n)) = s.read q (20 * (up4 n).val) (fits5 (up4 n)) := by
  have hn : n.val < 4 := n.isLt
  show ((s.pop 0 80 80 fits_g).pop 1 80 80 fits_g).read q (20 * n.val) _ = _
  rw [read_pop_ne _ _ _ _ _ _ _ (Or.inr (by omega)), read_pop_ne _ _ _ _ _ _ _ (Or.inr (by omega))]

theorem live_popped (s : Mxu F) (q : Fin 2) (R : Fin 1024) :
    (popped s).live q R = if 320 ≤ R.val ∧ R.val < 400 then false else s.live q R := by
  rw [live_pop, live_pop]
  by_cases h : 320 ≤ R.val ∧ R.val < 400
  · rw [if_pos h]; fin_cases q <;> simp [h]
  · rw [if_neg h]; simp [h]

theorem actOf_at {L k : ℕ} {s : Mxu F} (h : At c A H L k s) : actOf s = actV c A H (22 * L + k) := by
  have h0 : s.read 0 80 fits_g = guV c A H (22 * L + k) 0 := h.gu 0
  have h1 : (s.pop 0 80 80 fits_g).read 1 80 fits_g = guV c A H (22 * L + k) 1 := by
    rw [read_pop_ne _ _ _ _ _ _ _ (Or.inl (by decide))]; exact h.gu 1
  unfold actOf actV
  rw [h0, h1]

theorem row_val {n : Fin 5} (r : Fin 80) : (row (fits5 n) r).val = 80 * n.val + r.val := by
  show 4 * (20 * n.val) + r.val = _; omega

/-- A layer's first stream. -/
theorem at_zero (L : ℕ) (s : Mxu F) (hr : ∀ q r, s.reg q r = none) (hl : ∀ q R, s.live q R = false) :
    At c A H L 0 (stream (guSteps c A H (22 * L)) s) := by
  obtain ⟨hs, hreg⟩ := stream_spec (guSteps c A H (22 * L)) s hr
  refine ⟨hreg, fun q R => ?_, fun q => ?_, fun h => absurd h (by omega)⟩
  · rw [hs.2, live_fold, hl]
    simp only [guSteps, List.any_cons, List.any_nil, lv]
    have : R.val < 1024 := R.isLt
    simp
  · rw [read_same hs, read_fold _ _ q 4 false fun r => hl _ _]
    rfl

/-- One trip. -/
theorem at_succ {L k : ℕ} {s : Mxu F} (h : At c A H L k s) : At c A H L (k + 1) (tripM c A H (22 * L + k) (22 * L + (k + 1)) s) := by
  unfold tripM
  have hreg0 : ∀ q r, (popped s).reg q r = none := fun q r => h.reg q r
  obtain ⟨hs, hreg⟩ := stream_spec (guSteps c A H (22 * L + (k + 1)) ++ dSteps c A (22 * L + k) (actOf s)) (popped s) hreg0
  refine ⟨hreg, fun q R => ?_, fun q => ?_, fun _ n q => ?_⟩
  · rw [hs.2, live_fold, live_popped, h.live]
    have hR : R.val < 1024 := R.isLt
    simp only [guSteps, dSteps, List.cons_append, List.nil_append, List.any_cons, List.any_nil, lv]
    by_cases h1 : 320 ≤ R.val ∧ R.val < 400
    · simp [h1]
    · rw [if_neg h1]
      rw [Bool.eq_iff_iff]
      simp
      omega
  · rw [read_same hs, read_fold _ _ q 4 false fun r => by
      rw [live_popped, if_pos]; have := r.isLt; rw [row_val]; exact ⟨by show 320 ≤ 80 * 4 + r.val; omega, by show 80 * 4 + r.val < 400; omega⟩]
    rfl
  · have hn : n.val < 4 := n.isLt
    have hl : ∀ r : Fin 80, (popped s).live q (row (fits5 (up4 n)) r) = decide (0 < k) := fun r => by
      have hr := r.isLt
      rw [live_popped, if_neg (by rw [row_val]; show ¬ (320 ≤ 80 * n.val + r.val ∧ _); omega), h.live, lv, row_val]
      show decide ((320 ≤ 80 * n.val + r.val ∨ 0 < k) ∧ 80 * n.val + r.val < 400) = decide (0 < k)
      rw [Bool.eq_iff_iff]; simp; omega
    rw [read_same hs, read_fold _ _ q (up4 n) _ hl, read_popped]
    have hf : ((guSteps c A H (22 * L + (k + 1)) ++ dSteps c A (22 * L + k) (actOf s)).filter fun x => x.n = up4 n).map (fun x => (x.lhs, x.t q))
        = [(actOf s, dT c A (22 * L + k) n q)] := by
      fin_cases n <;> rfl
    rw [hf, depF, depF, actOf_at h]
    cases k with
    | zero => rfl
    | succ k =>
      rw [if_pos (by simp), h.dn (by omega) n q]
      rfl

/-- The layer's last stream, and what it leaves. -/
def lastM (c : Dev nD) (A : Wts F c) (m' : ℕ) (s : Mxu F) : Mxu F := stream (dSteps c A m' (actOf s)) (popped s)

structure Done (c : Dev nD) (A : Wts F c) (H : Cts (F := F) c hpM) (L : ℕ) (s : Mxu F) : Prop where
  reg : ∀ q r, s.reg q r = none
  live : ∀ q R, s.live q R = decide (R.val < 320)
  dn : ∀ (n : Fin 4) q, s.read q (20 * (up4 n).val) (fits5 (up4 n)) = dV c A H L 22 n q

theorem at_last {L : ℕ} {s : Mxu F} (h : At c A H L 21 s) : Done c A H L (lastM c A (22 * L + 21) s) := by
  unfold lastM
  have hreg0 : ∀ q r, (popped s).reg q r = none := fun q r => h.reg q r
  obtain ⟨hs, hreg⟩ := stream_spec (dSteps c A (22 * L + 21) (actOf s)) (popped s) hreg0
  refine ⟨hreg, fun q R => ?_, fun n q => ?_⟩
  · rw [hs.2, live_fold, live_popped, h.live]
    have hR : R.val < 1024 := R.isLt
    simp only [dSteps, List.any_cons, List.any_nil, lv]
    by_cases h1 : 320 ≤ R.val ∧ R.val < 400
    · rw [if_pos h1, Bool.eq_iff_iff]; simp; omega
    · rw [if_neg h1]
      rw [Bool.eq_iff_iff]
      simp
      omega
  · have hn : n.val < 4 := n.isLt
    have hl : ∀ r : Fin 80, (popped s).live q (row (fits5 (up4 n)) r) = true := fun r => by
      have hr := r.isLt
      rw [live_popped, if_neg (by rw [row_val]; show ¬ (320 ≤ 80 * n.val + r.val ∧ _); omega), h.live, lv, row_val]
      show decide ((320 ≤ 80 * n.val + r.val ∨ 0 < 21) ∧ 80 * n.val + r.val < 400) = true
      simp; omega
    rw [read_same hs, read_fold _ _ q (up4 n) _ hl, read_popped]
    have hf : ((dSteps c A (22 * L + 21) (actOf s)).filter fun x => x.n = up4 n).map (fun x => (x.lhs, x.t q))
        = [(actOf s, dT c A (22 * L + 21) n q)] := by
      fin_cases n <;> rfl
    rw [hf, depF, depF, actOf_at h, if_pos rfl, h.dn (by omega) n q]
    rfl

end Cert.Proof.Mlp

end
-- ==== Proof.Step.lean ====
/-
  One trip of the inner loop after its first two waits: the chunk's slot landed, the gate applied to the chunk before, the
  eight steps of the chunk's products and the four of the down product.
-/
module

public import proofs.«01_k».proof.Proof.Wait
public import proofs.«01_k».proof.Proof.State
public import proofs.«01_k».proof.Proof.Gen.KernelIdeal.Skeleton
public import proofs.«01_k».proof.Proof.Gen.KernelIdeal.Loops
public import Idealize.ShloMosaic.Lib.Mxu.Lemmas
public import Idealize.ShloMosaic.Lib.Tactic

@[expose] public section

set_option backward.isDefEq.respectTransparency.types false

noncomputable section

namespace Cert.Proof.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (A : Wts F c)
  (arg0 : Memref sig .tc .vmem S2x80x2048 .f32) (harg0 : arg0.IsWhole)

/-- A state of the matrix units with its registers empty. -/
abbrev mk0 (g : Fin 2 → Option (Mxu.Staged F)) (a : Fin 2 → Fin 1024 → Fin 256 → F .f32) (l : Fin 2 → Fin 1024 → Bool)
    (h : ∀ q R C, l q R = false → a q R C = FloatOps.ofBits .f32 0) : Mxu F :=
  { reg := fun _ _ => none, gmr := g, acc := a, live := l, clean := h }

abbrev t2body (t1 : T1) (v : BitVec 32) (s0 : Mxu F) (w0 : Vec F S128x256 .i8) := k0_t2_body (F := F) arg0 harg0 nmH (Memref.isWhole_whole _) wguH (Memref.isWhole_whole _) sguH (Memref.isWhole_whole _) wdH (Memref.isWhole_whole _)
    sdH (Memref.isWhole_whole _) hidH (Memref.isWhole_whole _) nmM (Memref.isWhole_whole _) wgM (Memref.isWhole_whole _) sgM (Memref.isWhole_whole _)
    wdM (Memref.isWhole_whole _) sdM (Memref.isWhole_whole _) rhM (Memref.isWhole_whole _) hpM (Memref.isWhole_whole _) cc0_scoped0 cc0_scoped1 cc0_scoped2
    t1 v s0 w0

theorem eq_mk0 (s : Mxu F) (h : ∀ q r, s.reg q r = none) : ∃ g a l hcl, s = mk0 g a l hcl := by
  cases s with
  | mk reg g a l hcl =>
    have : reg = fun _ _ => none := funext fun q => funext fun r => h q r
    subst this
    exact ⟨g, a, l, hcl, rfl⟩

/-- The chunk's slot landed, then the trip's streams: what is left is `tripM` of what was. -/
theorem tripRun (t1 : T1) (t2 : T2) (v : BitVec 32) (s0 w0) (s : Mxu F) (hs : ∀ q r, s.reg q r = none) (H : Cts (F := F) c hpM)
    (P R : sProp 𝕄) (hp : P ⊢ wp frame (wpE (defs₀ (F := F)) 𝒱₀ (c : Thread nD τ) none) Set.univ (part3 arg0 harg0 t1 t2 v)
        (fun _ => iprop(R ∗ flightAt c A (22 * t1.val + t2.val + 1) 6 16384 ∗ ∃ W, owes (c : Thread nD τ) 0 W))) :
    iprop(P ∗ own c hpM H ∗ landP c A (22 * t1.val + t2.val))
      ⊢ wp frame (wpE (defs₀ (F := F)) 𝒱₀ (c : Thread nD τ) none) Set.univ (t2body arg0 harg0 t1 v s0 w0 t2 s)
        (fun r => iprop(⌜r = tripM c A H (22 * t1.val + t2.val) (22 * t1.val + t2.val + 1) s⌝ ∗ R ∗ own c hpM H ∗ freeP (F := F) c (22 * t1.val + t2.val + 12)
          ∗ landP c A (22 * t1.val + t2.val + 1) ∗ homeP c A (22 * t1.val + t2.val + 1) ∗ ∃ W, owes (c : Thread nD τ) 0 W)) := by
  obtain ⟨g, a, l, hcl, rfl⟩ := eq_mk0 s hs
  dsimp only [t2body, k0_t2_body]
  rw [wp_bind]
  iintro ⟨HP, Hh, HL⟩
  iapply (wp_wand_r Idealize.ShloMosaic.frame (wpE (defs₀ (F := F)) 𝒱₀ (c : Thread nD τ) none) Set.univ)
  isplitl [HP]
  · iapply hp; iexact HP
  iintro %_ ⟨HR, HF, %W, HW⟩
  unfold flightAt deliv
  icases HF with ⟨%g0, %g1, %g2, %g3, %g4, %g5, HF⟩
  sl_exec
  ihave HN := (landed_of (c := c) (A := A) (22 * t1.val + t2.val + 1) g0 g1 g2 g3 g4 g5) $$ [HF HF_dst0 HF_dst1 HF_dst2 HF_dst3 HF_dst4 HF_dst5]
  · isplitl [HF]; · iexact HF
    isplitl [HF_dst0]; · iexact HF_dst0
    isplitl [HF_dst1]; · iexact HF_dst1
    isplitl [HF_dst2]; · iexact HF_dst2
    isplitl [HF_dst3]; · iexact HF_dst3
    isplitl [HF_dst4]; · iexact HF_dst4
    iexact HF_dst5
  unfold landP
  icases HN with ⟨HN0, HN1, HN2, HN3, HN4⟩
  icases HL with ⟨HL0, HL1, HL2, HL3, HL4⟩
  sl_exec
  sl_step
  isplitr
  · ipureintro
    rfl
  isplitl [HR]; · iexact HR
  isplitl [Hh]; · iexact Hh
  isplitl [HL0 HL1 HL2 HL3 HL4]
  · iapply (land_free (c := c) (A := A) (22 * t1.val + t2.val))
    unfold landP
    isplitl [HL0]; · iexact HL0
    isplitl [HL1]; · iexact HL1
    isplitl [HL2]; · iexact HL2
    isplitl [HL3]; · iexact HL3
    iexact HL4
  isplitl [HN0 HN1 HN2 HN3 HN4]
  · isplitl [HN0]; · iexact HN0
    isplitl [HN1]; · iexact HN1
    isplitl [HN2]; · iexact HN2
    isplitl [HN3]; · iexact HN3
    iexact HN4
  isplitl [HF_src0 HF_src1 HF_src2 HF_src3 HF_src4 HF_src5]
  · unfold homeP
    isplitl [HF_src0]; · iexact HF_src0
    isplitl [HF_src1]; · iexact HF_src1
    isplitl [HF_src2]; · iexact HF_src2
    isplitl [HF_src3]; · iexact HF_src3
    isplitl [HF_src4]; · iexact HF_src4
    iexact HF_src5
  iexists _; iexact HW

end Cert.Proof.Mlp

end
-- ==== Proof.Norm.lean ====
/-
  The normalized input of a layer, as a function of the stream and the gains: what the sixteen stores of the kernel leave in its
  scratch, whatever was there before.
-/
module

public import proofs.«01_k».proof.Proof.Step
public import Idealize.ShloMosaic.Lib.Ring

@[expose] public section

set_option backward.isDefEq.respectTransparency.types false

noncomputable section

namespace Cert.Proof.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (arg0 : Memref sig .tc .vmem S2x80x2048 .f32) (t1 : T1) (X : Cts (F := F) c arg0) (N : Cts (F := F) c nmM)

/-- The columns `o ≤ j < o + 128` of the layer's stream. -/
def xB (o : ℕ) (h : ∀ a, (![0, o] : Fin 2 → ℕ) a + S80x128.size a ≤ S80x2048.size a) : Vec F S80x128 .f32 :=
  View.readAt (Elt F) ((arg0.slice (Rect.unit (s := S2x80x2048) (k0_off1 t1) S1x80x2048.size (k0_off1_inb t1)) (fun _ => rfl)).squeeze S80x2048 squeezes_S1x80x2048_S80x2048).view
    (Rect.unit (s := S80x2048) ![0, o] S80x128.size h).toLoadRect X
/-- The same columns of the layer's gains. -/
def nB (o : ℕ) (h : ∀ a, (![0, o] : Fin 2 → ℕ) a + S1x128.size a ≤ S1x2048.size a) : Vec F S1x128 .f32 :=
  View.readAt (Elt F) nmM.view ((Rect.unit (s := S2x2048) (k0_off2 t1) S1x2048.size (k0_off2_inb t1)).withinL
    (Rect.unit (s := S1x2048) ![0, o] S1x128.size h).toLoadRect (fun _ => rfl)) N

/-- The layer's reciprocal root mean square. -/
def invV : FVec F S80x1 .f32 :=
  k0_pay48
    (k0_pay47
      (k0_pay46 (xB c arg0 t1 X 0 inb_S80x2048_S80x128_0_0) (xB c arg0 t1 X 128 inb_S80x2048_S80x128_0_128)
        (xB c arg0 t1 X 256 inb_S80x2048_S80x128_0_256) (xB c arg0 t1 X 384 inb_S80x2048_S80x128_0_384)
        (xB c arg0 t1 X 512 inb_S80x2048_S80x128_0_512) (xB c arg0 t1 X 640 inb_S80x2048_S80x128_0_640))
      (xB c arg0 t1 X 768 inb_S80x2048_S80x128_0_768) (xB c arg0 t1 X 896 inb_S80x2048_S80x128_0_896)
      (xB c arg0 t1 X 1024 inb_S80x2048_S80x128_0_1024) (xB c arg0 t1 X 1152 inb_S80x2048_S80x128_0_1152)
      (xB c arg0 t1 X 1280 inb_S80x2048_S80x128_0_1280) (xB c arg0 t1 X 1408 inb_S80x2048_S80x128_0_1408)
      (xB c arg0 t1 X 1536 inb_S80x2048_S80x128_0_1536))
    (xB c arg0 t1 X 1664 inb_S80x2048_S80x128_0_1664) (xB c arg0 t1 X 1792 inb_S80x2048_S80x128_0_1792)
    (xB c arg0 t1 X 1920 inb_S80x2048_S80x128_0_1920)

/-- One block of the normalized input, its lanes in the order of the packed weights' rows. -/
def normB (o : ℕ) (h : ∀ a, (![0, o] : Fin 2 → ℕ) a + S80x128.size a ≤ S80x2048.size a)
    (h' : ∀ a, (![0, o] : Fin 2 → ℕ) a + S1x128.size a ≤ S1x2048.size a) : FVec F S80x128 .bf16 :=
  k0_pay90 (invV c arg0 t1 X) (xB c arg0 t1 X o h) (nB c t1 N o h')

theorem blk_inb (q : ℕ) (hq : q < 16) : ∀ a, (![0, 128 * q] : Fin 2 → ℕ) a + S80x128.size a ≤ S80x2048.size a := by
  intro a; fin_cases a
  · exact Nat.le_refl 80
  · show 128 * q + 128 ≤ 2048
    omega
theorem blk_inb' (q : ℕ) (hq : q < 16) : ∀ a, (![0, 128 * q] : Fin 2 → ℕ) a + S1x128.size a ≤ S1x2048.size a := by
  intro a; fin_cases a
  · exact Nat.le_refl 1
  · show 128 * q + 128 ≤ 2048
    omega
theorem blk_lt (i : S80x2048.Idx) : (i 1).val / 128 < 16 := by
  have : (i 1).val < 2048 := (i 1).isLt
  omega

/-- The normalized input at element `i`. -/
def hpF (i : S80x2048.Idx) : Elt F .bf16 :=
  normB c arg0 t1 X N (128 * ((i 1).val / 128)) (blk_inb _ (blk_lt i)) (blk_inb' _ (blk_lt i))
    (fun a => match a with | ⟨0, _⟩ => ⟨(i 0).val, (i 0).isLt⟩ | ⟨1, _⟩ => ⟨(i 1).val % 128, Nat.mod_lt _ (by decide)⟩)

def hpC : Cts (F := F) c hpM := fun (i : S80x2048.Idx) => hpF c arg0 t1 X N i

theorem hpF_emb (q : ℕ) (hq : q < 16) (h) (h') (h0 : ∀ a, (![0, 128 * q] : Fin 2 → ℕ) a + S80x128.size a ≤ S80x2048.size a)
    (x : (Rect.unit (s := S80x2048) ![0, 128 * q] S80x128.size h0).shape.Idx) :
    normB c arg0 t1 X N (128 * q) h h' x = hpF c arg0 t1 X N ((Rect.unit (s := S80x2048) ![0, 128 * q] S80x128.size h0).emb x) := by
  have h1 : (x 1).val < 128 := (x 1).isLt
  have e1 : ((Rect.unit (s := S80x2048) ![0, 128 * q] S80x128.size h0).emb x 1).val = 128 * q + (x 1).val := by
    show 128 * q + 1 * (x 1).val = _; omega
  have e0 : ((Rect.unit (s := S80x2048) ![0, 128 * q] S80x128.size h0).emb x 0).val = (x 0).val := by
    show 0 + 1 * (x 0).val = _; omega
  have eq : ((Rect.unit (s := S80x2048) ![0, 128 * q] S80x128.size h0).emb x 1).val / 128 = q := by rw [e1]; omega
  unfold hpF
  generalize_proofs p1 p2 p3 p4
  revert p1 p2
  rw [eq]
  intro p1 p2
  refine congrArg _ (funext fun a => ?_)
  match a with
  | ⟨0, _⟩ => exact Fin.ext e0.symm
  | ⟨1, _⟩ => exact Fin.ext (by show (x 1).val = _ % 128; rw [e1]; omega)

/-- The sixteen stores, newest first. -/
def normL : List (View.Piece (Elt F) S80x2048 .bf16) :=
    [⟨Rect.unit (s := S80x2048) ![0, 1920] S80x128.size inb_S80x2048_S80x128_0_1920, normB c arg0 t1 X N 1920 inb_S80x2048_S80x128_0_1920 inb_S1x2048_S1x128_0_1920⟩,
     ⟨Rect.unit (s := S80x2048) ![0, 1792] S80x128.size inb_S80x2048_S80x128_0_1792, normB c arg0 t1 X N 1792 inb_S80x2048_S80x128_0_1792 inb_S1x2048_S1x128_0_1792⟩,
     ⟨Rect.unit (s := S80x2048) ![0, 1664] S80x128.size inb_S80x2048_S80x128_0_1664, normB c arg0 t1 X N 1664 inb_S80x2048_S80x128_0_1664 inb_S1x2048_S1x128_0_1664⟩,
     ⟨Rect.unit (s := S80x2048) ![0, 1536] S80x128.size inb_S80x2048_S80x128_0_1536, normB c arg0 t1 X N 1536 inb_S80x2048_S80x128_0_1536 inb_S1x2048_S1x128_0_1536⟩,
     ⟨Rect.unit (s := S80x2048) ![0, 1408] S80x128.size inb_S80x2048_S80x128_0_1408, normB c arg0 t1 X N 1408 inb_S80x2048_S80x128_0_1408 inb_S1x2048_S1x128_0_1408⟩,
     ⟨Rect.unit (s := S80x2048) ![0, 1280] S80x128.size inb_S80x2048_S80x128_0_1280, normB c arg0 t1 X N 1280 inb_S80x2048_S80x128_0_1280 inb_S1x2048_S1x128_0_1280⟩,
     ⟨Rect.unit (s := S80x2048) ![0, 1152] S80x128.size inb_S80x2048_S80x128_0_1152, normB c arg0 t1 X N 1152 inb_S80x2048_S80x128_0_1152 inb_S1x2048_S1x128_0_1152⟩,
     ⟨Rect.unit (s := S80x2048) ![0, 1024] S80x128.size inb_S80x2048_S80x128_0_1024, normB c arg0 t1 X N 1024 inb_S80x2048_S80x128_0_1024 inb_S1x2048_S1x128_0_1024⟩,
     ⟨Rect.unit (s := S80x2048) ![0, 896] S80x128.size inb_S80x2048_S80x128_0_896, normB c arg0 t1 X N 896 inb_S80x2048_S80x128_0_896 inb_S1x2048_S1x128_0_896⟩,
     ⟨Rect.unit (s := S80x2048) ![0, 768] S80x128.size inb_S80x2048_S80x128_0_768, normB c arg0 t1 X N 768 inb_S80x2048_S80x128_0_768 inb_S1x2048_S1x128_0_768⟩,
     ⟨Rect.unit (s := S80x2048) ![0, 640] S80x128.size inb_S80x2048_S80x128_0_640, normB c arg0 t1 X N 640 inb_S80x2048_S80x128_0_640 inb_S1x2048_S1x128_0_640⟩,
     ⟨Rect.unit (s := S80x2048) ![0, 512] S80x128.size inb_S80x2048_S80x128_0_512, normB c arg0 t1 X N 512 inb_S80x2048_S80x128_0_512 inb_S1x2048_S1x128_0_512⟩,
     ⟨Rect.unit (s := S80x2048) ![0, 384] S80x128.size inb_S80x2048_S80x128_0_384, normB c arg0 t1 X N 384 inb_S80x2048_S80x128_0_384 inb_S1x2048_S1x128_0_384⟩,
     ⟨Rect.unit (s := S80x2048) ![0, 256] S80x128.size inb_S80x2048_S80x128_0_256, normB c arg0 t1 X N 256 inb_S80x2048_S80x128_0_256 inb_S1x2048_S1x128_0_256⟩,
     ⟨Rect.unit (s := S80x2048) ![0, 128] S80x128.size inb_S80x2048_S80x128_0_128, normB c arg0 t1 X N 128 inb_S80x2048_S80x128_0_128 inb_S1x2048_S1x128_0_128⟩,
     ⟨Rect.unit (s := S80x2048) ![0, 0] S80x128.size inb_S80x2048_S80x128_0_0, normB c arg0 t1 X N 0 inb_S80x2048_S80x128_0_0 inb_S1x2048_S1x128_0_0⟩]

/-- The scratch after the sixteen stores holds the normalized input. -/
theorem norm_own (H : Cts (F := F) c hpM) :
    own c hpM (hpM.view.writes (Elt F) H (normL c arg0 t1 X N)) = own c hpM (hpC c arg0 t1 X N) := by
  have h : hpM.view.writes (Elt F) H (normL c arg0 t1 X N) = hpC c arg0 t1 X N := by
    funext (i : S80x2048.Idx)
    refine Eq.trans (b := View.read (Elt F) hpM.view (hpM.view.writes (Elt F) H (normL c arg0 t1 X N)) i) rfl
      ((View.read_writes_apply_of_pieces hpM.view H (hpF c arg0 t1 X N) _ ?_ i ?_).trans rfl)
    · intro p hp
      simp only [normL, List.mem_cons, List.not_mem_nil, or_false] at hp
      rcases hp with rfl | rfl | rfl | rfl | rfl | rfl | rfl | rfl | rfl | rfl | rfl | rfl | rfl | rfl | rfl | rfl <;> intro x
      · exact hpF_emb c arg0 t1 X N 15 (by decide) _ _ inb_S80x2048_S80x128_0_1920 x
      · exact hpF_emb c arg0 t1 X N 14 (by decide) _ _ inb_S80x2048_S80x128_0_1792 x
      · exact hpF_emb c arg0 t1 X N 13 (by decide) _ _ inb_S80x2048_S80x128_0_1664 x
      · exact hpF_emb c arg0 t1 X N 12 (by decide) _ _ inb_S80x2048_S80x128_0_1536 x
      · exact hpF_emb c arg0 t1 X N 11 (by decide) _ _ inb_S80x2048_S80x128_0_1408 x
      · exact hpF_emb c arg0 t1 X N 10 (by decide) _ _ inb_S80x2048_S80x128_0_1280 x
      · exact hpF_emb c arg0 t1 X N 9 (by decide) _ _ inb_S80x2048_S80x128_0_1152 x
      · exact hpF_emb c arg0 t1 X N 8 (by decide) _ _ inb_S80x2048_S80x128_0_1024 x
      · exact hpF_emb c arg0 t1 X N 7 (by decide) _ _ inb_S80x2048_S80x128_0_896 x
      · exact hpF_emb c arg0 t1 X N 6 (by decide) _ _ inb_S80x2048_S80x128_0_768 x
      · exact hpF_emb c arg0 t1 X N 5 (by decide) _ _ inb_S80x2048_S80x128_0_640 x
      · exact hpF_emb c arg0 t1 X N 4 (by decide) _ _ inb_S80x2048_S80x128_0_512 x
      · exact hpF_emb c arg0 t1 X N 3 (by decide) _ _ inb_S80x2048_S80x128_0_384 x
      · exact hpF_emb c arg0 t1 X N 2 (by decide) _ _ inb_S80x2048_S80x128_0_256 x
      · exact hpF_emb c arg0 t1 X N 1 (by decide) _ _ inb_S80x2048_S80x128_0_128 x
      · exact hpF_emb c arg0 t1 X N 0 (by decide) _ _ inb_S80x2048_S80x128_0_0 x
    · have h0 : (i 0).val < 80 := (i 0).isLt
      have h1 : (i 1).val / 128 < 16 := blk_lt i
      have key : ∀ (o : ℕ) (h : ∀ a, (![0, o] : Fin 2 → ℕ) a + S80x128.size a ≤ S80x2048.size a), o ≤ (i 1).val → (i 1).val < o + 128 →
          i ∈ (Rect.unit (s := S80x2048) ![0, o] S80x128.size h).set := by
        intro o h hl hu
        rw [Rect.mem_set_unit]
        intro a
        match a with
        | ⟨0, _⟩ => exact ⟨Nat.zero_le _, by show (i 0).val < 0 + 80; omega⟩
        | ⟨1, _⟩ => exact ⟨hl, hu⟩
      generalize hq : (i 1).val / 128 = q at h1
      simp only [normL, List.exists_mem_cons_iff, List.not_mem_nil, _root_.false_and, exists_false, _root_.or_false]
      interval_cases q
      · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact key _ _ (by omega) (by omega)
      · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (key _ _ (by omega) (by omega))
      · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (key _ _ (by omega) (by omega))
      · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (key _ _ (by omega) (by omega))
      · refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (key _ _ (by omega) (by omega))
      · refine Or.inr ?_; refine Or.inr ?_; refine Or.inr ?_; refine Or.inr ?_; refine Or.inr ?_; refine Or.inr ?_; refine Or.inr ?_; refine Or.inr ?_; refine Or.inr ?_; refine Or.inr ?_; exact Or.inl (key _ _ (by omega) (by omega))
      · refine Or.inr ?_; refine Or.inr ?_; refine Or.inr ?_; refine Or.inr ?_; refine Or.inr ?_; refine Or.inr ?_; refine Or.inr ?_; refine Or.inr ?_; refine Or.inr ?_; exact Or.inl (key _ _ (by omega) (by omega))
      · refine Or.inr ?_; refine Or.inr ?_; refine Or.inr ?_; refine Or.inr ?_; refine Or.inr ?_; refine Or.inr ?_; refine Or.inr ?_; refine Or.inr ?_; exact Or.inl (key _ _ (by omega) (by omega))
      · refine Or.inr ?_; refine Or.inr ?_; refine Or.inr ?_; refine Or.inr ?_; refine Or.inr ?_; refine Or.inr ?_; refine Or.inr ?_; exact Or.inl (key _ _ (by omega) (by omega))
      · refine Or.inr ?_; refine Or.inr ?_; refine Or.inr ?_; refine Or.inr ?_; refine Or.inr ?_; refine Or.inr ?_; exact Or.inl (key _ _ (by omega) (by omega))
      · refine Or.inr ?_; refine Or.inr ?_; refine Or.inr ?_; refine Or.inr ?_; refine Or.inr ?_; exact Or.inl (key _ _ (by omega) (by omega))
      · refine Or.inr ?_; refine Or.inr ?_; refine Or.inr ?_; refine Or.inr ?_; exact Or.inl (key _ _ (by omega) (by omega))
      · refine Or.inr ?_; refine Or.inr ?_; refine Or.inr ?_; exact Or.inl (key _ _ (by omega) (by omega))
      · refine Or.inr ?_; refine Or.inr ?_; exact Or.inl (key _ _ (by omega) (by omega))
      · refine Or.inr ?_; exact Or.inl (key _ _ (by omega) (by omega))
      · exact Or.inl (key _ _ (by omega) (by omega))
  rw [h]

/-- The same for a list of stores that is those sixteen up to unfolding. -/
theorem norm_own' (H : Cts (F := F) c hpM) (L : List (View.Piece (Elt F) S80x2048 .bf16)) :
    own c hpM (hpM.view.writes (Elt F) H L) ⊢ iprop(⌜L = normL c arg0 t1 X N⌝ -∗ own c hpM (hpC c arg0 t1 X N)) := by
  iintro Hh %h
  subst h
  iapply (Entails.of_eq (norm_own c arg0 t1 X N H)); iexact Hh

end Cert.Proof.Mlp

end
-- ==== Proof.Out.lean ====
/-
  The result slot of a layer, as a function of the stream and the eight down products: what the eight stores of the kernel leave
  in it, whatever was there before — and the state of the matrix units once the eight products are taken out.
-/
module

public import proofs.«01_k».proof.Proof.Norm

@[expose] public section

set_option backward.isDefEq.respectTransparency.types false

noncomputable section

namespace Cert.Proof.Mlp

open Cert.KernelIdeal Cert.KernelIdeal.Gen
open Idealize.ShloMosaic Idealize.ShloMosaic.TcCoe Idealize.ShloMosaic.Tactic Idealize.ShloMosaic.Mxu
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## The eight products taken out -/

abbrev u0 (s : Mxu F) : Mxu F := s.pop 0 0 80 fits_0_80
abbrev u1 (s : Mxu F) : Mxu F := (u0 s).pop 1 0 80 fits_0_80
abbrev u2 (s : Mxu F) : Mxu F := (u1 s).pop 0 20 80 fits_20_80
abbrev u3 (s : Mxu F) : Mxu F := (u2 s).pop 1 20 80 fits_20_80
abbrev u4 (s : Mxu F) : Mxu F := (u3 s).pop 0 40 80 fits_40_80
abbrev u5 (s : Mxu F) : Mxu F := (u4 s).pop 1 40 80 fits_40_80
abbrev u6 (s : Mxu F) : Mxu F := (u5 s).pop 0 60 80 fits_60_80
/-- The matrix units once the eight products are taken out. -/
def u7 (s : Mxu F) : Mxu F := (u6 s).pop 1 60 80 fits_60_80

/-- What the eight takings read. -/
def rd (s : Mxu F) : Fin 4 → Fin 2 → Acc F
  | 0, 0 => s.read 0 0 fits_0_80
  | 0, 1 => (u0 s).read 1 0 fits_0_80
  | 1, 0 => (u1 s).read 0 20 fits_20_80
  | 1, 1 => (u2 s).read 1 20 fits_20_80
  | 2, 0 => (u3 s).read 0 40 fits_40_80
  | 2, 1 => (u4 s).read 1 40 fits_40_80
  | 3, 0 => (u5 s).read 0 60 fits_60_80
  | 3, 1 => (u6 s).read 1 60 fits_60_80

theorem rd_eq (s : Mxu F) (n : Fin 4) (q : Fin 2) : rd s n q = s.read q (20 * (up4 n).val) (fits5 (up4 n)) := by
  fin_cases n <;> fin_cases q
  · rfl
  · show (u0 s).read 1 0 fits_0_80 = _
    rw [read_pop_ne _ _ _ _ _ _ _ (Or.inl (by decide))]; rfl
  · show (u1 s).read 0 20 fits_20_80 = _
    rw [read_pop_ne _ _ _ _ _ _ _ (Or.inr (by decide)), read_pop_ne _ _ _ _ _ _ _ (Or.inr (by decide))]; rfl
  · show (u2 s).read 1 20 fits_20_80 = _
    rw [read_pop_ne _ _ _ _ _ _ _ (Or.inl (by decide)), read_pop_ne _ _ _ _ _ _ _ (Or.inr (by decide)), read_pop_ne _ _ _ _ _ _ _ (Or.inr (by decide))]; rfl
  · show (u3 s).read 0 40 fits_40_80 = _
    iterate 4 rw [read_pop_ne _ _ _ _ _ _ _ (Or.inr (by decide))]
    rfl
  · show (u4 s).read 1 40 fits_40_80 = _
    rw [read_pop_ne _ _ _ _ _ _ _ (Or.inl (by decide))]
    iterate 4 rw [read_pop_ne _ _ _ _ _ _ _ (Or.inr (by decide))]
    rfl
  · show (u5 s).read 0 60 fits_60_80 = _
    iterate 6 rw [read_pop_ne _ _ _ _ _ _ _ (Or.inr (by decide))]
    rfl
  · show (u6 s).read 1 60 fits_60_80 = _
    rw [read_pop_ne _ _ _ _ _ _ _ (Or.inl (by decide))]
    iterate 6 rw [read_pop_ne _ _ _ _ _ _ _ (Or.inr (by decide))]
    rfl

variable (c : Dev nD) (A : Wts F c) (arg0 : Memref sig .tc .vmem S2x80x2048 .f32) (t1 : T1) (X : Cts (F := F) c arg0)

theorem rd_done {H : Cts (F := F) c hpM} {L : ℕ} {s : Mxu F} (h : Done c A H L s) : rd s = dV c A H L 22 := by
  funext n q; rw [rd_eq]; exact h.dn n q

/-- With its eight products taken out, a layer's matrix units are as a fresh layer finds them. -/
theorem u7_fresh {H : Cts (F := F) c hpM} {L : ℕ} {s : Mxu F} (h : Done c A H L s) :
    (∀ q r, (u7 s).reg q r = none) ∧ ∀ q R, (u7 s).live q R = false := by
  refine ⟨fun q r => h.reg q r, fun q R => ?_⟩
  unfold u7
  rw [live_pop, live_pop, live_pop, live_pop, live_pop, live_pop, live_pop, live_pop, h.live]
  have hR : R.val < 1024 := R.isLt
  fin_cases q <;> simp <;> omega

/-! ## The slot -/

abbrev ownR {sp : Space} {S : Shape} {e : EltTy} (M : Memref sig .tc sp S e) (r : Rect S) (f : Cts (F := F) c M) : sProp 𝕄 :=
  M.view.loc (c : Thread nD τ) ↦[M.view.setOn r.set]{fullShare} f

theorem rs_inb (t1 : T1) : ∀ a, (![t1.val + 1, 0, 0] : Fin 3 → ℕ) a + S1x80x2048.size a ≤ S3x80x2048.size a := by
  have : t1.val < 2 := t1.isLt
  intro a; fin_cases a
  · show t1.val + 1 + 1 ≤ 3; omega
  · show 0 + 80 ≤ 80; omega
  · show 0 + 2048 ≤ 2048; omega
abbrev rsR (t1 : T1) : Rect S3x80x2048 := Rect.unit (s := S3x80x2048) (![t1.val + 1, 0, 0] : Fin 3 → ℕ) S1x80x2048.size (rs_inb t1)

theorem rSlot_set (t1 : T1) : ((rSlot t1.val).view.set : Finset rhM.view.ty.Idx) = rhM.view.setOn (rsR t1).set := by
  have e : (rSlotOff t1.val) = ![t1.val + 1, 0, 0] := by
    have : t1.val < 2 := t1.isLt
    show ![min t1.val 1 + 1, 0, 0] = _
    rw [Nat.min_eq_left (by omega)]
  have h : ((rSlot t1.val).view.set : Finset S3x80x2048.Idx) = (Rect.unit (s := S3x80x2048) (rSlotOff t1.val) S1x80x2048.size (rSlotOff_inb t1.val)).set :=
    (View.set_reshape _ _).trans (View.set_slice_whole _ _)
  refine h.trans ?_
  ext i
  rw [Rect.mem_set_unit, e]
  constructor
  · intro hi
    refine Finset.mem_map.2 ⟨i, ?_, rfl⟩
    rw [Rect.mem_set_unit]; exact hi
  · intro hi
    obtain ⟨j, hj, e'⟩ := Finset.mem_map.1 hi
    rw [Rect.mem_set_unit] at hj
    have : j = i := e'
    exact this ▸ hj

theorem ownR_slot (f : Cts (F := F) c rhM) : ownR c rhM (rsR t1) f = own c (rSlot t1.val) f :=
  congrArg (fun S : Finset rhM.view.ty.Idx => (rhM.view.loc (c : Thread nD τ) ↦[S]{fullShare} f : sProp 𝕄)) (rSlot_set t1).symm

/-- Block `b` of a layer's result: the stream plus the product the block's accumulator took. -/
def oBk (D : Fin 4 → Fin 2 → Acc F) (b : ℕ) (hb : b < 8) (off : Fin 3 → ℕ) (h : ∀ a, off a + S1x80x256.size a ≤ S2x80x2048.size a) : FVec F S1x80x256 .f32 :=
  k0_pay142 (View.readAt (Elt F) arg0.view (Rect.unit (s := S2x80x2048) off S1x80x256.size h).toLoadRect X)
    (D ⟨b / 2, by omega⟩ ⟨b % 2, Nat.mod_lt _ (by decide)⟩)

theorem oBk_inb (t1 : T1) (b : ℕ) (hb : b < 8) : ∀ a, (![t1.val, 0, 256 * b] : Fin 3 → ℕ) a + S1x80x256.size a ≤ S2x80x2048.size a := by
  have : t1.val < 2 := t1.isLt
  intro a; fin_cases a
  · show t1.val + 1 ≤ 2; omega
  · show 0 + 80 ≤ 80; omega
  · show 256 * b + 256 ≤ 2048; omega
theorem ob_lt (i : S3x80x2048.Idx) : (i 2).val / 256 < 8 := by
  have : (i 2).val < 2048 := (i 2).isLt
  omega

/-- A layer's result at element `i`, from the products its accumulators hold. -/
def rF (D : Fin 4 → Fin 2 → Acc F) (i : S3x80x2048.Idx) : Elt F .f32 :=
  oBk c arg0 X D ((i 2).val / 256) (ob_lt i) ![t1.val, 0, 256 * ((i 2).val / 256)] (oBk_inb t1 _ (ob_lt i))
    (fun a => match a with | ⟨0, _⟩ => ⟨0, Nat.one_pos⟩ | ⟨1, _⟩ => ⟨(i 1).val, (i 1).isLt⟩ | ⟨2, _⟩ => ⟨(i 2).val % 256, Nat.mod_lt _ (by decide)⟩)

def rC (D : Fin 4 → Fin 2 → Acc F) : Cts (F := F) c rhM := fun (i : S3x80x2048.Idx) => rF c arg0 t1 X D i

theorem rF_emb (D : Fin 4 → Fin 2 → Acc F) (b : ℕ) (hb : b < 8) (off off' : Fin 3 → ℕ) (e : off = ![t1.val, 0, 256 * b]) (e' : off' = ![t1.val + 1, 0, 256 * b]) (h)
    (h0 : ∀ a, off' a + S1x80x256.size a ≤ S3x80x2048.size a)
    (x : (Rect.unit (s := S3x80x2048) off' S1x80x256.size h0).shape.Idx) :
    oBk c arg0 X D b hb off h x = rF c arg0 t1 X D ((Rect.unit (s := S3x80x2048) off' S1x80x256.size h0).emb x) := by
  subst e e'
  have h1 : (x 2).val < 256 := (x 2).isLt
  have h2 : (x 0).val < 1 := (x 0).isLt
  have e2 : ((Rect.unit (s := S3x80x2048) ![t1.val + 1, 0, 256 * b] S1x80x256.size h0).emb x 2).val = 256 * b + (x 2).val := by
    show 256 * b + 1 * (x 2).val = _; omega
  have e1 : ((Rect.unit (s := S3x80x2048) ![t1.val + 1, 0, 256 * b] S1x80x256.size h0).emb x 1).val = (x 1).val := by
    show 0 + 1 * (x 1).val = _; omega
  have eq : ((Rect.unit (s := S3x80x2048) ![t1.val + 1, 0, 256 * b] S1x80x256.size h0).emb x 2).val / 256 = b := by rw [e2]; omega
  unfold rF
  generalize_proofs p1 p2 p3 p4 p5 p6
  revert p1 p2
  rw [eq]
  intro p1 p2
  refine congrArg _ (funext fun a => ?_)
  match a with
  | ⟨0, _⟩ => exact Fin.ext (by show (x 0).val = 0; omega)
  | ⟨1, _⟩ => exact Fin.ext e1.symm
  | ⟨2, _⟩ => exact Fin.ext (by show (x 2).val = _ % 256; rw [e2]; omega)

/-- The eight stores, newest first. -/
def outL (D : Fin 4 → Fin 2 → Acc F) : List (View.Piece (Elt F) S3x80x2048 .f32) :=
  [⟨Rect.unit (s := S3x80x2048) (k0_off78 t1) S1x80x256.size (k0_off78_inb t1), oBk c arg0 X D 7 (by decide) (k0_off77 t1) (k0_off77_inb t1)⟩,
   ⟨Rect.unit (s := S3x80x2048) (k0_off76 t1) S1x80x256.size (k0_off76_inb t1), oBk c arg0 X D 6 (by decide) (k0_off75 t1) (k0_off75_inb t1)⟩,
   ⟨Rect.unit (s := S3x80x2048) (k0_off74 t1) S1x80x256.size (k0_off74_inb t1), oBk c arg0 X D 5 (by decide) (k0_off73 t1) (k0_off73_inb t1)⟩,
   ⟨Rect.unit (s := S3x80x2048) (k0_off72 t1) S1x80x256.size (k0_off72_inb t1), oBk c arg0 X D 4 (by decide) (k0_off71 t1) (k0_off71_inb t1)⟩,
   ⟨Rect.unit (s := S3x80x2048) (k0_off70 t1) S1x80x256.size (k0_off70_inb t1), oBk c arg0 X D 3 (by decide) (k0_off69 t1) (k0_off69_inb t1)⟩,
   ⟨Rect.unit (s := S3x80x2048) (k0_off68 t1) S1x80x256.size (k0_off68_inb t1), oBk c arg0 X D 2 (by decide) (k0_off67 t1) (k0_off67_inb t1)⟩,
   ⟨Rect.unit (s := S3x80x2048) (k0_off66 t1) S1x80x256.size (k0_off66_inb t1), oBk c arg0 X D 1 (by decide) (k0_off65 t1) (k0_off65_inb t1)⟩,
   ⟨Rect.unit (s := S3x80x2048) (k0_off64 t1) S1x80x256.size (k0_off64_inb t1), oBk c arg0 X D 0 (by decide) (k0_off63 t1) (k0_off63_inb t1)⟩]

set_option maxHeartbeats 2000000 in
/-- The slot after the eight stores. -/
theorem out_own (D : Fin 4 → Fin 2 → Acc F) (R0 : Cts (F := F) c rhM) :
    ownR c rhM (rsR t1) (rhM.view.writes (Elt F) R0 (outL c arg0 t1 X D)) = own c (rSlot t1.val) (rC c arg0 t1 X D) := by
  rw [← ownR_slot]
  refine pointsTo_congr fun (i : S3x80x2048.Idx) hi => ?_
  have hi' : i ∈ (rsR t1).set := by
    obtain ⟨j, hj, e'⟩ := Finset.mem_map.1 hi
    have : j = i := e'
    exact this ▸ hj
  rw [Rect.mem_set_unit] at hi'
  refine Eq.trans (b := View.read (Elt F) rhM.view (rhM.view.writes (Elt F) R0 (outL c arg0 t1 X D)) i) rfl
    ((View.read_writes_apply_of_pieces rhM.view R0 (rF c arg0 t1 X D) _ ?_ i ?_).trans rfl)
  · intro p hp
    simp only [outL, List.mem_cons, List.not_mem_nil, or_false] at hp
    rcases hp with rfl | rfl | rfl | rfl | rfl | rfl | rfl | rfl <;> intro x
    · exact rF_emb c arg0 t1 X D 7 (by decide) (k0_off77 t1) (k0_off78 t1) (k0_off77_eq t1) (k0_off78_eq t1) (k0_off77_inb t1) (k0_off78_inb t1) x
    · exact rF_emb c arg0 t1 X D 6 (by decide) (k0_off75 t1) (k0_off76 t1) (k0_off75_eq t1) (k0_off76_eq t1) (k0_off75_inb t1) (k0_off76_inb t1) x
    · exact rF_emb c arg0 t1 X D 5 (by decide) (k0_off73 t1) (k0_off74 t1) (k0_off73_eq t1) (k0_off74_eq t1) (k0_off73_inb t1) (k0_off74_inb t1) x
    · exact rF_emb c arg0 t1 X D 4 (by decide) (k0_off71 t1) (k0_off72 t1) (k0_off71_eq t1) (k0_off72_eq t1) (k0_off71_inb t1) (k0_off72_inb t1) x
    · exact rF_emb c arg0 t1 X D 3 (by decide) (k0_off69 t1) (k0_off70 t1) (k0_off69_eq t1) (k0_off70_eq t1) (k0_off69_inb t1) (k0_off70_inb t1) x
    · exact rF_emb c arg0 t1 X D 2 (by decide) (k0_off67 t1) (k0_off68 t1) (k0_off67_eq t1) (k0_off68_eq t1) (k0_off67_inb t1) (k0_off68_inb t1) x
    · exact rF_emb c arg0 t1 X D 1 (by decide) (k0_off65 t1) (k0_off66 t1) (k0_off65_eq t1) (k0_off66_eq t1) (k0_off65_inb t1) (k0_off66_inb t1) x
    · exact rF_emb c arg0 t1 X D 0 (by decide) (k0_off63 t1) (k0_off64 t1) (k0_off63_eq t1) (k0_off64_eq t1) (k0_off63_inb t1) (k0_off64_inb t1) x
  · have h0 : (i 1).val < 80 := (i 1).isLt
    have h1 : (i 2).val / 256 < 8 := ob_lt i
    have hz : t1.val + 1 ≤ (i 0).val ∧ (i 0).val < t1.val + 1 + 1 := hi' 0
    have key : ∀ (b : ℕ) (off : Fin 3 → ℕ) (e : off = ![t1.val + 1, 0, 256 * b]) (h : ∀ a, off a + S1x80x256.size a ≤ S3x80x2048.size a), (i 2).val / 256 = b →
        i ∈ (Rect.unit (s := S3x80x2048) off S1x80x256.size h).set := by
      intro b off e h hb
      subst e
      rw [Rect.mem_set_unit]
      intro a
      match a with
      | ⟨0, _⟩ => exact hz
      | ⟨1, _⟩ => exact ⟨Nat.zero_le _, by show (i 1).val < 0 + 80; omega⟩
      | ⟨2, _⟩ => exact ⟨by show 256 * b ≤ (i 2).val; omega, by show (i 2).val < 256 * b + 256; omega⟩
    generalize hq : (i 2).val / 256 = q at h1
    simp only [outL, List.exists_mem_cons_iff, List.not_mem_nil, _root_.false_and, exists_false, _root_.or_false]
    interval_cases q
    · refine Or.inr ?_; refine Or.inr ?_; refine Or.inr ?_; refine Or.inr ?_; refine Or.inr ?_; refine Or.inr ?_; refine Or.inr ?_; exact key 0 (k0_off64 t1) (k0_off64_eq t1) (k0_off64_inb t1) hq
    · refine Or.inr ?_; refine Or.inr ?_; refine Or.inr ?_; refine Or.inr ?_; refine Or.inr ?_; refine Or.inr ?_; exact Or.inl (key 1 (k0_off66 t1) (k0_off66_eq t1) (k0_off66_inb t1) hq)
    · refine Or.inr ?_; refine Or.inr ?_; refine Or.inr ?_; refine Or.inr ?_; refine Or.inr ?_; exact Or.inl (key 2 (k0_off68 t1) (k0_off68_eq t1) (k0_off68_inb t1) hq)
    · refine Or.inr ?_; refine Or.inr ?_; refine Or.inr ?_; refine Or.inr ?_; exact Or.inl (key 3 (k0_off70 t1) (k0_off70_eq t1) (k0_off70_inb t1) hq)
    · refine Or.inr ?_; refine Or.inr ?_; refine Or.inr ?_; exact Or.inl (key 4 (k0_off72 t1) (k0_off72_eq t1) (k0_off72_inb t1) hq)
    · refine Or.inr ?_; refine Or.inr ?_; exact Or.inl (key 5 (k0_off74 t1) (k0_off74_eq t1) (k0_off74_inb t1) hq)
    · refine Or.inr ?_; exact Or.inl (key 6 (k0_off76 t1) (k0_off76_eq t1) (k0_off76_inb t1) hq)
    · exact Or.inl (key 7 (k0_off78 t1) (k0_off78_eq t1) (k0_off78_inb t1) hq)

/-- The same for a list of stores that is those eight up to unfolding, the products read off a finished layer. -/
theorem out_own' (R0 : Cts (F := F) c rhM) (L : List (View.Piece (Elt F) S3x80x2048 .f32)) (D : Fin 4 → Fin 2 → Acc F) :
    ownR c rhM (rsR t1) (rhM.view.writes (Elt F) R0 L) ⊢ iprop(⌜L = outL c arg0 t1 X D⌝ -∗ own c (rSlot t1.val) (rC c arg0 t1 X D)) := by
  iintro Hh %h
  subst h
  iapply (Entails.of_eq (out_own c arg0 t1 X D R0)); iexact Hh

end Cert.Proof.Mlp

end
-- ==== Proof.Turn.lean ====
/-
  The ring of twelve slots as one resource: which chunks are in flight, which slots are free, and which chunks are at home in HBM
  — with what one trip of a loop takes out of it and puts back.
-/
module

public import proofs.«01_k».proof.Proof.Wait
public import Idealize.ShloMosaic.Lib.Ring

@[expose] public section

set_option backward.isDefEq.respectTransparency.types false

noncomputable section

namespace Cert.Proof.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (A : Wts F c)

/-- Chunks `a ≤ n < b` are in flight, the slots of `b ≤ n < d` are free, and the chunks below `a` and from `b` on are at home. -/
def ring (a b d : ℕ) : sProp 𝕄 :=
  iprop(bigSep (Finset.Ico a b) (fun n => flightP c A n) ∗ bigSep (Finset.Ico b d) (fun n => freeP (F := F) c n)
    ∗ bigSep (Finset.Ico 0 a) (fun n => homeP c A n) ∗ bigSep (Finset.Ico b 44) (fun n => homeP c A n))

theorem sep_first (Φ : ℕ → sProp 𝕄) {a b : ℕ} (h : a < b) :
    bigSep (Finset.Ico a b) Φ = iprop(Φ a ∗ bigSep (Finset.Ico (a + 1) b) Φ) := by
  rw [Ring.Ico_eq_insert h]; exact bigSep_insert (by simp)
theorem sep_last (Φ : ℕ → sProp 𝕄) {a b : ℕ} (h : a ≤ b) :
    bigSep (Finset.Ico a (b + 1)) Φ = iprop(Φ b ∗ bigSep (Finset.Ico a b) Φ) := by
  have e : Finset.Ico a (b + 1) = insert b (Finset.Ico a b) := by
    ext x; simp only [Finset.mem_Ico, Finset.mem_insert]; omega
  rw [e]; exact bigSep_insert (by simp)

/-- Starting chunk `b` while chunk `a` is waited for. -/
theorem ring_turn {a b d : ℕ} (hab : a < b) (hbd : b < d) (hb : b < 44) :
    ring c A a b d ⊢ iprop(freeP (F := F) c b ∗ homeP c A b ∗ flightP c A a ∗ (flightP c A b ∗ homeP c A a -∗ ring c A (a + 1) (b + 1) d)) := by
  unfold ring
  rw [sep_first _ hab, sep_first (fun n => freeP (F := F) c n) hbd, sep_first (fun n => homeP c A n) hb,
    sep_last (fun n => flightP c A n) (show a + 1 ≤ b by omega), sep_last (fun n => homeP c A n) (Nat.zero_le a)]
  iintro ⟨⟨Ha, Hf⟩, ⟨Hb, Hd⟩, Hh, ⟨Hk, Hr⟩⟩
  isplitl [Hb]; · iexact Hb
  isplitl [Hk]; · iexact Hk
  isplitl [Ha]; · iexact Ha
  iintro ⟨Hx, Hy⟩
  isplitl [Hx Hf]
  · isplitl [Hx]; · iexact Hx
    iexact Hf
  isplitl [Hd]; · iexact Hd
  isplitl [Hy Hh]
  · isplitl [Hy]; · iexact Hy
    iexact Hh
  iexact Hr

/-- Starting chunk `b`. -/
theorem ring_start {a b d : ℕ} (hab : a ≤ b) (hbd : b < d) (hb : b < 44) :
    ring c A a b d ⊢ iprop(freeP (F := F) c b ∗ homeP c A b ∗ (flightP c A b -∗ ring c A a (b + 1) d)) := by
  unfold ring
  rw [sep_first (fun n => freeP (F := F) c n) hbd, sep_first (fun n => homeP c A n) hb, sep_last (fun n => flightP c A n) hab]
  iintro ⟨Hf, ⟨Hb, Hd⟩, Hh, ⟨Hk, Hr⟩⟩
  isplitl [Hb]; · iexact Hb
  isplitl [Hk]; · iexact Hk
  iintro Hx
  isplitl [Hx Hf]
  · isplitl [Hx]; · iexact Hx
    iexact Hf
  isplitl [Hd]; · iexact Hd
  isplitl [Hh]; · iexact Hh
  iexact Hr

/-- Waiting for chunk `a`. -/
theorem ring_wait {a b d : ℕ} (hab : a < b) :
    ring c A a b d ⊢ iprop(flightP c A a ∗ (homeP c A a -∗ ring c A (a + 1) b d)) := by
  unfold ring
  rw [sep_first _ hab, sep_last (fun n => homeP c A n) (Nat.zero_le a)]
  iintro ⟨⟨Ha, Hf⟩, Hd, Hh, Hr⟩
  isplitl [Ha]; · iexact Ha
  iintro Hy
  isplitl [Hf]; · iexact Hf
  isplitl [Hd]; · iexact Hd
  isplitl [Hy Hh]
  · isplitl [Hy]; · iexact Hy
    iexact Hh
  iexact Hr

/-- A slot given back. -/
theorem ring_free {a b d : ℕ} (hbd : b ≤ d) : iprop(ring c A a b d ∗ freeP (F := F) c d) ⊢ ring c A a b (d + 1) := by
  unfold ring
  rw [sep_last (fun n => freeP (F := F) c n) hbd]
  iintro ⟨⟨Hf, Hd, Hh, Hr⟩, Hx⟩
  isplitl [Hf]; · iexact Hf
  isplitl [Hx Hd]
  · isplitl [Hx]; · iexact Hx
    iexact Hd
  isplitl [Hh]; · iexact Hh
  iexact Hr

/-! ## By the number of the chunk waited for next -/

/-- The first chunk not yet started when chunk `n` is waited for next. -/
def hi (n : ℕ) : ℕ := max 12 (min (n + 10) 44)

/-- Inside a layer, with chunk `n - 1` landed and chunk `n` waited for next. -/
def ringP (n : ℕ) : sProp 𝕄 := ring c A n (hi n) (n + 11)
/-- Between layers, with every chunk below `n` done with. -/
def ringS (n : ℕ) : sProp 𝕄 := ring c A n (hi n) (n + 12)

theorem turn_refill {n : ℕ} (h : 2 ≤ n ∧ n < 34) :
    ringP c A n ⊢ iprop(freeP (F := F) c (n + 10) ∗ homeP c A (n + 10) ∗ flightP c A n
      ∗ (flightP c A (n + 10) ∗ homeP c A n ∗ freeP (F := F) c (n + 11) -∗ ringP c A (n + 1))) := by
  have e : hi n = n + 10 := by unfold hi; omega
  have e' : hi (n + 1) = n + 10 + 1 := by unfold hi; omega
  unfold ringP
  rw [e, e']
  refine (ring_turn c A (by omega) (by omega) (by omega)).trans ?_
  iintro ⟨H1, H2, H3, H4⟩
  isplitl [H1]; · iexact H1
  isplitl [H2]; · iexact H2
  isplitl [H3]; · iexact H3
  iintro ⟨Hx, Hy, Hz⟩
  iapply (ring_free c A (a := n + 1) (b := n + 10 + 1) (d := n + 11) (by omega))
  isplitl [H4 Hx Hy]
  · iapply H4
    isplitl [Hx]; · iexact Hx
    iexact Hy
  iexact Hz

theorem turn_wait {n : ℕ} (h : n = 1 ∨ (34 ≤ n ∧ n < 44)) :
    ringP c A n ⊢ iprop(flightP c A n ∗ (homeP c A n ∗ freeP (F := F) c (n + 11) -∗ ringP c A (n + 1))) := by
  have e : hi (n + 1) = hi n := by unfold hi; omega
  unfold ringP
  rw [e]
  refine (ring_wait c A (by unfold hi; omega)).trans ?_
  iintro ⟨H3, H4⟩
  isplitl [H3]; · iexact H3
  iintro ⟨Hy, Hz⟩
  iapply (ring_free c A (a := n + 1) (b := hi n) (d := n + 11) (by unfold hi; omega))
  isplitl [H4 Hy]
  · iapply H4; iexact Hy
  iexact Hz

/-- The opening of the first layer. -/
theorem open_zero : ringS c A 0 ⊢ iprop(flightP c A 0 ∗ (homeP c A 0 -∗ ringP c A 1)) := by
  unfold ringP ringS
  exact ring_wait c A (by decide)

/-- The opening of the second layer, its refill started. -/
theorem open_one : ringS c A 22 ⊢ iprop(freeP (F := F) c 32 ∗ homeP c A 32 ∗ flightP c A 22 ∗ (flightP c A 32 ∗ homeP c A 22 -∗ ringP c A 23)) := by
  unfold ringP ringS
  exact ring_turn c A (a := 22) (b := 32) (d := 34) (by decide) (by decide) (by decide)

theorem open_layer1 (t1 : T1) (h : t1.val = 1) : ringS c A (22 * t1.val) ⊢ iprop(freeP (F := F) c (22 * t1.val + 10) ∗ homeP c A (22 * t1.val + 10)
    ∗ flightP c A (22 * t1.val) ∗ (flightP c A (22 * t1.val + 10) ∗ homeP c A (22 * t1.val) -∗ ringP c A (22 * t1.val + 1))) := by
  rw [h]; exact open_one c A
theorem open_layer0 (t1 : T1) (h : ¬ t1.val = 1) : ringS c A (22 * t1.val) ⊢ iprop(flightP c A (22 * t1.val)
    ∗ (homeP c A (22 * t1.val) -∗ ringP c A (22 * t1.val + 1))) := by
  have : t1.val < 2 := t1.isLt
  rw [show t1.val = 0 by omega]; exact open_zero c A

/-- The end of a layer: the last chunk's slot goes back. -/
theorem close_layer {n : ℕ} (h : n < 44) : iprop(ringP c A (n + 1) ∗ landP c A n) ⊢ ringS c A (n + 1) := by
  unfold ringP ringS
  iintro ⟨H, Hl⟩
  iapply (ring_free c A (a := n + 1) (b := hi (n + 1)) (d := n + 12) (by unfold hi; omega))
  isplitl [H]; · iexact H
  iapply (land_free (c := c) (A := A) n); iexact Hl

/-! ## The opening of a trip, as one resource in and one out -/

theorem cond2_iff (t1 : T1) (t2 : T2) : k0_cond2 t1 t2 = 1#1 ↔ 2 ≤ 22 * t1.val + t2.val + 1 ∧ 22 * t1.val + t2.val + 1 < 34 := by
  revert t1 t2; decide +kernel
theorem cond1_iff (t1 : T1) : k0_cond1 t1 = 1#1 ↔ t1.val = 1 := by
  revert t1; decide +kernel
theorem trip_lt (t1 : T1) (t2 : T2) : 22 * t1.val + t2.val + 1 < 44 ∧ t2.val < 21 ∧ t1.val < 2 := by
  have h1 : t1.val < 2 := t1.isLt
  have h2 : t2.val < 21 := t2.isLt
  omega

variable (arg0 : Memref sig .tc .vmem S2x80x2048 .f32) (harg0 : arg0.IsWhole)

/-- The opening of trip `t2`, whichever way its refill goes. -/
theorem trip_open (t1 : T1) (t2 : T2) (v : BitVec 32) :
    iprop(ringP c A (22 * t1.val + t2.val + 1) ∗ ∃ W, owes (c : Thread nD τ) 0 W)
      ⊢ wp frame (wpE (defs₀ (F := F)) 𝒱₀ (c : Thread nD τ) none) Set.univ (part3 arg0 harg0 t1 t2 v)
        (fun _ => iprop((homeP c A (22 * t1.val + t2.val + 1) ∗ freeP (F := F) c (22 * t1.val + t2.val + 12) -∗ ringP c A (22 * t1.val + t2.val + 2))
          ∗ flightAt c A (22 * t1.val + t2.val + 1) 6 16384 ∗ ∃ W, owes (c : Thread nD τ) 0 W)) := by
  have hb := trip_lt t1 t2
  by_cases h : k0_cond2 t1 t2 = 1#1
  · iintro ⟨HR, HW⟩
    ihave HR := (turn_refill c A (n := 22 * t1.val + t2.val + 1) ((cond2_iff t1 t2).1 h)) $$ HR
    icases HR with ⟨H1, H2, H3, H4⟩
    iapply (wp_wand_r Idealize.ShloMosaic.frame (wpE (defs₀ (F := F)) 𝒱₀ (c : Thread nD τ) none) Set.univ)
    isplitl [H1 H2 H3 HW]
    · iapply (refill c A arg0 harg0 t1 t2 v h)
      isplitl [H1]; · iexact H1
      isplitl [H2]; · iexact H2
      isplitl [H3]; · iexact H3
      iexact HW
    iintro %_ ⟨Hx, Hy, HW⟩
    isplitl [H4 Hx]
    · iintro ⟨Hu, Hv⟩
      iapply H4
      isplitl [Hx]; · iexact Hx
      isplitl [Hu]; · iexact Hu
      iexact Hv
    isplitl [Hy]; · iexact Hy
    iexact HW
  · have h' : ¬ (2 ≤ 22 * t1.val + t2.val + 1 ∧ 22 * t1.val + t2.val + 1 < 34) := fun x => h ((cond2_iff t1 t2).2 x)
    iintro ⟨HR, HW⟩
    ihave HR := (turn_wait c A (n := 22 * t1.val + t2.val + 1) (by omega)) $$ HR
    icases HR with ⟨H3, H4⟩
    iapply (wp_wand_r Idealize.ShloMosaic.frame (wpE (defs₀ (F := F)) 𝒱₀ (c : Thread nD τ) none) Set.univ)
    isplitl [H3 HW]
    · iapply (norefill c A arg0 harg0 t1 t2 v h)
      isplitl [H3]; · iexact H3
      iexact HW
    iintro %_ ⟨Hy, HW⟩
    isplitl [H4]
    · iintro ⟨Hu, Hv⟩
      iapply H4
      isplitl [Hu]; · iexact Hu
      iexact Hv
    isplitl [Hy]; · iexact Hy
    iexact HW

end Cert.Proof.Mlp

end
-- ==== Proof.Layer.lean ====
/-
  One layer of the outer loop: the normalized input, the first chunk's wait, the twenty-one trips of the inner loop, the last
  down product, the eight blocks of the result and the copy that takes it out — the loop's invariant over one trip.
-/
module

public import proofs.«01_k».proof.Proof.Out
public import proofs.«01_k».proof.Proof.Turn

@[expose] public section

set_option backward.isDefEq.respectTransparency.types false

noncomputable section

namespace Cert.Proof.Mlp
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UU nD τ) ℕ
variable (c : Dev nD) (A : Wts F c)
  (arg0 : Memref sig .tc .vmem S2x80x2048 .f32) (harg0 : arg0.IsWhole)
abbrev t1body  := k0_t1_body (F := F) arg0 harg0 nmH (Memref.isWhole_whole _) wguH (Memref.isWhole_whole _) sguH (Memref.isWhole_whole _) wdH (Memref.isWhole_whole _)
    sdH (Memref.isWhole_whole _) hidH (Memref.isWhole_whole _) nmM (Memref.isWhole_whole _) wgM (Memref.isWhole_whole _) sgM (Memref.isWhole_whole _)
    wdM (Memref.isWhole_whole _) sdM (Memref.isWhole_whole _) rhM (Memref.isWhole_whole _) hpM (Memref.isWhole_whole _) cc0_scoped0 cc0_scoped1 cc0_scoped2

/-- Before trip `k` of the inner loop: the matrix units' state, and chunk `k` landed. -/
def inv (t1 : T1) (H : Cts (F := F) c hpM) (k : ℕ) (s : Mxu F) : sProp 𝕄 :=
  iprop(⌜At c A H t1.val k s⌝ ∗ own c hpM H ∗ landP c A (22 * t1.val + k) ∗ ringP c A (22 * t1.val + k + 1) ∗ ∃ W, owes (c : Thread nD τ) 0 W)

theorem inv_step (t1 : T1) (t2 : T2) (v : BitVec 32) (s0 w0) (s : Mxu F) (H : Cts (F := F) c hpM) :
    inv c A t1 H t2.val s ⊢ wp frame (wpE (defs₀ (F := F)) 𝒱₀ (c : Thread nD τ) none) Set.univ (t2body arg0 harg0 t1 v s0 w0 t2 s)
      (fun r => inv c A t1 H (t2.val + 1) r) := by
  unfold inv
  iintro ⟨%hs, Hh, HL, HR, HW⟩
  iapply (wp_wand_r Idealize.ShloMosaic.frame (wpE (defs₀ (F := F)) 𝒱₀ (c : Thread nD τ) none) Set.univ)
  isplitl [Hh HL HR HW]
  · iapply (tripRun c A arg0 harg0 t1 t2 v s0 w0 s hs.reg H _ _ (trip_open c A arg0 harg0 t1 t2 v))
    isplitl [HR HW]
    · isplitl [HR]; · iexact HR
      iexact HW
    isplitl [Hh]; · iexact Hh
    iexact HL
  iintro %r ⟨%hr, HC, Hh, Hf, HL, Hy, HW⟩
  isplitr
  · ipureintro; rw [hr]; exact at_succ hs
  isplitl [Hh]; · iexact Hh
  isplitl [HL]; · iexact HL
  isplitl [HC Hf Hy]
  · iapply HC
    isplitl [Hy]; · iexact Hy
    iexact Hf
  iexact HW

theorem inv_end (t1 : T1) (H : Cts (F := F) c hpM) (s : Mxu F) :
    inv c A t1 H (Scf.trips k0_t2_loop.lb k0_t2_loop.ub k0_t2_loop.st) s ⊢ iprop(⌜At c A H t1.val 21 s⌝ ∗ own c hpM H ∗ landP c A (22 * t1.val + 21) ∗ ringP c A (22 * t1.val + 22) ∗ ∃ W, owes (c : Thread nD τ) 0 W) := by
  exact Entails.of_eq rfl

/-! ## The two results going out -/

/-- A layer's result. -/
def oC (X : Cts (F := F) c arg0) (N : Cts (F := F) c nmM) (t1 : T1) : Cts (F := F) c rhM :=
  rC c arg0 t1 X (dV c A (hpC c arg0 t1 X N) t1.val 22)

/-- What the two copies of the results deliver. -/
def outD (X : Cts (F := F) c arg0) (N : Cts (F := F) c nmM) (h0 : Cts (F := F) c hidH) (t : Fin 2) : sProp 𝕄 :=
  iprop(own c (hOut t.val) (copied (hOut t.val) (rSlot t.val) h0 (oC c A arg0 X N ⟨t.val, t.isLt⟩)) ∗ own c (rSlot t.val) (oC c A arg0 X N ⟨t.val, t.isLt⟩))

instance outD_storable (X : Cts (F := F) c arg0) (N : Cts (F := F) c nmM) (h0 : Cts (F := F) c hidH) (t : Fin 2) :
    Storable (upEmb : UEmb _ 𝕄) (outD c A arg0 X N h0 t) := by
  unfold outD; infer_instance

/-- The results' semaphore with `k` of its two copies issued. -/
def outB (X : Cts (F := F) c arg0) (N : Cts (F := F) c nmM) (h0 : Cts (F := F) c hidH) (k : ℕ) : sProp 𝕄 :=
  Transfers.Batch (Lvl := ℕ) (countersEmb (U := UU nD τ)) (c : Thread nD τ) (SemLoc.dma cc0_scoped2.sem) () 20480 (outD c A arg0 X N h0) k 0

/-- A layer's slot and its place in the result, neither used yet. -/
def slotP (h0 : Cts (F := F) c hidH) (L : ℕ) : sProp 𝕄 := iprop(own c (hOut L) h0 ∗ ∃ R0, own c (rSlot L) R0)
/-- Those of the layers from `k` on. -/
def slots (h0 : Cts (F := F) c hidH) : ℕ → sProp 𝕄
  | 0 => iprop(slotP c h0 0 ∗ slotP c h0 1)
  | 1 => slotP c h0 1
  | _ => iprop(emp)
theorem slots_open (h0 : Cts (F := F) c hidH) (t1 : T1) : slots c h0 t1.val ⊢ iprop(slotP c h0 t1.val ∗ slots c h0 (t1.val + 1)) := by
  obtain ⟨v, hv⟩ := t1
  have hv' : v < 2 := hv
  obtain rfl | rfl : v = 0 ∨ v = 1 := by omega
  · exact Entails.of_eq rfl
  · show slotP c h0 1 ⊢ iprop(slotP c h0 1 ∗ emp)
    iintro H
    isplitl [H]; · iexact H
    iempintro

/-- Before trip `k` of the outer loop. -/
def invO (X : Cts (F := F) c arg0) (N : Cts (F := F) c nmM) (h0 : Cts (F := F) c hidH) (k : ℕ) (s : Mxu F) : sProp 𝕄 :=
  iprop(⌜(∀ q r, s.reg q r = none) ∧ ∀ q R, s.live q R = false⌝ ∗ (∃ H, own c hpM H) ∗ own c nmM N ∗ own c arg0 X ∗ ringS c A (22 * k)
    ∗ slots c h0 k ∗ outB c A arg0 X N h0 k ∗ ∃ W, owes (c : Thread nD τ) 0 W)

theorem layer_step (X : Cts (F := F) c arg0) (N : Cts (F := F) c nmM) (h0 : Cts (F := F) c hidH) (t1 : T1) (s : Mxu F) :
    invO c A arg0 X N h0 t1.val s ⊢ wp frame (wpE (defs₀ (F := F)) 𝒱₀ (c : Thread nD τ) none) Set.univ (t1body arg0 harg0 t1 s)
        (fun r => invO c A arg0 X N h0 (t1.val + 1) r) := by
  unfold invO
  iintro ⟨%hcl0, ⟨%H, Hh⟩, Hn, Hr, HR, HS, HO, %W, HW⟩
  obtain ⟨hreg, hl⟩ := hcl0
  obtain ⟨g, a, l, hcl, rfl⟩ := eq_mk0 s hreg
  ihave HS := (slots_open c h0 t1) $$ HS
  unfold slotP
  icases HS with ⟨⟨Ho, %R0, Ht⟩, HS⟩
  ihave Ht := (Entails.of_eq (ownR_slot c t1 R0).symm) $$ Ht
  dsimp only [t1body]
  sl_unfold [k0_t1_body]
  sl_exec
  ihave Hh := (norm_own' c arg0 t1 X N H _) $$ Hh
  ispecialize Hh $$ []
  · ipureintro
    rfl
  iapply (wp_wand_r Idealize.ShloMosaic.frame (wpE (defs₀ (F := F)) 𝒱₀ (c : Thread nD τ) none) Set.univ
    (Q := fun _ => iprop((homeP c A (22 * t1.val) -∗ ringP c A (22 * t1.val + 1)) ∗ flightP c A (22 * t1.val) ∗ ∃ W, owes (c : Thread nD τ) 0 W)))
  isplitl [HR HW]
  · by_cases h : k0_cond1 t1 = 1#1
    · ihave HR := (open_layer1 c A t1 ((cond1_iff t1).1 h)) $$ HR
      unfold freeP homeP
      icases HR with ⟨⟨Hq, ⟨%f0, Hd0⟩, ⟨%f1, Hd1⟩, ⟨%f2, Hd2⟩, ⟨%f3, Hd3⟩, ⟨%f4, Hd4⟩, ⟨%f5, Hd5⟩⟩, ⟨Hs0, Hs1, Hs2, Hs3, Hs4, Hs5⟩, HF, HC⟩
      imod (Transfers.mixedBatch_alloc' (Lvl := ℕ) (countersEmb (U := UU nD τ)) (c : Thread nD τ) () amts
        (deliv c A (22 * t1.val + 10) f0 f1 f2 f3 f4 f5) (sm := SemLoc.dma (csm (sl (22 * t1.val + 10))).sem) (E := Set.univ)) $$ Hq with HB
      unfold deliv
      sl_unfold [k0_part1]
      sl_exec
      sl_step
      isplitl [HC HB]
      · iintro Hx
        iapply HC
        isplitl [HB]
        · unfold flightP flightAt deliv
          iexists f0, f1, f2, f3, f4, f5; iexact HB
        iexact Hx
      isplitl [HF]; · iexact HF
      iexists _; iexact HW
    · ihave HR := (open_layer0 c A t1 (fun e => h ((cond1_iff t1).2 e))) $$ HR
      icases HR with ⟨HF, HC⟩
      sl_exec
      sl_step
      isplitl [HC]; · iexact HC
      isplitl [HF]; · iexact HF
      iexists _; iexact HW
  iintro %_ ⟨HR, HF, %W, HW⟩
  unfold flightP flightAt
  icases HF with ⟨%g0, %g1, %g2, %g3, %g4, %g5, HF⟩
  unfold deliv
  sl_exec
  ihave HN := (landed_of (c := c) (A := A) (22 * t1.val) g0 g1 g2 g3 g4 g5) $$ [HF HF_dst0 HF_dst1 HF_dst2 HF_dst3 HF_dst4 HF_dst5]
  · isplitl [HF]; · iexact HF
    isplitl [HF_dst0]; · iexact HF_dst0
    isplitl [HF_dst1]; · iexact HF_dst1
    isplitl [HF_dst2]; · iexact HF_dst2
    isplitl [HF_dst3]; · iexact HF_dst3
    isplitl [HF_dst4]; · iexact HF_dst4
    iexact HF_dst5
  ihave HR := HR $$ [HF_src0 HF_src1 HF_src2 HF_src3 HF_src4 HF_src5]
  · unfold homeP
    isplitl [HF_src0]; · iexact HF_src0
    isplitl [HF_src1]; · iexact HF_src1
    isplitl [HF_src2]; · iexact HF_src2
    isplitl [HF_src3]; · iexact HF_src3
    isplitl [HF_src4]; · iexact HF_src4
    iexact HF_src5
  unfold landP
  icases HN with ⟨HN0, HN1, HN2, HN3, HN4⟩
  sl_exec
  sl_for (inv c A t1 (hpC c arg0 t1 X N)) $$ [HW Hh HN0 HN1 HN2 HN3 HN4 HR]
  case region =>
    intro k s
    exact inv_step c A arg0 harg0 t1 k _ _ _ s _
  · unfold inv landP
    isplitr
    · ipureintro
      exact at_zero t1.val (mk0 g a l hcl) (fun _ _ => rfl) hl
    isplitl [Hh]; · iexact Hh
    isplitl [HN0 HN1 HN2 HN3 HN4]
    · isplitl [HN0]; · iexact HN0
      isplitl [HN1]; · iexact HN1
      isplitl [HN2]; · iexact HN2
      isplitl [HN3]; · iexact HN3
      iexact HN4
    isplitl [HR]; · iexact HR
    iexists _; iexact HW
  iintro %s HI
  ihave HI := (inv_end c A t1 (hpC c arg0 t1 X N) s) $$ HI
  icases HI with ⟨%hs, Hh, HL, HR, %W2, HW⟩
  obtain ⟨g', a', l', hcl', rfl⟩ := eq_mk0 s hs.reg
  unfold landP
  icases HL with ⟨HL0, HL1, HL2, HL3, HL4⟩
  sl_exec
  have hD := at_last hs
  ihave Ht := (out_own' c arg0 t1 X R0 _ (rd (lastM c A (22 * t1.val + 21) (mk0 g' a' l' hcl')))) $$ Ht
  ispecialize Ht $$ []
  · ipureintro
    rfl
  ihave Ht := (Entails.of_eq (congrArg (fun D => own c (rSlot t1.val) (rC c arg0 t1 X D)) (rd_done c A hD))) $$ Ht
  unfold outB
  sl_exec
  sl_step
  isplitr
  · ipureintro
    exact u7_fresh c A hD
  isplitl [Hh]; · iexists _; iexact Hh
  isplitl [Hn]; · iexact Hn
  isplitl [Hr]; · iexact Hr
  isplitl [HR HL0 HL1 HL2 HL3 HL4]
  · iapply (close_layer c A (n := 22 * t1.val + 21) (by have : t1.val < 2 := t1.isLt; omega))
    isplitl [HR]; · iexact HR
    unfold landP
    isplitl [HL0]; · iexact HL0
    isplitl [HL1]; · iexact HL1
    isplitl [HL2]; · iexact HL2
    isplitl [HL3]; · iexact HL3
    iexact HL4
  isplitl [HS]; · iexact HS
  isplitl [HO]; · iexact HO
  iexists _; iexact HW

end Cert.Proof.Mlp

end
-- ==== Proof.Body.lean ====
/-
  The whole body: the gains' copy and the first twelve chunks' copies started, the two layers, the two results waited for.
-/
module

public import proofs.«01_k».proof.Proof.Layer

@[expose] public section

set_option backward.isDefEq.respectTransparency.types false

set_option pp.deepTerms false
set_option pp.deepTerms.threshold 12
set_option pp.proofs false
noncomputable section

namespace Cert.Proof.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (A : Wts F c)
  (arg0 : Memref sig .tc .vmem S2x80x2048 .f32) (harg0 : arg0.IsWhole)

abbrev bodyK := cc0_tree_verify (F := F) arg0 harg0 nmH (Memref.isWhole_whole _) wguH (Memref.isWhole_whole _) sguH (Memref.isWhole_whole _) wdH (Memref.isWhole_whole _)
    sdH (Memref.isWhole_whole _) hidH (Memref.isWhole_whole _) nmM (Memref.isWhole_whole _) wgM (Memref.isWhole_whole _) sgM (Memref.isWhole_whole _)
    wdM (Memref.isWhole_whole _) sdM (Memref.isWhole_whole _) rhM (Memref.isWhole_whole _) hpM (Memref.isWhole_whole _) cc0_scoped0 cc0_scoped1 cc0_scoped2

/-- The first twelve members of a family apart. -/
theorem sep12 (Φ : ℕ → sProp 𝕄) {b : ℕ} (h : 12 ≤ b) :
    bigSep (Finset.Ico 0 b) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ bigSep (Finset.Ico 12 b) Φ) := by
  rw [sep_first Φ (a := 0) (by omega), sep_first Φ (a := 0 + 1) (by omega), sep_first Φ (a := 0 + 1 + 1) (by omega), sep_first Φ (a := 0 + 1 + 1 + 1) (by omega),
    sep_first Φ (a := 0 + 1 + 1 + 1 + 1) (by omega), sep_first Φ (a := 0 + 1 + 1 + 1 + 1 + 1) (by omega), sep_first Φ (a := 0 + 1 + 1 + 1 + 1 + 1 + 1) (by omega),
    sep_first Φ (a := 0 + 1 + 1 + 1 + 1 + 1 + 1 + 1) (by omega), sep_first Φ (a := 0 + 1 + 1 + 1 + 1 + 1 + 1 + 1 + 1) (by omega), sep_first Φ (a := 0 + 1 + 1 + 1 + 1 + 1 + 1 + 1 + 1 + 1) (by omega),
    sep_first Φ (a := 0 + 1 + 1 + 1 + 1 + 1 + 1 + 1 + 1 + 1 + 1) (by omega), sep_first Φ (a := 0 + 1 + 1 + 1 + 1 + 1 + 1 + 1 + 1 + 1 + 1 + 1) (by omega)]

/-- Slot `n % 12`, free, and chunk `n` at home: ready for the chunk's six copies. -/
theorem chunk_alloc (n : ℕ) : iprop(freeP (F := F) c n ∗ homeP c A n) ⊢ |={Set.univ}=> iprop(∃ f0 f1 f2 f3 f4 f5,
    Transfers.MixedBatch (Lvl := ℕ) (countersEmb (U := UU nD τ)) (c : Thread nD τ) (SemLoc.dma (csm (sl n)).sem) () amts (deliv c A n f0 f1 f2 f3 f4 f5) 0 0
    ∗ (own c (gDst (sl n) 0) f0 ∗ own c (gDst (sl n) 256) f1 ∗ own c (sgDst (sl n) 0) f2 ∗ own c (sgDst (sl n) 256) f3 ∗ own c (dSlot (sl n)) f4 ∗ own c (sdSlot (sl n)) f5)
    ∗ (own c (gS n) A.gu ∗ own c (uS n) A.gu ∗ own c (sgS n) A.sgu ∗ own c (suS n) A.sgu ∗ own c (dS n) A.d ∗ own c (sdS n) A.sd)) := by
  unfold freeP homeP
  iintro ⟨⟨Hq, ⟨%f0, Hd0⟩, ⟨%f1, Hd1⟩, ⟨%f2, Hd2⟩, ⟨%f3, Hd3⟩, ⟨%f4, Hd4⟩, ⟨%f5, Hd5⟩⟩, Hs⟩
  imod (Transfers.mixedBatch_alloc' (Lvl := ℕ) (countersEmb (U := UU nD τ)) (c : Thread nD τ) () amts
    (deliv c A n f0 f1 f2 f3 f4 f5) (sm := SemLoc.dma (csm (sl n)).sem) (E := Set.univ)) $$ Hq with HB
  imodintro
  iexists f0, f1, f2, f3, f4, f5
  isplitl [HB]; · iexact HB
  isplitr [Hs]
  · isplitl [Hd0]; · iexact Hd0
    isplitl [Hd1]; · iexact Hd1
    isplitl [Hd2]; · iexact Hd2
    isplitl [Hd3]; · iexact Hd3
    isplitl [Hd4]; · iexact Hd4
    iexact Hd5
  iexact Hs

/-- The gains in their scratch. -/
def nC (N0 : Cts (F := F) c nmH) : Cts (F := F) c nmM := fun (i : S2x2048.Idx) => N0 i
theorem nm_own (f : Cts (F := F) c nmM) (N0 : Cts (F := F) c nmH) : own c nmM (copied nmM nmH f N0) = own c nmM (nC c N0) :=
  own_copied c nmM nmH f N0 (nC c N0) fun y => rfl

theorem nm_own' (f : Cts (F := F) c nmM) (N0 : Cts (F := F) c nmH) (L : List (View.Piece (Elt F) S2x2048 .f32)) :
    own c nmM (nmM.view.writes (Elt F) f L) ⊢ iprop(⌜L = [⟨Rect.whole S2x2048, nmH.view.read (Elt F) N0⟩]⌝ -∗ own c nmM (nC c N0)) := by
  iintro Hn %h
  subst h
  iapply (Entails.of_eq (nm_own c f N0)); iexact Hn

/-- The first layer's ring: twelve chunks under way, the others at home. -/
theorem ring_zero : iprop(flightP c A 0 ∗ flightP c A 1 ∗ flightP c A 2 ∗ flightP c A 3 ∗ flightP c A 4 ∗ flightP c A 5 ∗ flightP c A 6 ∗ flightP c A 7
    ∗ flightP c A 8 ∗ flightP c A 9 ∗ flightP c A 10 ∗ flightP c A 11 ∗ bigSep (Finset.Ico 12 44) (fun n => homeP c A n)) ⊢ ringS c A (22 * 0) := by
  show _ ⊢ ring c A 0 12 12
  unfold ring
  rw [sep12 (fun n => flightP c A n) (Nat.le_refl 12), Finset.Ico_self, Finset.Ico_self, bigSep_empty, bigSep_empty, bigSep_empty]
  iintro ⟨H0, H1, H2, H3, H4, H5, H6, H7, H8, H9, H10, H11, HH⟩
  isplitr [HH]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iempintro
  isplitr; · iempintro
  isplitr; · iempintro
  iexact HH

/-- Before the first layer: twelve slots free, twelve chunks to fetch, the others at home. -/
theorem ring_begin : ring c A 0 0 12 ⊢ iprop((freeP (F := F) c 0 ∗ freeP (F := F) c 1 ∗ freeP (F := F) c 2 ∗ freeP (F := F) c 3 ∗ freeP (F := F) c 4 ∗ freeP (F := F) c 5 ∗ freeP (F := F) c 6 ∗ freeP (F := F) c 7 ∗ freeP (F := F) c 8 ∗ freeP (F := F) c 9 ∗ freeP (F := F) c 10 ∗ freeP (F := F) c 11)
    ∗ (homeP c A 0 ∗ homeP c A 1 ∗ homeP c A 2 ∗ homeP c A 3 ∗ homeP c A 4 ∗ homeP c A 5 ∗ homeP c A 6 ∗ homeP c A 7 ∗ homeP c A 8 ∗ homeP c A 9 ∗ homeP c A 10 ∗ homeP c A 11 ∗ bigSep (Finset.Ico 12 44) (fun n => homeP c A n))) := by
  unfold ring
  rw [sep12 (fun n => freeP (F := F) c n) (Nat.le_refl 12), sep12 (fun n => homeP c A n) (b := 44) (by decide)]
  iintro ⟨-, ⟨HF0, HF1, HF2, HF3, HF4, HF5, HF6, HF7, HF8, HF9, HF10, HF11, -⟩, -, HH⟩
  isplitr [HH]
  · isplitl [HF0]; · iexact HF0
    isplitl [HF1]; · iexact HF1
    isplitl [HF2]; · iexact HF2
    isplitl [HF3]; · iexact HF3
    isplitl [HF4]; · iexact HF4
    isplitl [HF5]; · iexact HF5
    isplitl [HF6]; · iexact HF6
    isplitl [HF7]; · iexact HF7
    isplitl [HF8]; · iexact HF8
    isplitl [HF9]; · iexact HF9
    isplitl [HF10]; · iexact HF10
    iexact HF11
  iexact HH

/-- After the last trip. -/
theorem inv_last (X : Cts (F := F) c arg0) (N : Cts (F := F) c nmM) (h0 : Cts (F := F) c hidH) (s : Mxu F) :
    invO c A arg0 X N h0 (Scf.trips k0_t1_loop.lb k0_t1_loop.ub k0_t1_loop.st) s ⊢ iprop(⌜(∀ q r, s.reg q r = none) ∧ ∀ q R, s.live q R = false⌝ ∗ (∃ H, own c hpM H) ∗ own c nmM N ∗ own c arg0 X
      ∗ ring c A 44 44 56 ∗ emp ∗ outB c A arg0 X N h0 2 ∗ ∃ W, owes (c : Thread nD τ) 0 W) := by
  exact Entails.of_eq rfl

theorem bodyRun (X : Cts (F := F) c arg0) (N0 : Cts (F := F) c nmH) (h0 : Cts (F := F) c hidH) :
    iprop(own c arg0 X ∗ own c nmH N0 ∗ (∃ f, own c nmM f) ∗ (∃ H, own c hpM H) ∗ ring c A 0 0 12 ∗ slots c h0 0
        ∗ semVal ((c : Thread nD τ), SemLoc.dma cc0_scoped0.sem) 0 ∗ semVal ((c : Thread nD τ), SemLoc.dma cc0_scoped2.sem) 0 ∗ ∃ W, owes (c : Thread nD τ) 0 W)
      ⊢ wp frame (wpE (defs₀ (F := F)) 𝒱₀ (c : Thread nD τ) none) Set.univ (bodyK arg0 harg0)
        (fun _ => iprop(own c arg0 X ∗ own c nmH N0 ∗ (∃ f, own c nmM f) ∗ (∃ H, own c hpM H) ∗ ring c A 44 44 56
          ∗ outD c A arg0 X (nC c N0) h0 0 ∗ outD c A arg0 X (nC c N0) h0 1
          ∗ semVal ((c : Thread nD τ), SemLoc.dma cc0_scoped0.sem) 0 ∗ semVal ((c : Thread nD τ), SemLoc.dma cc0_scoped2.sem) 0 ∗ ∃ W, owes (c : Thread nD τ) 0 W)) := by
  iintro ⟨Hr, Hnh, ⟨%fn, Hn⟩, Hh, HR, HS, Hq0, Hq2, %W, HW⟩
  ihave HR := (ring_begin c A) $$ HR
  icases HR with ⟨⟨HF0, HF1, HF2, HF3, HF4, HF5, HF6, HF7, HF8, HF9, HF10, HF11⟩, ⟨HH0, HH1, HH2, HH3, HH4, HH5, HH6, HH7, HH8, HH9, HH10, HH11, HH⟩⟩
  imod (chunk_alloc c A 0) $$ [HF0 HH0] with ⟨%a0, %b0, %c0, %d0, %e0, %g0, HB0, ⟨HD0a, HD0b, HD0c, HD0d, HD0e, HD0f⟩, ⟨HS0a, HS0b, HS0c, HS0d, HS0e, HS0f⟩⟩
  · isplitl [HF0]; · iexact HF0
    iexact HH0
  imod (chunk_alloc c A 1) $$ [HF1 HH1] with ⟨%a1, %b1, %c1, %d1, %e1, %g1, HB1, ⟨HD1a, HD1b, HD1c, HD1d, HD1e, HD1f⟩, ⟨HS1a, HS1b, HS1c, HS1d, HS1e, HS1f⟩⟩
  · isplitl [HF1]; · iexact HF1
    iexact HH1
  imod (chunk_alloc c A 2) $$ [HF2 HH2] with ⟨%a2, %b2, %c2, %d2, %e2, %g2, HB2, ⟨HD2a, HD2b, HD2c, HD2d, HD2e, HD2f⟩, ⟨HS2a, HS2b, HS2c, HS2d, HS2e, HS2f⟩⟩
  · isplitl [HF2]; · iexact HF2
    iexact HH2
  imod (chunk_alloc c A 3) $$ [HF3 HH3] with ⟨%a3, %b3, %c3, %d3, %e3, %g3, HB3, ⟨HD3a, HD3b, HD3c, HD3d, HD3e, HD3f⟩, ⟨HS3a, HS3b, HS3c, HS3d, HS3e, HS3f⟩⟩
  · isplitl [HF3]; · iexact HF3
    iexact HH3
  imod (chunk_alloc c A 4) $$ [HF4 HH4] with ⟨%a4, %b4, %c4, %d4, %e4, %g4, HB4, ⟨HD4a, HD4b, HD4c, HD4d, HD4e, HD4f⟩, ⟨HS4a, HS4b, HS4c, HS4d, HS4e, HS4f⟩⟩
  · isplitl [HF4]; · iexact HF4
    iexact HH4
  imod (chunk_alloc c A 5) $$ [HF5 HH5] with ⟨%a5, %b5, %c5, %d5, %e5, %g5, HB5, ⟨HD5a, HD5b, HD5c, HD5d, HD5e, HD5f⟩, ⟨HS5a, HS5b, HS5c, HS5d, HS5e, HS5f⟩⟩
  · isplitl [HF5]; · iexact HF5
    iexact HH5
  imod (chunk_alloc c A 6) $$ [HF6 HH6] with ⟨%a6, %b6, %c6, %d6, %e6, %g6, HB6, ⟨HD6a, HD6b, HD6c, HD6d, HD6e, HD6f⟩, ⟨HS6a, HS6b, HS6c, HS6d, HS6e, HS6f⟩⟩
  · isplitl [HF6]; · iexact HF6
    iexact HH6
  imod (chunk_alloc c A 7) $$ [HF7 HH7] with ⟨%a7, %b7, %c7, %d7, %e7, %g7, HB7, ⟨HD7a, HD7b, HD7c, HD7d, HD7e, HD7f⟩, ⟨HS7a, HS7b, HS7c, HS7d, HS7e, HS7f⟩⟩
  · isplitl [HF7]; · iexact HF7
    iexact HH7
  imod (chunk_alloc c A 8) $$ [HF8 HH8] with ⟨%a8, %b8, %c8, %d8, %e8, %g8, HB8, ⟨HD8a, HD8b, HD8c, HD8d, HD8e, HD8f⟩, ⟨HS8a, HS8b, HS8c, HS8d, HS8e, HS8f⟩⟩
  · isplitl [HF8]; · iexact HF8
    iexact HH8
  imod (chunk_alloc c A 9) $$ [HF9 HH9] with ⟨%a9, %b9, %c9, %d9, %e9, %g9, HB9, ⟨HD9a, HD9b, HD9c, HD9d, HD9e, HD9f⟩, ⟨HS9a, HS9b, HS9c, HS9d, HS9e, HS9f⟩⟩
  · isplitl [HF9]; · iexact HF9
    iexact HH9
  imod (chunk_alloc c A 10) $$ [HF10 HH10] with ⟨%a10, %b10, %c10, %d10, %e10, %g10, HB10, ⟨HD10a, HD10b, HD10c, HD10d, HD10e, HD10f⟩, ⟨HS10a, HS10b, HS10c, HS10d, HS10e, HS10f⟩⟩
  · isplitl [HF10]; · iexact HF10
    iexact HH10
  imod (chunk_alloc c A 11) $$ [HF11 HH11] with ⟨%a11, %b11, %c11, %d11, %e11, %g11, HB11, ⟨HD11a, HD11b, HD11c, HD11d, HD11e, HD11f⟩, ⟨HS11a, HS11b, HS11c, HS11d, HS11e, HS11f⟩⟩
  · isplitl [HF11]; · iexact HF11
    iexact HH11
  imod (Transfers.batch_alloc' (Lvl := ℕ) (countersEmb (U := UU nD τ)) (c : Thread nD τ) () 20480 (outD c A arg0 X (nC c N0) h0) (sm := SemLoc.dma cc0_scoped2.sem) (E := Set.univ)) $$ Hq2 with HO
  unfold deliv
  dsimp only [Nat.reduceMod, Nat.reduceDiv, Nat.reduceMul, Nat.reduceAdd]
  dsimp only [bodyK]
  sl_unfold [cc0_tree_verify, k0_part75]
  sl_exec
  ihave Hn := (nm_own' c _ N0 _) $$ Hn
  ispecialize Hn $$ []
  · ipureintro
    rfl
  sl_for (invO c A arg0 X (nC c N0) h0) $$ [Hr Hh Hn HS HO HW HH HB0 HB1 HB2 HB3 HB4 HB5 HB6 HB7 HB8 HB9 HB10 HB11]
  case region =>
    intro k s
    exact layer_step c A arg0 harg0 X (nC c N0) h0 k s
  · unfold invO outB
    isplitr
    · ipureintro
      exact ⟨fun _ _ => rfl, fun _ _ => rfl⟩
    isplitl [Hh]; · iexact Hh
    isplitl [Hn]; · iexact Hn
    isplitl [Hr]; · iexact Hr
    isplitr [HS HO HW]
    · iapply (ring_zero c A)
      isplitl [HB0]
      · unfold flightP flightAt deliv
        iexists a0, b0, c0, d0, e0, g0; iexact HB0
      isplitl [HB1]
      · unfold flightP flightAt deliv
        iexists a1, b1, c1, d1, e1, g1; iexact HB1
      isplitl [HB2]
      · unfold flightP flightAt deliv
        iexists a2, b2, c2, d2, e2, g2; iexact HB2
      isplitl [HB3]
      · unfold flightP flightAt deliv
        iexists a3, b3, c3, d3, e3, g3; iexact HB3
      isplitl [HB4]
      · unfold flightP flightAt deliv
        iexists a4, b4, c4, d4, e4, g4; iexact HB4
      isplitl [HB5]
      · unfold flightP flightAt deliv
        iexists a5, b5, c5, d5, e5, g5; iexact HB5
      isplitl [HB6]
      · unfold flightP flightAt deliv
        iexists a6, b6, c6, d6, e6, g6; iexact HB6
      isplitl [HB7]
      · unfold flightP flightAt deliv
        iexists a7, b7, c7, d7, e7, g7; iexact HB7
      isplitl [HB8]
      · unfold flightP flightAt deliv
        iexists a8, b8, c8, d8, e8, g8; iexact HB8
      isplitl [HB9]
      · unfold flightP flightAt deliv
        iexists a9, b9, c9, d9, e9, g9; iexact HB9
      isplitl [HB10]
      · unfold flightP flightAt deliv
        iexists a10, b10, c10, d10, e10, g10; iexact HB10
      isplitl [HB11]
      · unfold flightP flightAt deliv
        iexists a11, b11, c11, d11, e11, g11; iexact HB11
      iexact HH
    isplitl [HS]; · iexact HS
    isplitl [HO]; · iexact HO
    iexists _; iexact HW
  iintro %s HI
  ihave HI := (inv_last c A arg0 X (nC c N0) h0 s) $$ HI
  icases HI with ⟨%hs, Hh, Hn, Hr, HR, -, HO, %W2, HW⟩
  obtain ⟨hreg, hl⟩ := hs
  obtain ⟨g, a, l, hcl, rfl⟩ := eq_mk0 s hreg
  have hd : (mk0 g a l hcl).Drained := ⟨fun q r => by rw [hreg q r]; rfl, hl⟩
  unfold outB outD
  sl_exec
  sl_step
  isplitl [Hr]; · iexact Hr
  isplitl [Hnh]; · iexact Hnh
  isplitl [Hn]; · iexists _; iexact Hn
  isplitl [Hh]; · iexact Hh
  isplitl [HR]; · iexact HR
  isplitl [HO_dst0 HO_src0]
  · isplitl [HO_dst0]; · iexact HO_dst0
    iexact HO_src0
  isplitl [HO_dst1 HO_src1]
  · isplitl [HO_dst1]; · iexact HO_dst1
    iexact HO_src1
  isplitl [Hq0]; · iexact Hq0
  isplitl [HO]; · iexact HO
  iexists _; iexact HW

end Cert.Proof.Mlp

end
-- ==== Proof.Blocks.lean ====
/-
  The launch's buffers, held whole, cut into what the body holds — the chunks at home, the free slots, the two results' places —
  and joined again.
-/
module

public import proofs.«01_k».proof.Proof.Turn

@[expose] public section

set_option backward.isDefEq.respectTransparency.types false

noncomputable section

namespace Cert.Proof.Mlp

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Families

variable {ℓ : Loc nD τ sig} (S : Finset ℕ) (K : ℕ → Finset (Idx ℓ))
  (hd : ∀ t ∈ S, ∀ t' ∈ S, ∀ i, i ∈ K t → i ∈ K t' → t = t') (hc : ∀ i, ∃ t ∈ S, i ∈ K t)

include hd in
theorem fam_disj : ∀ t ∈ S, ∀ t' ∈ S, t ≠ t' → Disjoint (K t) (K t') := fun t ht t' ht' hne =>
  Finset.disjoint_left.2 fun i hi hi' => hne (hd t ht t' ht' i hi hi')
include hc in
theorem fam_cover : S.biUnion K = Finset.univ := by
  ext i
  obtain ⟨t, ht, hi⟩ := hc i
  simp only [Finset.mem_biUnion, Finset.mem_univ, iff_true]
  exact ⟨t, ht, hi⟩

include hd hc in
/-- A buffer held whole is held member by member of a family of disjoint sets that covers it, -/
theorem fam_split (f : Buf (Elt F) ℓ) : (ℓ ↦{fullShare} f : sProp 𝕄) = bigSep S fun t => ℓ ↦[K t]{fullShare} f := by
  rw [← pointsTo_biUnion S K (fam_disj S K hd), fam_cover S K hc]

include hd hc in
/-- and its members, each at some contents, join. -/
theorem fam_join (f₀ : Buf (Elt F) ℓ) : bigSep S (fun t => iprop(∃ f, ℓ ↦[K t]{fullShare} f)) ⊢ (iprop(∃ g, ℓ ↦{fullShare} g) : sProp 𝕄) := by
  have : Nonempty (Buf (Elt F) ℓ) := ⟨f₀⟩
  refine (Idealize.SL.BI.bigSep_exists_pi S (fun b (f : Buf (Elt F) ℓ) => (ℓ ↦[K b]{fullShare} f : sProp 𝕄))).trans ?_
  iintro ⟨%fs, H⟩
  ihave H := (pointsTo_biUnion_join S K fs f₀ (fam_disj S K hd)) $$ H
  rw [fam_cover S K hc]
  icases H with ⟨%g, -, H⟩
  iexists g; iexact H

end Families

theorem pt_union {ℓ : Loc nD τ sig} {I J : Finset (Idx ℓ)} (h : Disjoint I J) (f : Buf (Elt F) ℓ) :
    (ℓ ↦[I ∪ J]{fullShare} f : sProp 𝕄) = iprop((ℓ ↦[I]{fullShare} f) ∗ ℓ ↦[J]{fullShare} f) := equiv_iff.1 ⟨(pointsTo_union h).1, (pointsTo_union h).2⟩
theorem sep_fam (S : Finset ℕ) (Φ Ψ : ℕ → sProp 𝕄) : bigSep S (fun n => iprop(Φ n ∗ Ψ n)) = iprop(bigSep S Φ ∗ bigSep S Ψ) := bigSep_sep S Φ Ψ
theorem sep_fam6 (S : Finset ℕ) (Φ0 Φ1 Φ2 Φ3 Φ4 Φ5 : ℕ → sProp 𝕄) : bigSep S (fun n => iprop(Φ0 n ∗ Φ1 n ∗ Φ2 n ∗ Φ3 n ∗ Φ4 n ∗ Φ5 n))
    = iprop(bigSep S Φ0 ∗ bigSep S Φ1 ∗ bigSep S Φ2 ∗ bigSep S Φ3 ∗ bigSep S Φ4 ∗ bigSep S Φ5) := by
  rw [sep_fam, sep_fam, sep_fam, sep_fam, sep_fam]

variable (c : Dev nD) (A : Wts F c)

/-! ## The weights' chunks in HBM -/

abbrev gsR (l x : ℕ) : Finset S2x1024x11264.Idx := (Rect.unit (s := S2x1024x11264) (gSrcOff l x) S1x1024x256.size (gSrcOff_inb l x)).set
abbrev sgsR (l x : ℕ) : Finset S2x64x11264.Idx := (Rect.unit (s := S2x64x11264) (sgSrcOff l x) S1x64x256.size (sgSrcOff_inb l x)).set
abbrev dsR (l x : ℕ) : Finset S2x2816x2048.Idx := (Rect.unit (s := S2x2816x2048) (dSrcOff l x) S1x128x2048.size (dSrcOff_inb l x)).set
abbrev sdsR (l x : ℕ) : Finset S2x176x2048.Idx := (Rect.unit (s := S2x176x2048) (sdSrcOff l x) S1x8x2048.size (sdSrcOff_inb l x)).set

theorem own_gSrc (l x : ℕ) (f : Cts (F := F) c wguH) : own c (gSrc l x) f = (wguH.view.loc (c : Thread nD τ) ↦[gsR l x]{fullShare} f : sProp 𝕄) :=
  congrArg (fun I : Finset S2x1024x11264.Idx => (wguH.view.loc (c : Thread nD τ) ↦[I]{fullShare} f : sProp 𝕄)) ((View.set_reshape _ _).trans (View.set_slice_whole _ _))
theorem own_sgSrc (l x : ℕ) (f : Cts (F := F) c sguH) : own c (sgSrc l x) f = (sguH.view.loc (c : Thread nD τ) ↦[sgsR l x]{fullShare} f : sProp 𝕄) :=
  congrArg (fun I : Finset S2x64x11264.Idx => (sguH.view.loc (c : Thread nD τ) ↦[I]{fullShare} f : sProp 𝕄)) ((View.set_reshape _ _).trans (View.set_slice_whole _ _))
theorem own_dSrc (l x : ℕ) (f : Cts (F := F) c wdH) : own c (dSrc l x) f = (wdH.view.loc (c : Thread nD τ) ↦[dsR l x]{fullShare} f : sProp 𝕄) :=
  congrArg (fun I : Finset S2x2816x2048.Idx => (wdH.view.loc (c : Thread nD τ) ↦[I]{fullShare} f : sProp 𝕄)) ((View.set_reshape _ _).trans (View.set_slice_whole _ _))
theorem own_sdSrc (l x : ℕ) (f : Cts (F := F) c sdH) : own c (sdSrc l x) f = (sdH.view.loc (c : Thread nD τ) ↦[sdsR l x]{fullShare} f : sProp 𝕄) :=
  congrArg (fun I : Finset S2x176x2048.Idx => (sdH.view.loc (c : Thread nD τ) ↦[I]{fullShare} f : sProp 𝕄)) ((View.set_reshape _ _).trans (View.set_slice_whole _ _))

theorem mem_gsR (l x : ℕ) (i : S2x1024x11264.Idx) : i ∈ gsR l x ↔ (i 0).val = min l 1 ∧ min x 11008 ≤ (i 2).val ∧ (i 2).val < min x 11008 + 256 := by
  rw [Rect.mem_set_unit]
  have h1 := (i 1).isLt
  simp [Fin.forall_fin_succ] at h1 ⊢
  omega
theorem mem_sgsR (l x : ℕ) (i : S2x64x11264.Idx) : i ∈ sgsR l x ↔ (i 0).val = min l 1 ∧ min x 11008 ≤ (i 2).val ∧ (i 2).val < min x 11008 + 256 := by
  rw [Rect.mem_set_unit]
  have h1 := (i 1).isLt
  simp [Fin.forall_fin_succ] at h1 ⊢
  omega
theorem mem_dsR (l x : ℕ) (i : S2x2816x2048.Idx) : i ∈ dsR l x ↔ (i 0).val = min l 1 ∧ min x 2688 ≤ (i 1).val ∧ (i 1).val < min x 2688 + 128 := by
  rw [Rect.mem_set_unit]
  have h2 := (i 2).isLt
  simp [Fin.forall_fin_succ] at h2 ⊢
  omega
theorem mem_sdsR (l x : ℕ) (i : S2x176x2048.Idx) : i ∈ sdsR l x ↔ (i 0).val = min l 1 ∧ min x 168 ≤ (i 1).val ∧ (i 1).val < min x 168 + 8 := by
  rw [Rect.mem_set_unit]
  have h2 := (i 2).isLt
  simp [Fin.forall_fin_succ] at h2 ⊢
  omega

/-- The gate and up weights whole, chunk by chunk. -/
theorem gu_split : (wguH.view.loc (c : Thread nD τ) ↦{fullShare} A.gu : sProp 𝕄)
    = iprop(bigSep (Finset.Ico 0 44) (fun n => own c (gS n) A.gu) ∗ bigSep (Finset.Ico 0 44) (fun n => own c (uS n) A.gu)) := by
  refine Eq.trans ?_ (sep_fam _ _ _)
  refine (fam_split (ℓ := wguH.view.loc (c : Thread nD τ)) (Finset.Ico 0 44) (fun n => (gsR (n / 22) (256 * (n % 22)) ∪ gsR (n / 22) (5632 + 256 * (n % 22)) : Finset S2x1024x11264.Idx)) ?_ ?_ A.gu).trans ?_
  · intro t ht t' ht' (i : S2x1024x11264.Idx) hi hi'
    rw [Finset.mem_Ico] at ht ht'
    rw [Finset.mem_union, mem_gsR, mem_gsR] at hi hi'
    omega
  · intro (i : S2x1024x11264.Idx)
    have h0 : (i 0).val < 2 := (i 0).isLt
    have h2 : (i 2).val < 11264 := (i 2).isLt
    refine ⟨22 * (i 0).val + (i 2).val % 5632 / 256, Finset.mem_Ico.2 (by omega), ?_⟩
    rw [Finset.mem_union, mem_gsR, mem_gsR]
    omega
  · refine bigSep_congr fun n hn => ?_
    rw [Finset.mem_Ico] at hn
    rw [own_gSrc, own_gSrc]
    refine pt_union (Finset.disjoint_left.2 fun i hi hi' => ?_) _
    rw [mem_gsR] at hi hi'
    omega
/-- Their scales. -/
theorem sgu_split : (sguH.view.loc (c : Thread nD τ) ↦{fullShare} A.sgu : sProp 𝕄)
    = iprop(bigSep (Finset.Ico 0 44) (fun n => own c (sgS n) A.sgu) ∗ bigSep (Finset.Ico 0 44) (fun n => own c (suS n) A.sgu)) := by
  refine Eq.trans ?_ (sep_fam _ _ _)
  refine (fam_split (ℓ := sguH.view.loc (c : Thread nD τ)) (Finset.Ico 0 44) (fun n => (sgsR (n / 22) (256 * (n % 22)) ∪ sgsR (n / 22) (5632 + 256 * (n % 22)) : Finset S2x64x11264.Idx)) ?_ ?_ A.sgu).trans ?_
  · intro t ht t' ht' (i : S2x64x11264.Idx) hi hi'
    rw [Finset.mem_Ico] at ht ht'
    rw [Finset.mem_union, mem_sgsR, mem_sgsR] at hi hi'
    omega
  · intro (i : S2x64x11264.Idx)
    have h0 : (i 0).val < 2 := (i 0).isLt
    have h2 : (i 2).val < 11264 := (i 2).isLt
    refine ⟨22 * (i 0).val + (i 2).val % 5632 / 256, Finset.mem_Ico.2 (by omega), ?_⟩
    rw [Finset.mem_union, mem_sgsR, mem_sgsR]
    omega
  · refine bigSep_congr fun n hn => ?_
    rw [Finset.mem_Ico] at hn
    rw [own_sgSrc, own_sgSrc]
    refine pt_union (Finset.disjoint_left.2 fun i hi hi' => ?_) _
    rw [mem_sgsR] at hi hi'
    omega
/-- The down weights. -/
theorem d_split : (wdH.view.loc (c : Thread nD τ) ↦{fullShare} A.d : sProp 𝕄) = bigSep (Finset.Ico 0 44) (fun n => own c (dS n) A.d) := by
  refine (fam_split (ℓ := wdH.view.loc (c : Thread nD τ)) (Finset.Ico 0 44) (fun n => (dsR (n / 22) (128 * (n % 22)) : Finset S2x2816x2048.Idx)) ?_ ?_ A.d).trans ?_
  · intro t ht t' ht' (i : S2x2816x2048.Idx) hi hi'
    rw [Finset.mem_Ico] at ht ht'
    rw [mem_dsR] at hi hi'
    omega
  · intro (i : S2x2816x2048.Idx)
    have h0 : (i 0).val < 2 := (i 0).isLt
    have h2 : (i 1).val < 2816 := (i 1).isLt
    refine ⟨22 * (i 0).val + (i 1).val / 128, Finset.mem_Ico.2 (by omega), ?_⟩
    rw [mem_dsR]
    omega
  · refine bigSep_congr fun n hn => ?_
    rw [own_dSrc]
/-- Their scales. -/
theorem sd_split : (sdH.view.loc (c : Thread nD τ) ↦{fullShare} A.sd : sProp 𝕄) = bigSep (Finset.Ico 0 44) (fun n => own c (sdS n) A.sd) := by
  refine (fam_split (ℓ := sdH.view.loc (c : Thread nD τ)) (Finset.Ico 0 44) (fun n => (sdsR (n / 22) (8 * (n % 22)) : Finset S2x176x2048.Idx)) ?_ ?_ A.sd).trans ?_
  · intro t ht t' ht' (i : S2x176x2048.Idx) hi hi'
    rw [Finset.mem_Ico] at ht ht'
    rw [mem_sdsR] at hi hi'
    omega
  · intro (i : S2x176x2048.Idx)
    have h0 : (i 0).val < 2 := (i 0).isLt
    have h2 : (i 1).val < 176 := (i 1).isLt
    refine ⟨22 * (i 0).val + (i 1).val / 8, Finset.mem_Ico.2 (by omega), ?_⟩
    rw [mem_sdsR]
    omega
  · refine bigSep_congr fun n hn => ?_
    rw [own_sdSrc]

/-- The four weight arrays whole are the forty-four chunks at home. -/
theorem home_eq : (bigSep (Finset.Ico 0 44) (fun n => homeP c A n) : sProp 𝕄)
    = iprop(((wguH.view.loc (c : Thread nD τ) ↦{fullShare} A.gu)) ∗ ((sguH.view.loc (c : Thread nD τ) ↦{fullShare} A.sgu))
      ∗ (wdH.view.loc (c : Thread nD τ) ↦{fullShare} A.d) ∗ (sdH.view.loc (c : Thread nD τ) ↦{fullShare} A.sd)) := by
  rw [gu_split, sgu_split, d_split, sd_split]
  refine (sep_fam6 (Finset.Ico 0 44) (fun n => own c (gS n) A.gu) (fun n => own c (uS n) A.gu) (fun n => own c (sgS n) A.sgu) (fun n => own c (suS n) A.sgu)
    (fun n => own c (dS n) A.d) (fun n => own c (sdS n) A.sd)).trans ?_
  refine equiv_iff.1 ⟨?_, ?_⟩ <;> change (_ : sProp 𝕄) ⊢ _
  · iintro ⟨Ha, Hb, Hc, Hd, He, Hf⟩
    isplitl [Ha Hb]; · isplitl [Ha]; · iexact Ha
                       iexact Hb
    isplitl [Hc Hd]; · isplitl [Hc]; · iexact Hc
                       iexact Hd
    isplitl [He]; · iexact He
    iexact Hf
  · iintro ⟨⟨Ha, Hb⟩, ⟨Hc, Hd⟩, He, Hf⟩
    isplitl [Ha]; · iexact Ha
    isplitl [Hb]; · iexact Hb
    isplitl [Hc]; · iexact Hc
    isplitl [Hd]; · iexact Hd
    isplitl [He]; · iexact He
    iexact Hf

/-! ## The ring's slots -/

abbrev dlR (s : ℕ) : Finset S12x128x2048.Idx := (Rect.unit (s := S12x128x2048) (dSlotOff s) S1x128x2048.size (dSlotOff_inb s)).set
abbrev sdlR (s : ℕ) : Finset S12x8x2048.Idx := (Rect.unit (s := S12x8x2048) (sdSlotOff s) S1x8x2048.size (sdSlotOff_inb s)).set
theorem own_gSlotR (s : ℕ) (f : Cts (F := F) c wgM) : own c (gSlot s) f = (wgM.view.loc (c : Thread nD τ) ↦[gSR s]{fullShare} f : sProp 𝕄) :=
  congrArg (fun I : Finset S12x1024x512.Idx => (wgM.view.loc (c : Thread nD τ) ↦[I]{fullShare} f : sProp 𝕄)) (gSlot_set s)
theorem own_sgSlotR (s : ℕ) (f : Cts (F := F) c sgM) : own c (sgSlot s) f = (sgM.view.loc (c : Thread nD τ) ↦[sgSR s]{fullShare} f : sProp 𝕄) :=
  congrArg (fun I : Finset S12x64x512.Idx => (sgM.view.loc (c : Thread nD τ) ↦[I]{fullShare} f : sProp 𝕄)) (sgSlot_set s)
theorem own_dSlot (s : ℕ) (f : Cts (F := F) c wdM) : own c (dSlot s) f = (wdM.view.loc (c : Thread nD τ) ↦[dlR s]{fullShare} f : sProp 𝕄) :=
  congrArg (fun I : Finset S12x128x2048.Idx => (wdM.view.loc (c : Thread nD τ) ↦[I]{fullShare} f : sProp 𝕄)) ((View.set_reshape _ _).trans (View.set_slice_whole _ _))
theorem own_sdSlot (s : ℕ) (f : Cts (F := F) c sdM) : own c (sdSlot s) f = (sdM.view.loc (c : Thread nD τ) ↦[sdlR s]{fullShare} f : sProp 𝕄) :=
  congrArg (fun I : Finset S12x8x2048.Idx => (sdM.view.loc (c : Thread nD τ) ↦[I]{fullShare} f : sProp 𝕄)) ((View.set_reshape _ _).trans (View.set_slice_whole _ _))
theorem mem_gSR (s : ℕ) (i : S12x1024x512.Idx) : i ∈ gSR s ↔ (i 0).val = min s 11 := by
  rw [Rect.mem_set_unit]
  have h1 := (i 1).isLt
  have h2 := (i 2).isLt
  simp [Fin.forall_fin_succ] at h1 h2 ⊢
  omega
theorem mem_sgSR (s : ℕ) (i : S12x64x512.Idx) : i ∈ sgSR s ↔ (i 0).val = min s 11 := by
  rw [Rect.mem_set_unit]
  have h1 := (i 1).isLt
  have h2 := (i 2).isLt
  simp [Fin.forall_fin_succ] at h1 h2 ⊢
  omega
theorem mem_dlR (s : ℕ) (i : S12x128x2048.Idx) : i ∈ dlR s ↔ (i 0).val = min s 11 := by
  rw [Rect.mem_set_unit]
  have h1 := (i 1).isLt
  have h2 := (i 2).isLt
  simp [Fin.forall_fin_succ] at h1 h2 ⊢
  omega
theorem mem_sdlR (s : ℕ) (i : S12x8x2048.Idx) : i ∈ sdlR s ↔ (i 0).val = min s 11 := by
  rw [Rect.mem_set_unit]
  have h1 := (i 1).isLt
  have h2 := (i 2).isLt
  simp [Fin.forall_fin_succ] at h1 h2 ⊢
  omega

section Slots
variable (a : ℕ)

section Any
variable {ℓ : Loc nD τ sig} (K : ℕ → Finset (Idx ℓ)) (row : Idx ℓ → ℕ) (hrow : ∀ i, row i < 12) (hK : ∀ s i, i ∈ K s ↔ row i = min s 11)
include hK in
theorem slot_inj : ∀ t ∈ Finset.Ico a (a + 12), ∀ t' ∈ Finset.Ico a (a + 12), ∀ i, i ∈ K (sl t) → i ∈ K (sl t') → t = t' := by
  intro t ht t' ht' i h h'
  rw [Finset.mem_Ico] at ht ht'
  rw [hK] at h h'
  simp only [sl] at h h'
  omega
include hrow hK in
theorem slot_surj : ∀ i, ∃ t ∈ Finset.Ico a (a + 12), i ∈ K (sl t) := by
  intro i
  have := hrow i
  refine ⟨a + (row i + 12 - a % 12) % 12, Finset.mem_Ico.2 (by omega), ?_⟩
  rw [hK]
  simp only [sl]
  omega
include hrow hK in
theorem slot_split (f : Buf (Elt F) ℓ) : (ℓ ↦{fullShare} f : sProp 𝕄) = bigSep (Finset.Ico a (a + 12)) fun n => ℓ ↦[K (sl n)]{fullShare} f :=
  fam_split _ (fun n => K (sl n)) (slot_inj a K row hK) (slot_surj a K row hrow hK) f
include hrow hK in
theorem slot_join (f₀ : Buf (Elt F) ℓ) : bigSep (Finset.Ico a (a + 12)) (fun n => iprop(∃ f, ℓ ↦[K (sl n)]{fullShare} f)) ⊢ (iprop(∃ g, ℓ ↦{fullShare} g) : sProp 𝕄) :=
  fam_join _ (fun n => K (sl n)) (slot_inj a K row hK) (slot_surj a K row hrow hK) f₀
end Any

/-- The gate and up halves of a slot, at contents of their own, are the slot at some contents. -/
theorem g_halves (s : ℕ) : iprop((∃ f, own c (gDst s 0) f) ∗ (∃ f, own c (gDst s 256) f)) ⊢ (iprop(∃ f, wgM.view.loc (c : Thread nD τ) ↦[gSR s]{fullShare} f) : sProp 𝕄) := by
  iintro ⟨⟨%f, Hf⟩, ⟨%g, Hg⟩⟩
  ihave Hf := (Entails.of_eq (own_gDst c s 0 f)) $$ Hf
  ihave Hg := (Entails.of_eq (own_gDst c s 256 g)) $$ Hg
  have h : iprop((wgM.view.loc (c : Thread nD τ) ↦[gR s 0]{fullShare} f) ∗ wgM.view.loc (c : Thread nD τ) ↦[gR s 256]{fullShare} g)
    ⊢ (iprop(∃ f, wgM.view.loc (c : Thread nD τ) ↦[gSR s]{fullShare} f) : sProp 𝕄) := by
    rw [gSR_union]
    refine (pointsTo_join (gR_disj s)).trans ?_
    iintro H; iexists _; iexact H
  iapply h
  isplitl [Hf]; · iexact Hf
  iexact Hg
theorem sg_halves (s : ℕ) : iprop((∃ f, own c (sgDst s 0) f) ∗ (∃ f, own c (sgDst s 256) f)) ⊢ (iprop(∃ f, sgM.view.loc (c : Thread nD τ) ↦[sgSR s]{fullShare} f) : sProp 𝕄) := by
  iintro ⟨⟨%f, Hf⟩, ⟨%g, Hg⟩⟩
  ihave Hf := (Entails.of_eq (own_sgDst c s 0 f)) $$ Hf
  ihave Hg := (Entails.of_eq (own_sgDst c s 256 g)) $$ Hg
  have h : iprop((sgM.view.loc (c : Thread nD τ) ↦[sgR s 0]{fullShare} f) ∗ sgM.view.loc (c : Thread nD τ) ↦[sgR s 256]{fullShare} g)
    ⊢ (iprop(∃ f, sgM.view.loc (c : Thread nD τ) ↦[sgSR s]{fullShare} f) : sProp 𝕄) := by
    rw [sgSR_union]
    refine (pointsTo_join (sgR_disj s)).trans ?_
    iintro H; iexists _; iexact H
  iapply h
  isplitl [Hf]; · iexact Hf
  iexact Hg

theorem sep_fam5 (S : Finset ℕ) (Φ0 Φ1 Φ2 Φ3 Φ4 : ℕ → sProp 𝕄) : bigSep S (fun n => iprop(Φ0 n ∗ Φ1 n ∗ Φ2 n ∗ Φ3 n ∗ Φ4 n))
    = iprop(bigSep S Φ0 ∗ bigSep S Φ1 ∗ bigSep S Φ2 ∗ bigSep S Φ3 ∗ bigSep S Φ4) := by
  rw [sep_fam, sep_fam, sep_fam, sep_fam]

/-- The twelve slots free, from the four rings whole and the twelve semaphores. -/
theorem free_of (f1 : Cts (F := F) c wgM) (f2 : Cts (F := F) c sgM) (f3 : Cts (F := F) c wdM) (f4 : Cts (F := F) c sdM) :
    iprop(bigSep (Finset.Ico a (a + 12)) (fun n => cellP (F := F) c (sl n)) ∗ (wgM.view.loc (c : Thread nD τ) ↦{fullShare} f1) ∗ (sgM.view.loc (c : Thread nD τ) ↦{fullShare} f2)
      ∗ (wdM.view.loc (c : Thread nD τ) ↦{fullShare} f3) ∗ (sdM.view.loc (c : Thread nD τ) ↦{fullShare} f4))
    ⊢ (bigSep (Finset.Ico a (a + 12)) (fun n => freeP (F := F) c n) : sProp 𝕄) := by
  rw [slot_split (ℓ := wgM.view.loc (c : Thread nD τ)) a (fun s => (gSR s : Finset S12x1024x512.Idx)) (fun (i : S12x1024x512.Idx) => (i 0).val) (fun (i : S12x1024x512.Idx) => (i 0).isLt) mem_gSR f1,
    slot_split (ℓ := sgM.view.loc (c : Thread nD τ)) a (fun s => (sgSR s : Finset S12x64x512.Idx)) (fun (i : S12x64x512.Idx) => (i 0).val) (fun (i : S12x64x512.Idx) => (i 0).isLt) mem_sgSR f2,
    slot_split (ℓ := wdM.view.loc (c : Thread nD τ)) a (fun s => (dlR s : Finset S12x128x2048.Idx)) (fun (i : S12x128x2048.Idx) => (i 0).val) (fun (i : S12x128x2048.Idx) => (i 0).isLt) mem_dlR f3,
    slot_split (ℓ := sdM.view.loc (c : Thread nD τ)) a (fun s => (sdlR s : Finset S12x8x2048.Idx)) (fun (i : S12x8x2048.Idx) => (i 0).val) (fun (i : S12x8x2048.Idx) => (i 0).isLt) mem_sdlR f4]
  refine (Entails.of_eq (sep_fam5 _ _ _ _ _ _).symm).trans (bigSep_mono fun n hn => ?_)
  change (_ : sProp 𝕄) ⊢ _
  unfold freeP
  iintro ⟨Hc, Hg, Hs, Hd, He⟩
  ihave Hg := (Entails.of_eq ((own_gSlotR c (sl n) f1).symm.trans (own_gSlot c (sl n) f1))) $$ Hg
  ihave Hs := (Entails.of_eq ((own_sgSlotR c (sl n) f2).symm.trans (own_sgSlot c (sl n) f2))) $$ Hs
  ihave Hd := (Entails.of_eq (own_dSlot c (sl n) f3).symm) $$ Hd
  ihave He := (Entails.of_eq (own_sdSlot c (sl n) f4).symm) $$ He
  icases Hg with ⟨Hg0, Hg1⟩
  icases Hs with ⟨Hs0, Hs1⟩
  isplitl [Hc]; · iexact Hc
  isplitl [Hg0]; · iexists _; iexact Hg0
  isplitl [Hg1]; · iexists _; iexact Hg1
  isplitl [Hs0]; · iexists _; iexact Hs0
  isplitl [Hs1]; · iexists _; iexact Hs1
  isplitl [Hd]; · iexists _; iexact Hd
  iexists _; iexact He

/-- And back. -/
theorem of_free (f1 : Cts (F := F) c wgM) (f2 : Cts (F := F) c sgM) (f3 : Cts (F := F) c wdM) (f4 : Cts (F := F) c sdM) :
    (bigSep (Finset.Ico a (a + 12)) (fun n => freeP (F := F) c n) : sProp 𝕄)
    ⊢ iprop(bigSep (Finset.Ico a (a + 12)) (fun n => cellP (F := F) c (sl n)) ∗ (∃ f, wgM.view.loc (c : Thread nD τ) ↦{fullShare} f) ∗ (∃ f, sgM.view.loc (c : Thread nD τ) ↦{fullShare} f)
      ∗ (∃ f, wdM.view.loc (c : Thread nD τ) ↦{fullShare} f) ∗ (∃ f, sdM.view.loc (c : Thread nD τ) ↦{fullShare} f)) := by
  have h : ∀ n ∈ Finset.Ico a (a + 12), freeP (F := F) c n ⊢ iprop(cellP (F := F) c (sl n) ∗ (∃ f, wgM.view.loc (c : Thread nD τ) ↦[gSR (sl n)]{fullShare} f)
      ∗ (∃ f, sgM.view.loc (c : Thread nD τ) ↦[sgSR (sl n)]{fullShare} f) ∗ (∃ f, wdM.view.loc (c : Thread nD τ) ↦[dlR (sl n)]{fullShare} f)
      ∗ (∃ f, sdM.view.loc (c : Thread nD τ) ↦[sdlR (sl n)]{fullShare} f)) := by
    intro n hn
    unfold freeP
    iintro ⟨Hc, Hg0, Hg1, Hs0, Hs1, ⟨%f, Hd⟩, ⟨%g, He⟩⟩
    isplitl [Hc]; · iexact Hc
    isplitl [Hg0 Hg1]
    · iapply (g_halves c (sl n))
      isplitl [Hg0]; · iexact Hg0
      iexact Hg1
    isplitl [Hs0 Hs1]
    · iapply (sg_halves c (sl n))
      isplitl [Hs0]; · iexact Hs0
      iexact Hs1
    isplitl [Hd]
    · iexists f; iapply (Entails.of_eq (own_dSlot c (sl n) f)); iexact Hd
    iexists g; iapply (Entails.of_eq (own_sdSlot c (sl n) g)); iexact He
  refine (bigSep_mono h).trans ((Entails.of_eq (sep_fam5 _ _ _ _ _ _)).trans ?_)
  iintro ⟨Hc, Hg, Hs, Hd, He⟩
  isplitl [Hc]; · iexact Hc
  isplitl [Hg]
  · iapply (slot_join (ℓ := wgM.view.loc (c : Thread nD τ)) a (fun s => (gSR s : Finset S12x1024x512.Idx)) (fun (i : S12x1024x512.Idx) => (i 0).val) (fun (i : S12x1024x512.Idx) => (i 0).isLt) mem_gSR f1); iexact Hg
  isplitl [Hs]
  · iapply (slot_join (ℓ := sgM.view.loc (c : Thread nD τ)) a (fun s => (sgSR s : Finset S12x64x512.Idx)) (fun (i : S12x64x512.Idx) => (i 0).val) (fun (i : S12x64x512.Idx) => (i 0).isLt) mem_sgSR f2); iexact Hs
  isplitl [Hd]
  · iapply (slot_join (ℓ := wdM.view.loc (c : Thread nD τ)) a (fun s => (dlR s : Finset S12x128x2048.Idx)) (fun (i : S12x128x2048.Idx) => (i 0).val) (fun (i : S12x128x2048.Idx) => (i 0).isLt) mem_dlR f3); iexact Hd
  iapply (slot_join (ℓ := sdM.view.loc (c : Thread nD τ)) a (fun s => (sdlR s : Finset S12x8x2048.Idx)) (fun (i : S12x8x2048.Idx) => (i 0).val) (fun (i : S12x8x2048.Idx) => (i 0).isLt) mem_sdlR f4); iexact He

end Slots

/-! ## The results' places, and the slots they leave from -/

abbrev hoR (s : ℕ) : Finset S2x80x2048.Idx := (Rect.unit (s := S2x80x2048) (hOutOff s) S1x80x2048.size (hOutOff_inb s)).set
theorem own_hOut (s : ℕ) (f : Cts (F := F) c hidH) : own c (hOut s) f = (hidH.view.loc (c : Thread nD τ) ↦[hoR s]{fullShare} f : sProp 𝕄) :=
  congrArg (fun I : Finset S2x80x2048.Idx => (hidH.view.loc (c : Thread nD τ) ↦[I]{fullShare} f : sProp 𝕄)) ((View.set_reshape _ _).trans (View.set_slice_whole _ _))
theorem mem_hoR (s : ℕ) (i : S2x80x2048.Idx) : i ∈ hoR s ↔ (i 0).val = min s 1 := by
  rw [Rect.mem_set_unit]
  have h1 := (i 1).isLt
  have h2 := (i 2).isLt
  simp [Fin.forall_fin_succ] at h1 h2 ⊢
  omega
theorem hid_split (f : Cts (F := F) c hidH) : (hidH.view.loc (c : Thread nD τ) ↦{fullShare} f : sProp 𝕄) = iprop(own c (hOut 0) f ∗ own c (hOut 1) f) := by
  rw [own_hOut, own_hOut]
  have hu : (Finset.univ : Finset S2x80x2048.Idx) = hoR 0 ∪ hoR 1 := by
    ext i
    have h0 : (i 0).val < 2 := (i 0).isLt
    rw [Finset.mem_union, mem_hoR, mem_hoR]
    simp only [Finset.mem_univ, true_iff]
    omega
  have hd : Disjoint (hoR 0) (hoR 1) := Finset.disjoint_left.2 fun i h h' => by rw [mem_hoR] at h h'; omega
  have h : (hidH.view.loc (c : Thread nD τ) ↦[hoR 0 ∪ hoR 1]{fullShare} f : sProp 𝕄)
    ⊣⊢ iprop((hidH.view.loc (c : Thread nD τ) ↦[hoR 0]{fullShare} f) ∗ hidH.view.loc (c : Thread nD τ) ↦[hoR 1]{fullShare} f) := pointsTo_union hd
  exact (congrArg (fun I : Finset S2x80x2048.Idx => (hidH.view.loc (c : Thread nD τ) ↦[I]{fullShare} f : sProp 𝕄)) hu).trans (equiv_iff.1 ⟨h.1, h.2⟩)

abbrev rhR (s : ℕ) : Finset S3x80x2048.Idx := (Rect.unit (s := S3x80x2048) (rSlotOff s) S1x80x2048.size (rSlotOff_inb s)).set
theorem own_rSlot (s : ℕ) (f : Cts (F := F) c rhM) : own c (rSlot s) f = (rhM.view.loc (c : Thread nD τ) ↦[rhR s]{fullShare} f : sProp 𝕄) :=
  congrArg (fun I : Finset S3x80x2048.Idx => (rhM.view.loc (c : Thread nD τ) ↦[I]{fullShare} f : sProp 𝕄)) ((View.set_reshape _ _).trans (View.set_slice_whole _ _))
theorem mem_rhR (s : ℕ) (i : S3x80x2048.Idx) : i ∈ rhR s ↔ (i 0).val = min s 1 + 1 := by
  rw [Rect.mem_set_unit]
  have h1 := (i 1).isLt
  have h2 := (i 2).isLt
  simp [Fin.forall_fin_succ] at h1 h2 ⊢
  omega
theorem rhR_disj : Disjoint (rhR 0) (rhR 1) := Finset.disjoint_left.2 fun i h h' => by rw [mem_rhR] at h h'; omega

/-- The slot of the residual buffer no layer of the network writes. -/
def spare (f : Cts (F := F) c rhM) : sProp 𝕄 := rhM.view.loc (c : Thread nD τ) ↦[Finset.univ \ (rhR 0 ∪ rhR 1)]{fullShare} f
theorem rh_split (f : Cts (F := F) c rhM) : (rhM.view.loc (c : Thread nD τ) ↦{fullShare} f : sProp 𝕄) ⊢ iprop(own c (rSlot 0) f ∗ own c (rSlot 1) f ∗ spare c f) := by
  rw [own_rSlot, own_rSlot]
  have h : (rhM.view.loc (c : Thread nD τ) ↦{fullShare} f : sProp 𝕄) ⊢ iprop((rhM.view.loc (c : Thread nD τ) ↦[rhR 0 ∪ rhR 1]{fullShare} f) ∗ spare c f) :=
    (pointsTo_split_subset (Finset.subset_univ _)).1
  have h' : (rhM.view.loc (c : Thread nD τ) ↦[rhR 0 ∪ rhR 1]{fullShare} f : sProp 𝕄)
    ⊢ iprop((rhM.view.loc (c : Thread nD τ) ↦[rhR 0]{fullShare} f) ∗ rhM.view.loc (c : Thread nD τ) ↦[rhR 1]{fullShare} f) := (pointsTo_union rhR_disj).1
  refine h.trans ?_
  iintro ⟨H, Hs⟩
  ihave H := h' $$ H
  icases H with ⟨H0, H1⟩
  isplitl [H0]; · iexact H0
  isplitl [H1]; · iexact H1
  iexact Hs
theorem rh_join (f g h : Cts (F := F) c rhM) : iprop(own c (rSlot 0) f ∗ own c (rSlot 1) g ∗ spare c h) ⊢ (iprop(∃ f, rhM.view.loc (c : Thread nD τ) ↦{fullShare} f) : sProp 𝕄) := by
  rw [own_rSlot, own_rSlot]
  have h1 : iprop((rhM.view.loc (c : Thread nD τ) ↦[rhR 0]{fullShare} f) ∗ rhM.view.loc (c : Thread nD τ) ↦[rhR 1]{fullShare} g)
    ⊢ (rhM.view.loc (c : Thread nD τ) ↦[rhR 0 ∪ rhR 1]{fullShare} ((rhR 1).piecewise g f) : sProp 𝕄) := pointsTo_join rhR_disj
  have h2 : iprop((rhM.view.loc (c : Thread nD τ) ↦[rhR 0 ∪ rhR 1]{fullShare} ((rhR 1).piecewise g f)) ∗ spare c h)
    ⊢ (rhM.view.loc (c : Thread nD τ) ↦{fullShare} ((rhR 0 ∪ rhR 1).piecewise ((rhR 1).piecewise g f) h) : sProp 𝕄) := pointsTo_join_subset (Finset.subset_univ _)
  iintro ⟨H0, H1, Hs⟩
  iexists _
  iapply h2
  isplitl [H0 H1]
  · iapply h1
    isplitl [H0]; · iexact H0
    iexact H1
  iexact Hs

end Cert.Proof.Mlp

end
-- ==== Proof.Run.lean ====
/-
  The launch: the body's run within the pipeline's one point, and the program's frame and value from it.
-/
module

public import proofs.«01_k».proof.Proof.Body
public import proofs.«01_k».proof.Proof.Blocks
public import proofs.«01_k».proof.Proof.Gen.KernelIdeal.Frame
public import proofs.«01_k».proof.Proof.Gen.KernelIdeal.Points
public import Idealize.ShloMosaic.Lib.Pipeline.FrameValue

@[expose] public section

set_option backward.isDefEq.respectTransparency.types false

set_option pp.deepTerms false
set_option pp.deepTerms.threshold 12
set_option pp.proofs false
noncomputable section

namespace Cert.Proof.Mlp

open Cert.KernelIdeal Cert.KernelIdeal.Gen
open Idealize.ShloMosaic Idealize.ShloMosaic.TcCoe Idealize.ShloMosaic.Tactic
open Idealize.ShloMosaic.Pipeline Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## The ring before the first chunk and after the last -/

section RingEnds
variable (c : Dev nD) (A : Wts F c)

/-- The ring with nothing fetched: the weights whole in HBM, the four rings whole, the twelve semaphores at zero. -/
theorem ring_in (f1 : Cts (F := F) c wgM) (f2 : Cts (F := F) c sgM) (f3 : Cts (F := F) c wdM) (f4 : Cts (F := F) c sdM) :
    iprop((cellP (F := F) c (sl 0) ∗ cellP (F := F) c (sl 1) ∗ cellP (F := F) c (sl 2) ∗ cellP (F := F) c (sl 3) ∗ cellP (F := F) c (sl 4) ∗ cellP (F := F) c (sl 5) ∗ cellP (F := F) c (sl 6) ∗ cellP (F := F) c (sl 7) ∗ cellP (F := F) c (sl 8) ∗ cellP (F := F) c (sl 9) ∗ cellP (F := F) c (sl 10) ∗ cellP (F := F) c (sl 11))
      ∗ ((wgM.view.loc (c : Thread nD τ) ↦{fullShare} f1) ∗ (sgM.view.loc (c : Thread nD τ) ↦{fullShare} f2) ∗ (wdM.view.loc (c : Thread nD τ) ↦{fullShare} f3) ∗ (sdM.view.loc (c : Thread nD τ) ↦{fullShare} f4))
      ∗ ((wguH.view.loc (c : Thread nD τ) ↦{fullShare} A.gu) ∗ (sguH.view.loc (c : Thread nD τ) ↦{fullShare} A.sgu) ∗ (wdH.view.loc (c : Thread nD τ) ↦{fullShare} A.d) ∗ (sdH.view.loc (c : Thread nD τ) ↦{fullShare} A.sd)))
    ⊢ ring c A 0 0 12 := by
  unfold ring
  rw [home_eq c A, Finset.Ico_self, bigSep_empty, bigSep_empty]
  iintro ⟨⟨HQ2, HQ3, HQ4, HQ5, HQ6, HQ7, HQ8, HQ9, HQ10, HQ11, HQ12, HQ13⟩, ⟨H1, H2, H3, H4⟩, HW⟩
  isplitr; · iempintro
  isplitr [HW]
  · iapply (free_of c 0 f1 f2 f3 f4)
    isplitr [H1 H2 H3 H4]
    · iapply (Entails.of_eq (sep12 (fun n => cellP (F := F) c (sl n)) (Nat.le_refl 12)).symm)
      isplitl [HQ2]; · iexact HQ2
      isplitl [HQ3]; · iexact HQ3
      isplitl [HQ4]; · iexact HQ4
      isplitl [HQ5]; · iexact HQ5
      isplitl [HQ6]; · iexact HQ6
      isplitl [HQ7]; · iexact HQ7
      isplitl [HQ8]; · iexact HQ8
      isplitl [HQ9]; · iexact HQ9
      isplitl [HQ10]; · iexact HQ10
      isplitl [HQ11]; · iexact HQ11
      isplitl [HQ12]; · iexact HQ12
      isplitl [HQ13]; · iexact HQ13
      rw [Finset.Ico_self, bigSep_empty]; iempintro
    isplitl [H1]; · iexact H1
    isplitl [H2]; · iexact H2
    isplitl [H3]; · iexact H3
    iexact H4
  isplitr; · iempintro
  iexact HW

/-- Twelve members of a family apart. -/
theorem sep12' (Φ : ℕ → sProp 𝕄) : bigSep (Finset.Ico 44 56) Φ = iprop(Φ 44 ∗ Φ 45 ∗ Φ 46 ∗ Φ 47 ∗ Φ 48 ∗ Φ 49 ∗ Φ 50 ∗ Φ 51 ∗ Φ 52 ∗ Φ 53 ∗ Φ 54 ∗ Φ 55 ∗ emp) := by
  rw [sep_first Φ (a := 44) (by omega), sep_first Φ (a := 45) (by omega), sep_first Φ (a := 46) (by omega), sep_first Φ (a := 47) (by omega), sep_first Φ (a := 48) (by omega), sep_first Φ (a := 49) (by omega), sep_first Φ (a := 50) (by omega), sep_first Φ (a := 51) (by omega), sep_first Φ (a := 52) (by omega), sep_first Φ (a := 53) (by omega), sep_first Φ (a := 54) (by omega), sep_first Φ (a := 55) (by omega), Finset.Ico_self, bigSep_empty]
  rfl

/-- The ring with everything consumed. -/
theorem ring_out (f1 : Cts (F := F) c wgM) (f2 : Cts (F := F) c sgM) (f3 : Cts (F := F) c wdM) (f4 : Cts (F := F) c sdM) :
    ring c A 44 44 56 ⊢
    iprop((cellP (F := F) c (sl 0) ∗ cellP (F := F) c (sl 1) ∗ cellP (F := F) c (sl 2) ∗ cellP (F := F) c (sl 3) ∗ cellP (F := F) c (sl 4) ∗ cellP (F := F) c (sl 5) ∗ cellP (F := F) c (sl 6) ∗ cellP (F := F) c (sl 7) ∗ cellP (F := F) c (sl 8) ∗ cellP (F := F) c (sl 9) ∗ cellP (F := F) c (sl 10) ∗ cellP (F := F) c (sl 11))
      ∗ ((∃ f, wgM.view.loc (c : Thread nD τ) ↦{fullShare} f) ∗ (∃ f, sgM.view.loc (c : Thread nD τ) ↦{fullShare} f) ∗ (∃ f, wdM.view.loc (c : Thread nD τ) ↦{fullShare} f) ∗ (∃ f, sdM.view.loc (c : Thread nD τ) ↦{fullShare} f))
      ∗ ((wguH.view.loc (c : Thread nD τ) ↦{fullShare} A.gu) ∗ (sguH.view.loc (c : Thread nD τ) ↦{fullShare} A.sgu) ∗ (wdH.view.loc (c : Thread nD τ) ↦{fullShare} A.d) ∗ (sdH.view.loc (c : Thread nD τ) ↦{fullShare} A.sd))) := by
  unfold ring
  rw [home_eq c A]
  iintro ⟨-, HF, HW, -⟩
  ihave HF := (of_free c 44 f1 f2 f3 f4) $$ HF
  icases HF with ⟨HC, HB⟩
  isplitl [HC]
  · ihave HC := (Entails.of_eq (sep12' (fun n => cellP (F := F) c (sl n)))) $$ HC
    icases HC with ⟨HQ10, HQ11, HQ12, HQ13, HQ2, HQ3, HQ4, HQ5, HQ6, HQ7, HQ8, HQ9, -⟩
    isplitl [HQ2]; · iexact HQ2
    isplitl [HQ3]; · iexact HQ3
    isplitl [HQ4]; · iexact HQ4
    isplitl [HQ5]; · iexact HQ5
    isplitl [HQ6]; · iexact HQ6
    isplitl [HQ7]; · iexact HQ7
    isplitl [HQ8]; · iexact HQ8
    isplitl [HQ9]; · iexact HQ9
    isplitl [HQ10]; · iexact HQ10
    isplitl [HQ11]; · iexact HQ11
    isplitl [HQ12]; · iexact HQ12
    iexact HQ13
  isplitl [HB]; · iexact HB
  iexact HW
end RingEnds

/-! ## What the launch hands over -/

variable (m : (ℓ : Loc nD τ sig) → Buf (Elt F) ℓ) (ρ : Dev nD → PrngReg)

abbrev VV (c : Dev nD) (b : Ref sig .tc) : Buf (Elt F) ((c : Thread nD τ).loc b) := m ((c : Thread nD τ).loc b)

abbrev osem0 : Fin 14 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14] : Fin 14 → SemLoc sig) j
theorem ownSemFacts0 : Pipeline.OwnSemFacts spec0 osem0 := by decide
theorem ownSems_eq (c : Dev nD) :
    (Pipeline.ownSems0 (Ix := Unit) (Name := ℕ) (U := UU nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c osem0 [0, 1, 2, 3, 4, 5, 6, 7, 8, 9, 10, 11, 12, 13] (by decide) (by decide)]; rfl

/-- The arrays the body's copies read, and the one they write. -/
def H0 : Finset (Ref sig .tc) := {main_arg1, main_arg2, main_arg3, main_arg4, main_arg5}
def R0 : Finset (Ref sig .tc) := {main_v0}
theorem H0_sub : H0 ⊆ Pipeline.restRefs sig spec0 := by decide
theorem R0_sub : R0 ⊆ Pipeline.restRefs sig spec0 \ H0 := by decide
theorem hbm_eq (c : Dev nD) (V : (b : Ref sig .tc) → Buf (Elt F) ((c : Thread nD τ).loc b)) :
    (bigSep H0 (fun b => ((c : Thread nD τ).loc b) ↦{fullShare} V b) : sProp 𝕄)
      = iprop((nmH.view.loc (c : Thread nD τ) ↦{fullShare} V main_arg1) ∗ (wguH.view.loc (c : Thread nD τ) ↦{fullShare} V main_arg2) ∗ (sguH.view.loc (c : Thread nD τ) ↦{fullShare} V main_arg3)
          ∗ (wdH.view.loc (c : Thread nD τ) ↦{fullShare} V main_arg4) ∗ (sdH.view.loc (c : Thread nD τ) ↦{fullShare} V main_arg5)) := by
  rw [BI.bigSep_eq_bigSepL_of_eq [main_arg1, main_arg2, main_arg3, main_arg4, main_arg5] (by decide) (by decide)]; rfl
theorem routed_eq (c : Dev nD) (V : (b : Ref sig .tc) → Buf (Elt F) ((c : Thread nD τ).loc b)) :
    (Pipeline.routed R0 c V : sProp 𝕄) = iprop(hidH.view.loc (c : Thread nD τ) ↦{fullShare} V main_v0) := by
  unfold Pipeline.routed; rw [BI.bigSep_eq_bigSepL_of_eq [main_v0] (by decide) (by decide)]; rfl

/-! ## The result -/

/-- The weights, the stream and the gains as launched. -/
def wts (c : Dev nD) : Wts F c where
  gu := VV m c main_arg2
  sgu := VV m c main_arg3
  d := VV m c main_arg4
  sd := VV m c main_arg5
abbrev stM : Memref sig .tc .vmem S2x80x2048 .f32 := Memref.whole cc0_stg0_0
def xC (c : Dev nD) : Cts (F := F) c stM := fun (i : S2x80x2048.Idx) => VV m c main_arg0 i
def gainC (c : Dev nD) : Cts (F := F) c nmH := fun (i : S2x2048.Idx) => VV m c main_arg1 i

/-- The kernel's result: layer `i 0`'s at row `i 1` and lane `i 2`. -/
def hidF (c : Dev nD) (i : S2x80x2048.Idx) : Elt F .f32 :=
  oC c (wts m c) stM (xC m c) (nC c (gainC m c)) ⟨(i 0).val, (i 0).isLt⟩
    (fun a => match a with | ⟨0, _⟩ => ⟨(i 0).val + 1, Nat.succ_lt_succ (i 0).isLt⟩ | ⟨1, _⟩ => ⟨(i 1).val, (i 1).isLt⟩ | ⟨2, _⟩ => ⟨(i 2).val, (i 2).isLt⟩ : S3x80x2048.Idx)
def hidC (c : Dev nD) : Cts (F := F) c hidH := fun (i : S2x80x2048.Idx) => hidF m c i

def GG (c : Dev nD) : (b : Ref sig .tc) → Buf (Elt F) ((c : Thread nD τ).loc b) := Function.update (VV m c) main_v0 (hidC m c)
theorem GG_v0 (c : Dev nD) : GG m c main_v0 = hidC m c := Function.update_self _ _ _

theorem hOut_emb (s : ℕ) (y : S80x2048.Idx) : ((hOut s).view.emb y : S2x80x2048.Idx)
    = ix3 ⟨min s 1, by omega⟩ ⟨(y 0).val, (y 0).isLt⟩ ⟨(y 1).val, (y 1).isLt⟩ := by
  refine @Eq.trans S2x80x2048.Idx _ _ _ (blk_emb hidH.view (hOutOff s) (hOutOff_inb s) _ y) ?_
  refine funext fun a => ?_
  fin_cases a <;> apply Fin.ext
  · show min s 1 + 1 * 0 = _; simp
  · show 0 + 1 * (y 0).val = _; simp
  · show 0 + 1 * (y 1).val = _; simp
theorem rSlot_emb (s : ℕ) (y : S80x2048.Idx) : ((rSlot s).view.emb y : S3x80x2048.Idx)
    = ix3 ⟨min s 1 + 1, by omega⟩ ⟨(y 0).val, (y 0).isLt⟩ ⟨(y 1).val, (y 1).isLt⟩ := by
  refine @Eq.trans S3x80x2048.Idx _ _ _ (blk_emb rhM.view (rSlotOff s) (rSlotOff_inb s) _ y) ?_
  refine funext fun a => ?_
  fin_cases a <;> apply Fin.ext
  · show min s 1 + 1 + 1 * 0 = _; simp
  · show 0 + 1 * (y 0).val = _; simp
  · show 0 + 1 * (y 1).val = _; simp

theorem hid_own (c : Dev nD) (t : Fin 2) (h0 : Cts (F := F) c hidH) :
    own c (hOut t.val) (copied (hOut t.val) (rSlot t.val) h0 (oC c (wts m c) stM (xC m c) (nC c (gainC m c)) ⟨t.val, t.isLt⟩)) = own c (hOut t.val) (hidC m c) := by
  refine own_copied c (hOut t.val) (rSlot t.val) h0 _ (hidC m c) fun y => ?_
  rw [View.read, View.read]
  have he := hOut_emb t.val y
  have hr := rSlot_emb t.val y
  have hm : min t.val 1 = t.val := by have := t.isLt; omega
  show hidF m c ((hOut t.val).view.emb y) = oC c (wts m c) stM (xC m c) (nC c (gainC m c)) ⟨t.val, t.isLt⟩ ((rSlot t.val).view.emb y)
  rw [he, hr]
  unfold hidF
  simp only [ix3, hm]
  refine congrArg (oC c (wts m c) stM (xC m c) (nC c (gainC m c)) ⟨t.val, t.isLt⟩) (funext fun a => ?_)
  fin_cases a <;> rfl

/-! ## The point -/

/-- The pipeline's invariant: the launch's contents before the point, the result's after. -/
def PhiM (c : Dev nD) (t : ℕ) : sProp 𝕄 :=
  if t = 0 then Pipeline.ΦDRG osem0 spec0 H0 R0 (VV m) (VV m) c else Pipeline.ΦDRG osem0 spec0 H0 R0 (VV m) (GG m) c

theorem PhiM_zero (c : Dev nD) {t : ℕ} (h : t = 0) : PhiM m c t = Pipeline.ΦDRG osem0 spec0 H0 R0 (VV m) (VV m) c := if_pos h
theorem PhiM_succ (c : Dev nD) {t : ℕ} (h : t ≠ 0) : PhiM m c t = Pipeline.ΦDRG osem0 spec0 H0 R0 (VV m) (GG m) c := if_neg h

def dats (_ : Fin 1) (c : Dev nD) : Dat τ (Elt F) Unit ℕ (UU nD τ) ℕ cfg0 c where
  A w := VV m c (Pipeline.arrRef spec0 w)
  after w t := match w with
    | ⟨0, _⟩ => iblk m c 0 t
  Φ t := PhiM m c t.val
  q _ := fullShare
  owed _ := 0

theorem A_eq (c : Dev nD) (w : Fin cfg0.W) : (dats m 0 c).A w = VV m c (Pipeline.arrRef spec0 w) := by
  dsimp only [dats]
theorem before_eq (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; dsimp only [dats]; rfl)

theorem after_eq (c : Dev nD) (t : Fin cfg0.N) : (dats m 0 c).after 0 t = iblk m c 0 t := by dsimp only [dats]
abbrev ms0 (t : Fin cfg0.N) : Memref sig .tc .vmem S2x80x2048 .f32 := win0_0.stage (cfg0.slots t 0)
theorem whole_own (c : Dev nD) {S : Shape} {e : EltTy} {sp : Space} (M : Memref sig .tc sp S e) (h : M.view.set = Finset.univ) (f : Cts (F := F) c M) :
    (M.view.loc (c : Thread nD τ) ↦{fullShare} f : sProp 𝕄) = own c M f :=
  congrArg (fun I => (M.view.loc (c : Thread nD τ) ↦[I]{fullShare} f : sProp 𝕄)) h.symm

theorem stage_own (c : Dev nD) (t : Fin cfg0.N) : (owns (c : Thread nD τ) (ms0 t) fullShare (iblk m c 0 t) : sProp 𝕄) = own c stM (xC m c) := by
  have h1 : ms0 t = Memref.whole cc0_stg0_0 := rfl
  have h2 : iblk m c 0 t = xC m c := by
    funext (j : S2x80x2048.Idx)
    show VV m c main_arg0 (((cfg0.win 0).blk t).view.emb j) = VV m c main_arg0 j
    refine congrArg (VV m c main_arg0) ?_
    refine funext fun (a : Fin 3) => Fin.ext ?_
    match a with
    | ⟨0, _⟩ => show 0 * 2 + 1 * (j 0).val = (j 0).val; omega
    | ⟨1, _⟩ => show 0 * 80 + 1 * (j 1).val = (j 1).val; omega
    | ⟨2, _⟩ => show 0 * 2048 + 1 * (j 2).val = (j 2).val; omega
  have h3 : stM.view.set = Finset.univ := View.set_whole cc0_stg0_0
  rw [h1, h2, owns_whole]
  exact whole_own c stM h3 (xC m c)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t))

/-- The body from the launch's contents to the result's. -/
theorem sound_core (c : Dev nD) :
    iprop(Pipeline.ΦDRG osem0 spec0 H0 R0 (VV m) (VV m) c ∗ own c stM (xC m c) ∗ ∃ W, owes (c : Thread nD τ) 0 W)
      ⊢ wp frame (wpE (defs₀ (F := F)) Variants.none (c : Thread nD τ) none) Set.univ (bodyK stM (hstage0_0 0))
        (fun _ => iprop(Pipeline.ΦDRG osem0 spec0 H0 R0 (VV m) (GG m) c ∗ own c stM (xC m c) ∗ ∃ W, owes (c : Thread nD τ) 0 W)) := by
  rw [Pipeline.ΦDRG_eq, Pipeline.ΦDRG_eq, scopedRest0_eq, ownSems_eq, hbm_eq, routed_eq, routed_eq]
  iintro ⟨⟨⟨⟨%n0, Hn⟩, ⟨%f1, H1⟩, ⟨%f2, H2⟩, ⟨%f3, H3⟩, ⟨%f4, H4⟩, ⟨%r0, Hr⟩, ⟨%p0, Hp⟩⟩, Hg, ⟨HQ1, HQ2, HQ3, HQ4, HQ5, HQ6, HQ7, HQ8, HQ9, HQ10, HQ11, HQ12, HQ13, HQ14⟩, ⟨Hnm, Hw1, Hw2, Hw3, Hw4⟩, Hh⟩, Hx, HW⟩
  ihave HR := (ring_in c (wts m c) f1 f2 f3 f4) $$ [HQ2 HQ3 HQ4 HQ5 HQ6 HQ7 HQ8 HQ9 HQ10 HQ11 HQ12 HQ13 H1 H2 H3 H4 Hw1 Hw2 Hw3 Hw4]
  · isplitr [H1 H2 H3 H4 Hw1 Hw2 Hw3 Hw4]
    · isplitl [HQ2]; · iexact HQ2
      isplitl [HQ3]; · iexact HQ3
      isplitl [HQ4]; · iexact HQ4
      isplitl [HQ5]; · iexact HQ5
      isplitl [HQ6]; · iexact HQ6
      isplitl [HQ7]; · iexact HQ7
      isplitl [HQ8]; · iexact HQ8
      isplitl [HQ9]; · iexact HQ9
      isplitl [HQ10]; · iexact HQ10
      isplitl [HQ11]; · iexact HQ11
      isplitl [HQ12]; · iexact HQ12
      iexact HQ13
    isplitl [H1 H2 H3 H4]
    · isplitl [H1]; · iexact H1
      isplitl [H2]; · iexact H2
      isplitl [H3]; · iexact H3
      iexact H4
    isplitl [Hw1]; · iexact Hw1
    isplitl [Hw2]; · iexact Hw2
    isplitl [Hw3]; · iexact Hw3
    iexact Hw4
  ihave Hr := (rh_split c r0) $$ Hr
  icases Hr with ⟨Hr0, Hr1, Hsp⟩
  ihave Hh := (Entails.of_eq (hid_split c (VV m c main_v0))) $$ Hh
  icases Hh with ⟨Hh0, Hh1⟩
  iapply (wp_wand_r frame (wpE (defs₀ (F := F)) Variants.none (c : Thread nD τ) none) Set.univ)
  isplitr [Hg Hsp]
  · iapply (bodyRun c (wts m c) stM (hstage0_0 0) (xC m c) (gainC m c) (VV m c main_v0))
    isplitl [Hx]; · iexact Hx
    isplitl [Hnm]; · iapply (Entails.of_eq (whole_own c nmH (View.set_whole _) (gainC m c))); iexact Hnm
    isplitl [Hn]; · iexists _; iapply (Entails.of_eq (whole_own c nmM (View.set_whole _) n0)); iexact Hn
    isplitl [Hp]; · iexists _; iapply (Entails.of_eq (whole_own c hpM (View.set_whole _) p0)); iexact Hp
    isplitl [HR]; · iexact HR
    isplitl [Hr0 Hr1 Hh0 Hh1]
    · iapply (show iprop(slotP c (VV m c main_v0) 0 ∗ slotP c (VV m c main_v0) 1) ⊢ slots c (VV m c main_v0) 0 from .rfl)
      unfold slotP
      isplitl [Hh0 Hr0]
      · isplitl [Hh0]; · iexact Hh0
        iexists _; iexact Hr0
      isplitl [Hh1]; · iexact Hh1
      iexists _; iexact Hr1
    isplitl [HQ1]; · iexact HQ1
    isplitl [HQ14]; · iexact HQ14
    iexact HW
  iintro %u ⟨Hx, Hnm, ⟨%n1, Hn⟩, ⟨%p1, Hp⟩, HR, HO0, HO1, HQ1, HQ14, HW⟩
  unfold outD
  icases HO0 with ⟨Hh0, Hr0⟩
  icases HO1 with ⟨Hh1, Hr1⟩
  ihave Hh0 := (Entails.of_eq (hid_own m c 0 (VV m c main_v0))) $$ Hh0
  ihave Hh1 := (Entails.of_eq (hid_own m c 1 (VV m c main_v0))) $$ Hh1
  ihave HR := (ring_out c (wts m c) f1 f2 f3 f4) $$ HR
  icases HR with ⟨⟨HQ2, HQ3, HQ4, HQ5, HQ6, HQ7, HQ8, HQ9, HQ10, HQ11, HQ12, HQ13⟩, ⟨H1, H2, H3, H4⟩, ⟨Hw1, Hw2, Hw3, Hw4⟩⟩
  ihave Hr := (rh_join c _ _ _) $$ [Hr0 Hr1 Hsp]
  · isplitl [Hr0]; · iexact Hr0
    isplitl [Hr1]; · iexact Hr1
    iexact Hsp
  isplitr [Hx HW]
  · isplitl [Hn H1 H2 H3 H4 Hr Hp]
    · isplitl [Hn]; · iexists _; iapply (Entails.of_eq (whole_own c nmM (View.set_whole _) n1).symm); iexact Hn
      isplitl [H1]; · iexact H1
      isplitl [H2]; · iexact H2
      isplitl [H3]; · iexact H3
      isplitl [H4]; · iexact H4
      isplitl [Hr]; · iexact Hr
      iexists _; iapply (Entails.of_eq (whole_own c hpM (View.set_whole _) p1).symm); iexact Hp
    isplitl [Hg]; · iexact Hg
    isplitr [Hnm Hw1 Hw2 Hw3 Hw4 Hh0 Hh1]
    · isplitl [HQ1]; · iexact HQ1
      isplitl [HQ2]; · iexact HQ2
      isplitl [HQ3]; · iexact HQ3
      isplitl [HQ4]; · iexact HQ4
      isplitl [HQ5]; · iexact HQ5
      isplitl [HQ6]; · iexact HQ6
      isplitl [HQ7]; · iexact HQ7
      isplitl [HQ8]; · iexact HQ8
      isplitl [HQ9]; · iexact HQ9
      isplitl [HQ10]; · iexact HQ10
      isplitl [HQ11]; · iexact HQ11
      isplitl [HQ12]; · iexact HQ12
      isplitl [HQ13]; · iexact HQ13
      iexact HQ14
    isplitr [Hh0 Hh1]
    · isplitl [Hnm]; · iapply (Entails.of_eq (whole_own c nmH (View.set_whole _) (gainC m c)).symm); iexact Hnm
      isplitl [Hw1]; · iexact Hw1
      isplitl [Hw2]; · iexact Hw2
      isplitl [Hw3]; · iexact Hw3
      iexact Hw4
    rw [GG_v0]
    iapply (Entails.of_eq (hid_split c (hidC m c)).symm)
    isplitl [Hh0]; · iexact Hh0
    iexact Hh1
  isplitl [Hx]; · iexact Hx
  iexact HW

theorem sound_body (c : Dev nD) (t : Fin cfg0.N) :
    bodyPre m c t ⊢ wp frame (wpE (defs₀ (F := F)) Variants.none (c : Thread nD τ) none) Set.univ (bodyK stM (hstage0_0 0)) (fun _ => bodyPost m c t) := by
  have ht : t.val = 0 := by have := t.isLt; have h1 : cfg0.N = 1 := Gen.N_0; omega
  unfold bodyPre bodyPost
  rw [show (dats m 0 c).Φ t.succ = Pipeline.ΦDRG osem0 spec0 H0 R0 (VV m) (GG m) c from PhiM_succ m c (t := t.val + 1) (Nat.succ_ne_zero t.val),
    show (dats m 0 c).Φ t.castSucc = Pipeline.ΦDRG osem0 spec0 H0 R0 (VV m) (VV m) c from PhiM_zero m c ht,
    after_eq, stage_own]
  unfold Dat.owesAt Pipeline.owesWithin
  rw [show (dats m 0 c).owed t.castSucc = 0 from rfl, show (dats m 0 c).owed t.succ = 0 from rfl]
  iintro ⟨HP, ⟨%W, -, HW⟩, ⟨%d0, H0⟩⟩
  rw [before_eq]
  ihave H0 := (Entails.of_eq (stage_own m c t)) $$ H0
  iapply (wp_wand_r frame (wpE (defs₀ (F := F)) Variants.none (c : Thread nD τ) none) Set.univ)
  isplitl
  · iapply (sound_core m c)
    isplitl [HP]; · iexact HP
    isplitl [H0]; · iexact H0
    iexists W; iexact HW
  iintro %u ⟨HP, Hx, %W', HW'⟩
  isplitl [HP]; · iexact HP
  isplitl [HW']
  · iexists W'; isplitr; · ipureintro; exact fun _ _ => Or.inl trivial
    iexact HW'
  iexact Hx

theorem defs₀_row (t : Fin cfg0.N) :
    defs₀ (F := F) .tc cfg0.body (cfg0.bodyArgs t (cfg0.slots t)) = bodyK stM (hstage0_0 0) := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hmain (𝒱₀ : Variants) : Pipeline.HMain (Ix := Unit) (Name := ℕ) (U := UU nD τ) (Lvl := ℕ) cfgs 0 defs₀ 𝒱₀ m (main (F := F)) (VV m) :=
  Pipeline.hmain_region cfgs 0 defs₀ 𝒱₀ m main fun c => (main_chain c).trans rfl

theorem run_main : θ_run defs (onTc (τ := τ) (main (F := F))) (s₀ m ρ) (fun r => Pipeline.FramePostRG cfgs (dats m) 0 R0 (VV m) (GG m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := VV m) (hmain := hmain m Variants.none) (hA := A_eq m) (G := GG m)
    (hin := fun c => Entails.of_eq (PhiM_zero m c rfl).symm)
    (hout := fun c => Entails.of_eq (PhiM_succ m c (show (Fin.last cfg0.N).val ≠ 0 from by rw [Fin.val_last]; exact Nat.ne_of_gt (by rw [show cfg0.N = grid0.N from rfl, N_0]; decide))))

/-- The kernel ends, at any launch: its arguments as they were, every semaphore at zero, and the result `hidC`. -/
theorem kernel_ends : θ_run defs (onTc (τ := τ) (main (F := F))) ⟨m, fun _ => 0, ρ⟩ (fun r => (∀ c : Dev nD,
      r.2.mem ((c.tc : Thread nD τ).loc main_v0) = hidC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      (h.1.2 c main_v0 (by decide)).trans (GG_v0 m c),
      ((h.1.1 c).1 0).trans (((dats m 0 c).arrAt_in 0 rfl _).trans (A_eq m c 0)),
      (h.1.1 c).2 main_arg1 (Finset.mem_sdiff.mpr ⟨Pipeline.mem_restRefs_of main_arg1 (by decide) (by decide), by decide⟩),
      (h.1.1 c).2 main_arg2 (Finset.mem_sdiff.mpr ⟨Pipeline.mem_restRefs_of main_arg2 (by decide) (by decide), by decide⟩),
      (h.1.1 c).2 main_arg3 (Finset.mem_sdiff.mpr ⟨Pipeline.mem_restRefs_of main_arg3 (by decide) (by decide), by decide⟩),
      (h.1.1 c).2 main_arg4 (Finset.mem_sdiff.mpr ⟨Pipeline.mem_restRefs_of main_arg4 (by decide) (by decide), by decide⟩),
      (h.1.1 c).2 main_arg5 (Finset.mem_sdiff.mpr ⟨Pipeline.mem_restRefs_of main_arg5 (by decide) (by decide), by decide⟩)⟩, h.2⟩) (run_main m ρ)

end Cert.Proof.Mlp

end
-- ==== Proof.Same.lean ====
/-
  The kernel as printed for bits and the kernel as printed for the reals are one program: the two files differ in their
  names only, since no operation was replaced between them. What is proved of the one at any float type holds of the other.
-/
module

public import proofs.«01_k».proof.Kernel
public import proofs.«01_k».proof.KernelIdeal

@[expose] public section

set_option maxRecDepth 100000
set_option backward.isDefEq.respectTransparency.types false

noncomputable section

namespace Cert.Proof.Mlp

open Idealize.ShloMosaic

variable {F : FTy → Type} [FloatOps F] [Cert.Kernel.Facts] [Cert.KernelIdeal.Facts]

theorem same_body : Cert.Kernel.cc0_tree_verify (F := F) = Cert.KernelIdeal.cc0_tree_verify (F := F) := by rfl
theorem same_defs₀ : Cert.Kernel.defs₀ (F := F) = Cert.KernelIdeal.defs₀ (F := F) := by
  refine congrArg Defs.onTc ?_
  funext l a
  match l, a with
  | 0, (t, s) => rfl
  | ⟨_ + 1, h⟩, _ => exact absurd h (Nat.not_lt.2 (Nat.le_add_left _ _))
theorem same_main : Cert.Kernel.main (F := F) = Cert.KernelIdeal.main (F := F) := by rfl
theorem same_defs : Cert.Kernel.defs (F := F) = Cert.KernelIdeal.defs (F := F) :=
  congrArg (Pipeline.defs (Cert.KernelIdeal.pcfgs (F := F))) same_defs₀

end Cert.Proof.Mlp

end
-- ==== Proof.Frames.lean ====
/-
  The three frames: the kernel at the bit-exact values, the same kernel at the ideal values, and the reference.
-/
module

public import proofs.«01_k».proof.Defs
public import proofs.«01_k».proof.Proof.Run
public import proofs.«01_k».proof.Proof.Same
public import proofs.«01_k».proof.Proof.Gen.Kernel
public import proofs.«01_k».proof.Proof.Gen.ReferenceIdeal
public import proofs.«01_k».proof.Proof.Gen.ReferenceIdeal.Run

@[expose] public section

namespace Cert.Proof.Mlp

open Idealize.ShloMosaic Idealize.SL.Sem

theorem frame_ideal : Cert.quiescent_KernelIdeal (hKernelIdeal := Cert.KernelIdeal.Gen.facts) := fun m g _ =>
  (θ_run _ _ _).mono (fun _ h => ⟨fun c => (h.1 c).2, h.2⟩) (kernel_ends (F := Ideal) m g)

theorem frame_bits : Cert.quiescent_Kernel (hKernel := Cert.Kernel.Gen.facts) := fun m g _ => by
  rw [same_defs, same_main]
  exact (θ_run _ _ _).mono (fun _ h => ⟨fun c => (h.1 c).2, h.2⟩) (kernel_ends (F := Bits) m g)

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof.Mlp
-- ==== Proof.Spec.lean ====
/-
  The feed-forward layer as plain arithmetic on extended reals, its arrays read at natural numbers, and the few facts on sums that
  take the kernel's order of summation to the reference's.
-/
module

public import Idealize.ShloMosaic.Lib.StackMember
public import Idealize.ShloMosaic.Lib.Pipeline.Value
public import Idealize.ShloMosaic.PureOps.Ideal

@[expose] public section

set_option backward.isDefEq.respectTransparency.types false

noncomputable section

namespace Cert.Proof.Mlp

open Idealize.ShloMosaic Idealize.ShloMosaic.ValueIdx
open scoped BigOperators

/-! ## Arrays read at natural numbers -/

def at2 {a b : ℕ} [NeZero a] [NeZero b] {α : Type} (V : (⟨2, ![a, b]⟩ : Shape).Idx → α) (i j : ℕ) : α :=
  V (ix2 (Fin.ofNat a i) (Fin.ofNat b j))
def at3 {a b c : ℕ} [NeZero a] [NeZero b] [NeZero c] {α : Type} (V : (⟨3, ![a, b, c]⟩ : Shape).Idx → α) (i j k : ℕ) : α :=
  V (ix3 (Fin.ofNat a i) (Fin.ofNat b j) (Fin.ofNat c k))

theorem at2_eq {a b : ℕ} [NeZero a] [NeZero b] {α : Type} (V : (⟨2, ![a, b]⟩ : Shape).Idx → α) (x : (⟨2, ![a, b]⟩ : Shape).Idx) (i j : ℕ)
    (h0 : (x 0).val = i) (h1 : (x 1).val = j) : V x = at2 V i j := by
  subst h0 h1
  refine congrArg V (funext fun d => ?_)
  match d with
  | ⟨0, _⟩ => exact Fin.ext (Nat.mod_eq_of_lt (x 0).isLt).symm
  | ⟨1, _⟩ => exact Fin.ext (Nat.mod_eq_of_lt (x 1).isLt).symm
theorem at3_eq {a b c : ℕ} [NeZero a] [NeZero b] [NeZero c] {α : Type} (V : (⟨3, ![a, b, c]⟩ : Shape).Idx → α)
    (x : (⟨3, ![a, b, c]⟩ : Shape).Idx) (i j k : ℕ) (h0 : (x 0).val = i) (h1 : (x 1).val = j) (h2 : (x 2).val = k) : V x = at3 V i j k := by
  subst h0 h1 h2
  refine congrArg V (funext fun d => ?_)
  match d with
  | ⟨0, _⟩ => exact Fin.ext (Nat.mod_eq_of_lt (x 0).isLt).symm
  | ⟨1, _⟩ => exact Fin.ext (Nat.mod_eq_of_lt (x 1).isLt).symm
  | ⟨2, _⟩ => exact Fin.ext (Nat.mod_eq_of_lt (x 2).isLt).symm

/-! ## The layer -/

/-- The four-bit code of half `h` of a byte: the low half at `0`, the high one at `1`. -/
def code (h : ℕ) (b : BitVec 8) : EReal :=
  ((((if h = 0 then b.setWidth 32 &&& 15#32 else (b.setWidth 32).sshiftRight' 4#32) - 8#32).toInt : ℝ) : EReal)

/-- Entry `ρ` of one half of a product by packed weights: byte `ρ` holds the codes of rows `32 (ρ / 16) + ρ % 16` and, sixteen
    further on, of its other half. -/
def term (a : ℕ → EReal) (w : ℕ → BitVec 8) (s : ℕ → EReal) (ρ h : ℕ) : EReal :=
  a (32 * (ρ / 16) + 16 * h + ρ % 16) * (code h (w ρ) * s (ρ / 16))
/-- A row times a column of packed weights of `G` groups. -/
def lin (G : ℕ) (a : ℕ → EReal) (w : ℕ → BitVec 8) (s : ℕ → EReal) : EReal :=
  (∑ ρ ∈ Finset.range (16 * G), term a w s ρ 0) + ∑ ρ ∈ Finset.range (16 * G), term a w s ρ 1

/-- Which lane is moved to position `o`. -/
def perm (o : ℕ) : ℕ := 32 * (o / 32) + (o % 32) / 2 + 16 * (o % 2)

/-- The same product in the order of the rows as unpacked: position `o` is half `o % 2` of byte `o / 2`. -/
def term' (a : ℕ → EReal) (w : ℕ → BitVec 8) (s : ℕ → EReal) (o : ℕ) : EReal :=
  a (perm o) * (code (o % 2) (w (o / 2)) * s (o / 32))

theorem sum_pairs (n : ℕ) (f : ℕ → ℕ → EReal) :
    ∑ o ∈ Finset.range (2 * n), f (o / 2) (o % 2) = (∑ ρ ∈ Finset.range n, f ρ 0) + ∑ ρ ∈ Finset.range n, f ρ 1 := by
  induction n with
  | zero => simp
  | succ n ih =>
    have e : 2 * (n + 1) = 2 * n + 1 + 1 := by omega
    have a1 : 2 * n / 2 = n := by omega
    have a2 : 2 * n % 2 = 0 := by omega
    have a3 : (2 * n + 1) / 2 = n := by omega
    have a4 : (2 * n + 1) % 2 = 1 := by omega
    rw [e, Finset.sum_range_succ, Finset.sum_range_succ, ih, Finset.sum_range_succ, Finset.sum_range_succ, a1, a2, a3, a4]
    rw [add_assoc, add_add_add_comm]

theorem sum_term' (G : ℕ) (a : ℕ → EReal) (w : ℕ → BitVec 8) (s : ℕ → EReal) :
    ∑ o ∈ Finset.range (32 * G), term' a w s o = lin G a w s := by
  have e : 32 * G = 2 * (16 * G) := by omega
  rw [e]
  refine Eq.trans (Finset.sum_congr rfl fun o _ => ?_) (sum_pairs (16 * G) (term a w s))
  have h1 : perm o = 32 * (o / 2 / 16) + 16 * (o % 2) + o / 2 % 16 := by unfold perm; omega
  have h2 : o / 32 = o / 2 / 16 := by omega
  unfold term' term
  rw [h1, h2]

/-- A sum over `n` blocks of `k`. -/
theorem sum_blocks (n k : ℕ) (g : ℕ → EReal) :
    ∑ q ∈ Finset.range n, ∑ r ∈ Finset.range k, g (k * q + r) = ∑ o ∈ Finset.range (k * n), g o := by
  induction n with
  | zero => simp
  | succ n ih =>
    rw [Finset.sum_range_succ, ih, Nat.mul_succ, Finset.sum_range_add]

/-- A sum over lanes of `n` blocks added up lane by lane. -/
theorem sum_lanes (n k : ℕ) (g : ℕ → EReal) :
    ∑ r ∈ Finset.range k, ∑ q ∈ Finset.range n, g (k * q + r) = ∑ o ∈ Finset.range (k * n), g o := by
  rw [Finset.sum_comm, sum_blocks]

/-- The reciprocal root mean square of a row. -/
def rinv (r : ℕ → EReal) : EReal :=
  Ideal.div (Ideal.ofBits .f32 0x3F800000#32)
    (Ideal.sqrt ((∑ j ∈ Finset.range 2048, r j * r j) * Ideal.ofBits .f32 0x3A000000#32 + Ideal.ofBits .f32 0x3727C5AC#32))
/-- A normalized row. -/
def hn (r g : ℕ → EReal) (j : ℕ) : EReal := r j * rinv r * g j

/-- A gated pair. -/
def gate (g u : EReal) : EReal := g * Ideal.logistic g * u

/-- One layer's row `r` with gains `g`, gate and up weights `w`, `s` and down weights `wd`, `sd`, at column `x`. -/
def layer (r g : ℕ → EReal) (w : ℕ → ℕ → BitVec 8) (s : ℕ → ℕ → EReal) (wd : ℕ → ℕ → BitVec 8) (sd : ℕ → ℕ → EReal) (x : ℕ) : EReal :=
  r x + lin 176 (fun j => gate (lin 64 (hn r g) (fun ρ => w ρ j) (fun ρ => s ρ j)) (lin 64 (hn r g) (fun ρ => w ρ (5632 + j)) (fun ρ => s ρ (5632 + j))))
    (fun ρ => wd ρ x) (fun ρ => sd ρ x)

/-! ## The two ways to normalize -/

theorem mul_self_nonneg' (x : EReal) : 0 ≤ x * x := by
  rcases le_total 0 x with h | h
  · exact mul_nonneg h h
  · have h' : 0 ≤ -x := EReal.neg_nonneg.mpr h
    have := mul_nonneg h' h'
    rwa [neg_mul_neg] at this

theorem ofBits_one : Ideal.ofBits .f32 0x3F800000#32 = 1 := by
  simp [Ideal.ofBits, Ideal.ieee]
  rw [← EReal.coe_mul]; norm_num
theorem ofBits_2048 : Ideal.ofBits .f32 0x45000000#32 = ((2048 : ℝ) : EReal) := by
  simp [Ideal.ofBits, Ideal.ieee]
  rw [← EReal.coe_mul]; norm_num
theorem ofBits_inv2048 : Ideal.ofBits .f32 0x3A000000#32 = ((1 / 2048 : ℝ) : EReal) := by
  simp [Ideal.ofBits, Ideal.ieee]
  rw [← EReal.coe_mul]; norm_num
theorem ofBits_eps : ∃ e : ℝ, 0 < e ∧ Ideal.ofBits .f32 0x3727C5AC#32 = (e : EReal) := by
  refine ⟨_, ?_, by simp [Ideal.ofBits, Ideal.ieee]; rfl⟩
  positivity

theorem sqrt_ne_zero (v : EReal) (hv : 0 < v) : Ideal.sqrt v ≠ 0 := by
  induction v with
  | bot => exact absurd hv (by simp)
  | top =>
    show (⊤ : EReal) ≠ 0
    simp
  | coe r =>
    have hr : 0 < r := by exact_mod_cast hv
    have : 0 < Real.sqrt r := Real.sqrt_pos.mpr hr
    show (if r < 0 then ⊥ else ((Real.sqrt r : ℝ) : EReal)) ≠ 0
    rw [if_neg (not_lt.mpr hr.le)]
    exact_mod_cast this.ne'

/-- Dividing by the root mean square is multiplying by its reciprocal. -/
theorem rms_eq (r : ℕ → EReal) (x : EReal) :
    Ideal.div x (Ideal.sqrt (Ideal.div (∑ j ∈ Finset.range 2048, r j * r j) (Ideal.ofBits .f32 0x45000000#32) + Ideal.ofBits .f32 0x3727C5AC#32))
      = x * rinv r := by
  have h1 : Ideal.div (∑ j ∈ Finset.range 2048, r j * r j) (Ideal.ofBits .f32 0x45000000#32)
      = (∑ j ∈ Finset.range 2048, r j * r j) * Ideal.ofBits .f32 0x3A000000#32 := by
    rw [ofBits_2048, ofBits_inv2048]; exact Ideal.div_coe (by norm_num) _
  obtain ⟨e, he, hE⟩ := ofBits_eps
  have h2 : 0 ≤ (∑ j ∈ Finset.range 2048, r j * r j) * Ideal.ofBits .f32 0x3A000000#32 := by
    refine mul_nonneg (Finset.sum_nonneg fun j _ => mul_self_nonneg' _) ?_
    rw [ofBits_inv2048]; exact_mod_cast (by norm_num : (0 : ℝ) ≤ 1 / 2048)
  have h3 : Ideal.sqrt ((∑ j ∈ Finset.range 2048, r j * r j) * Ideal.ofBits .f32 0x3A000000#32 + Ideal.ofBits .f32 0x3727C5AC#32) ≠ 0 := by
    refine sqrt_ne_zero _ ?_
    rw [hE]
    have h4 : (0 : EReal) < (e : EReal) := by exact_mod_cast he
    exact lt_of_lt_of_le h4 (le_add_of_nonneg_left h2)
  unfold rinv
  rw [h1, ofBits_one]
  unfold Ideal.div
  rw [if_neg h3, if_neg h3, one_mul]

end Cert.Proof.Mlp
-- ==== Proof.RefOps.lean ====
/-
  The operations of the reference read at an index: one half of a product by packed weights, the normalized input, the gate.
-/
module

public import proofs.«01_k».proof.Proof.Spec
public import Idealize.ShloMosaic.Lib.Pointwise

@[expose] public section

set_option backward.isDefEq.respectTransparency.types false

noncomputable section

namespace Cert.Proof.Mlp

open Idealize.ShloMosaic hiding ix0 ix1 ix2 ix3 ix4
open Idealize.ShloMosaic.ValueIdx
open scoped BigOperators

/-- One half of a product by packed weights. -/
theorem half_apply {G K N : ℕ} (hK : K = 16 * G) (A : FVec Ideal ⟨4, ![80, G, 2, 16]⟩ .bf16) (C : FVec Ideal ⟨2, ![K, N]⟩ .bf16)
    (S : FVec Ideal ⟨2, ![G, N]⟩ .bf16) (d : DotDims ⟨2, ![80, K]⟩ ⟨2, ![K, N]⟩ ⟨2, ![80, N]⟩) (hd : d = DotDims.plain 80 K N)
    (h : ℕ) (hh : h < 2) (off : Fin 4 → ℕ) (hoff : off = ![0, 0, h, 0]) (s1 c1 c2 c3 b1 b2 c4)
    (p : Fin 80) (x : Fin N) (a : ℕ → EReal) (w : ℕ → BitVec 8) (s : ℕ → EReal)
    (hA : ∀ (g : Fin G) (r : Fin 16), A (ix4 p g ⟨h, hh⟩ r) = a (32 * g.val + 16 * h + r.val))
    (hC : ∀ ρ : Fin K, C (ix2 ρ x) = code h (w ρ.val)) (hS : ∀ g : Fin G, S (ix2 g x) = s g.val) :
    Host.dotGeneral d none
      (shapeCast ⟨2, ![80, K]⟩ (shapeCast ⟨3, ![80, G, 16]⟩ (extractStridedSlice ⟨4, ![80, G, 1, 16]⟩ off A s1) c1) c2)
      (shapeCast ⟨2, ![K, N]⟩ (mulf (shapeCast ⟨3, ![G, 16, N]⟩ C c3)
        (broadcastInDim ⟨3, ![G, 16, N]⟩ ![0, 1, 2] b1 (broadcastInDim ⟨3, ![G, 1, N]⟩ ![0, 2] b2 S))) c4) (ix2 p x)
      = ∑ ρ ∈ Finset.range K, term a w s ρ h := by
  subst hd hoff
  rw [StackMember.dotGeneral_plain_apply, Finset.sum_range]
  refine Finset.sum_congr rfl fun ρ _ => ?_
  have hρ : ρ.val / 16 < G := by have := ρ.isLt; omega
  have hm : ρ.val % 16 < 16 := Nat.mod_lt _ (by decide)
  have dm := Nat.div_add_mod ρ.val 16
  have e1 : shapeCast ⟨2, ![80, K]⟩ (shapeCast ⟨3, ![80, G, 16]⟩ (extractStridedSlice ⟨4, ![80, G, 1, 16]⟩ ![0, 0, h, 0] A s1) c1) c2 (ix2 p ρ)
      = a (32 * (ρ.val / 16) + 16 * h + ρ.val % 16) := by
    rw [shapeCast_apply _ c2 (ix2 p ρ) (ix3 p ⟨ρ.val / 16, hρ⟩ ⟨ρ.val % 16, hm⟩) (by
        rw [Shape.rowMajor_val_two, Shape.rowMajor_val_three]
        show (p.val * G + ρ.val / 16) * 16 + ρ.val % 16 = p.val * K + ρ.val
        subst hK
        have : p.val * (16 * G) = 16 * (p.val * G) := by ring
        omega),
      shapeCast_apply _ c1 _ (ix4 p ⟨ρ.val / 16, hρ⟩ ⟨0, Nat.one_pos⟩ ⟨ρ.val % 16, hm⟩) (by
        rw [Shape.rowMajor_val_four, Shape.rowMajor_val_three]
        show ((p.val * G + ρ.val / 16) * 1 + 0) * 16 + ρ.val % 16 = (p.val * G + ρ.val / 16) * 16 + ρ.val % 16
        omega),
      extractStridedSlice_apply _ A s1 _ (ix4 p ⟨ρ.val / 16, hρ⟩ ⟨h, hh⟩ ⟨ρ.val % 16, hm⟩) (by
        intro b
        match b with
        | ⟨0, _⟩ => show p.val = 0 + p.val; omega
        | ⟨1, _⟩ => show ρ.val / 16 = 0 + ρ.val / 16; omega
        | ⟨2, _⟩ => show h = h + 0; omega
        | ⟨3, _⟩ => show ρ.val % 16 = 0 + ρ.val % 16; omega)]
    exact hA _ _
  have e2 : shapeCast ⟨2, ![K, N]⟩ (mulf (shapeCast ⟨3, ![G, 16, N]⟩ C c3)
        (broadcastInDim ⟨3, ![G, 16, N]⟩ ![0, 1, 2] b1 (broadcastInDim ⟨3, ![G, 1, N]⟩ ![0, 2] b2 S))) c4 (ix2 ρ x)
      = code h (w ρ.val) * s (ρ.val / 16) := by
    have ej : ((⟨3, ![G, 16, N]⟩ : Shape).rowMajor (ix3 ⟨ρ.val / 16, hρ⟩ ⟨ρ.val % 16, hm⟩ x)).val = ((⟨2, ![K, N]⟩ : Shape).rowMajor (ix2 ρ x)).val := by
      rw [Shape.rowMajor_val_two, Shape.rowMajor_val_three]
      show (ρ.val / 16 * 16 + ρ.val % 16) * N + x.val = ρ.val * N + x.val
      have : ρ.val / 16 * 16 + ρ.val % 16 = ρ.val := by omega
      rw [this]
    rw [shapeCast_apply _ c4 (ix2 ρ x) (ix3 ⟨ρ.val / 16, hρ⟩ ⟨ρ.val % 16, hm⟩ x) ej]
    show shapeCast ⟨3, ![G, 16, N]⟩ C c3 _ * broadcastInDim ⟨3, ![G, 16, N]⟩ ![0, 1, 2] b1 (broadcastInDim ⟨3, ![G, 1, N]⟩ ![0, 2] b2 S) _ = _
    rw [shapeCast_apply C c3 _ (ix2 ρ x) ej.symm, hC,
      broadcastInDim_apply _ b1 _ _ (ix3 ⟨ρ.val / 16, hρ⟩ ⟨0, Nat.one_pos⟩ x) (by
        have hx := x.isLt
        intro b
        match b with
        | ⟨0, _⟩ => show ρ.val / 16 = if G = 1 then 0 else ρ.val / 16; split_ifs <;> omega
        | ⟨1, _⟩ => rfl
        | ⟨2, _⟩ => show x.val = if N = 1 then 0 else x.val; split_ifs <;> omega),
      broadcastInDim_apply _ b2 S _ (ix2 ⟨ρ.val / 16, hρ⟩ x) (by
        have hx := x.isLt
        intro b
        match b with
        | ⟨0, _⟩ => show ρ.val / 16 = if G = 1 then 0 else ρ.val / 16; split_ifs <;> omega
        | ⟨1, _⟩ => show x.val = if N = 1 then 0 else x.val; split_ifs <;> omega), hS]
  rw [e1, e2]
  rfl

/-- A bare number spread over an array. -/
theorem splat_apply {t : Shape} {α : Type} (dims : Fin 0 → Fin t.rank) (b) (v : (⟨0, ![]⟩ : Shape).Idx → α) (j : t.Idx) :
    broadcastInDim t dims b v j = v ix0 :=
  broadcastInDim_apply dims b v j ix0 (fun a => a.elim0)

/-- The normalized input, its columns cut into groups of two halves. -/
theorem norm_apply (X : FVec Ideal ⟨2, ![80, 2048]⟩ .f32) (Gn : FVec Ideal ⟨1, ![2048]⟩ .f32) (r1 r2 b0 b3 b4 b5 b6 b7 bt c1)
    (p : Fin 80) (r g : ℕ → EReal) (hX : ∀ j : Fin 2048, X (ix2 p j) = r j.val) (hG : ∀ j : Fin 2048, Gn (ix1 j) = g j.val)
    (gr : Fin 64) (h : Fin 2) (q : Fin 16) :
    (shapeCast ⟨4, ![80, 64, 2, 16]⟩ (truncf .bf16 (mulf (Host.divf X (broadcastInDim ⟨2, ![80, 2048]⟩ ![0, 1] b0 (Host.sqrt (addf (Host.divf (broadcastInDim ⟨2, ![80, 1]⟩ ![0] b3 (Host.reduceAdd (axes := [1]) (t := ⟨1, ![80]⟩) (mulf X X) (constant ⟨0, ![]⟩ .f32 0x00000000#32) r1 r2)) (broadcastInDim ⟨2, ![80, 1]⟩ ![] b4 (constant ⟨0, ![]⟩ .f32 0x45000000#32))) (broadcastInDim ⟨2, ![80, 1]⟩ ![] b5 (constant ⟨0, ![]⟩ .f32 0x3727C5AC#32)))))) (broadcastInDim ⟨2, ![80, 2048]⟩ ![0, 1] b6 (broadcastInDim ⟨2, ![1, 2048]⟩ ![1] b7 Gn))) bt) c1
      : FVec Ideal ⟨4, ![80, 64, 2, 16]⟩ .bf16) (ix4 p gr h q) = hn r g (32 * gr.val + 16 * h.val + q.val) := by
  have hb : 32 * gr.val + 16 * h.val + q.val < 2048 := by have := gr.isLt; have := h.isLt; have := q.isLt; omega
  rw [shapeCast_apply _ c1 _ (ix2 p ⟨32 * gr.val + 16 * h.val + q.val, hb⟩) (by
    rw [Shape.rowMajor_val_two, Shape.rowMajor_val_four]
    show p.val * 2048 + (32 * gr.val + 16 * h.val + q.val) = ((p.val * 64 + gr.val) * 2 + h.val) * 16 + q.val
    omega)]
  generalize hj : (⟨32 * gr.val + 16 * h.val + q.val, hb⟩ : Fin 2048) = j
  have hj' : 32 * gr.val + 16 * h.val + q.val = j.val := by rw [← hj]
  rw [hj']
  have key : ∀ (Y : FVec Ideal ⟨2, ![80, 1]⟩ .f32) (Z : FVec Ideal ⟨2, ![1, 2048]⟩ .f32),
      (truncf .bf16 (mulf (Host.divf X (broadcastInDim ⟨2, ![80, 2048]⟩ ![0, 1] b0 Y)) (broadcastInDim ⟨2, ![80, 2048]⟩ ![0, 1] b6 Z)) bt : FVec Ideal ⟨2, ![80, 2048]⟩ .bf16) (ix2 p j)
        = Ideal.div (X (ix2 p j)) (Y (ix2 p ⟨0, Nat.one_pos⟩)) * Z (ix2 ⟨0, Nat.one_pos⟩ j) := fun Y Z => by
    refine congrArg₂ (fun y z : EReal => Ideal.div (X (ix2 p j)) y * z) (broadcastInDim_apply ![0, 1] b0 Y (ix2 p j) (ix2 p ⟨0, Nat.one_pos⟩) ?_)
      (broadcastInDim_apply ![0, 1] b6 Z (ix2 p j) (ix2 ⟨0, Nat.one_pos⟩ j) ?_)
    all_goals
      intro b
      match b with
      | ⟨0, _⟩ => rfl
      | ⟨1, _⟩ => rfl
  have key2 : ∀ (T : FVec Ideal ⟨1, ![80]⟩ .f32) (c d : FVec Ideal ⟨0, ![]⟩ .f32),
      (Host.sqrt (addf (Host.divf (broadcastInDim ⟨2, ![80, 1]⟩ ![0] b3 T) (broadcastInDim ⟨2, ![80, 1]⟩ ![] b4 c)) (broadcastInDim ⟨2, ![80, 1]⟩ ![] b5 d)) : FVec Ideal ⟨2, ![80, 1]⟩ .f32) (ix2 p ⟨0, Nat.one_pos⟩)
        = Ideal.sqrt (Ideal.div (T (ix1 p)) (c ix0) + d ix0) := fun T c d => by
    have e1 := broadcastInDim_apply ![0] b3 T (ix2 p ⟨0, Nat.one_pos⟩) (ix1 p) (by
      intro b
      match b with
      | ⟨0, _⟩ => rfl)
    have e2 := splat_apply ![] b4 c (ix2 p ⟨0, Nat.one_pos⟩)
    have e3 := splat_apply ![] b5 d (ix2 p ⟨0, Nat.one_pos⟩)
    rw [← e1, ← e2, ← e3]
    rfl
  rw [key, key2, broadcastInDim_apply ![1] b7 Gn (ix2 ⟨0, Nat.one_pos⟩ j) (ix1 j) (by
      intro b
      match b with
      | ⟨0, _⟩ => rfl), hG, hX]
  have hs : Host.reduceAdd (axes := [1]) (t := ⟨1, ![80]⟩) (mulf X X) (constant ⟨0, ![]⟩ .f32 0x00000000#32) r1 r2 (ix1 p)
      = ∑ k ∈ Finset.range 2048, r k * r k := by
    rw [Host.reduceAdd_apply, Ideal.hostReduceAdd_def, Ideal.hostReduceAdd_r2_a1, Finset.sum_range]
    have hz : (constant ⟨0, ![]⟩ .f32 0x00000000#32 : FVec Ideal ⟨0, ![]⟩ .f32) (Shape.Idx.first r2) = 0 := Ideal.ofBits_zero_f32
    rw [hz, zero_add]
    refine Finset.sum_congr rfl fun k _ => ?_
    show X _ * X _ = _
    have hk := hX k
    exact congrArg₂ (· * ·) hk hk
  rw [hs]
  show Ideal.div (r j.val) (Ideal.sqrt (Ideal.div _ (Ideal.ofBits .f32 0x45000000#32) + Ideal.ofBits .f32 0x3727C5AC#32)) * _ = _
  rw [rms_eq]
  rfl

end Cert.Proof.Mlp
-- ==== Proof.KerOps.lean ====
/-
  The operations of the kernel read at an index, over the reals: a tile widened, the lanes reordered, the reciprocal root mean
  square, one pass of a matrix unit, the gate.
-/
module

public import proofs.«01_k».proof.Proof.State
public import proofs.«01_k».proof.Proof.RefOps

@[expose] public section

set_option backward.isDefEq.respectTransparency.types false

noncomputable section

namespace Cert.Proof.Mlp

open Cert.KernelIdeal Cert.KernelIdeal.Gen
open Idealize.ShloMosaic hiding ix0 ix1 ix2 ix3 ix4
open Idealize.ShloMosaic.ValueIdx
open scoped BigOperators

/-! ## One pass -/

theorem pass_apply (a : Lhs Ideal) (t : Til Ideal) (p : Fin 80) (x : Fin 256) :
    pass a t (ix2 p x) = ∑ κ : Fin 256, a (ix2 p κ) * t (ix2 κ x) := by
  show (∑ k : (DotDims.plain 80 256 256).contr.Idx, a ((DotDims.plain 80 256 256).lhsIdx (ix2 p x) k) * t ((DotDims.plain 80 256 256).rhsIdx (ix2 p x) k)) = _
  rw [← Equiv.sum_comp (contrEquiv1 (DotDims.plain 80 256 256) 256 rfl rfl).symm]
  refine Finset.sum_congr rfl fun c _ => ?_
  have c2 := contrEquiv1_symm_val (DotDims.plain 80 256 256) 256 rfl rfl c
  have l2 : (DotDims.plain 80 256 256).lhsIdx (ix2 p x) ((contrEquiv1 _ 256 rfl rfl).symm c) = ix2 p c := by
    funext ax; apply Fin.ext
    match ax with
    | ⟨0, _⟩ => simp [DotDims.lhsIdx, DotDims.plain]; rfl
    | ⟨1, _⟩ => simp [DotDims.lhsIdx, DotDims.plain]; exact c2
  have r2 : (DotDims.plain 80 256 256).rhsIdx (ix2 p x) ((contrEquiv1 _ 256 rfl rfl).symm c) = ix2 c x := by
    funext ax; apply Fin.ext
    match ax with
    | ⟨0, _⟩ => simp [DotDims.rhsIdx, DotDims.plain]; exact c2
    | ⟨1, _⟩ => simp [DotDims.rhsIdx, DotDims.plain]; rfl
  rw [l2, r2]

/-- A row's pass, its terms given as one block of a longer sum. -/
theorem pass_range (a : Lhs Ideal) (t : Til Ideal) (p : Fin 80) (x : Fin 256) (f : ℕ → EReal)
    (h : ∀ κ : Fin 256, a (ix2 p κ) * t (ix2 κ x) = f κ.val) : pass a t (ix2 p x) = ∑ κ ∈ Finset.range 256, f κ := by
  rw [pass_apply, Finset.sum_range]
  exact Finset.sum_congr rfl fun κ _ => h κ

/-! ## A tile widened -/

theorem tile_apply (w : Vec Ideal S128x256 .i8) (s : Vec Ideal S8x256 .bf16) (κ x : Fin 256) :
    tile w s (ix2 κ x) = code (κ.val % 2) (w (ix2 ⟨κ.val / 2, by omega⟩ x)) * s (ix2 ⟨κ.val / 32, by omega⟩ x) := by
  have hκ := κ.isLt
  unfold tile k0_pay120
  refine congrArg₂ (fun u v : EReal => u * v) ?_ ?_
  · -- the codes
    have key : ∀ (Y : IVec S128x2x256 32) (v : BitVec 32), Y (ix3 ⟨κ.val / 2, by omega⟩ ⟨κ.val % 2, Nat.mod_lt _ (by decide)⟩ x) = v →
        (sitofp .bf16 (subi (shapeCast S256x256 Y shapeCasts_S128x2x256_S256x256) (broadcast S256x256 8#32)) : FVec Ideal S256x256 .bf16) (ix2 κ x)
          = (((v - 8#32).toInt : ℝ) : EReal) := fun Y v hv => by
      have e := shapeCast_apply Y shapeCasts_S128x2x256_S256x256 (ix2 κ x) (ix3 ⟨κ.val / 2, by omega⟩ ⟨κ.val % 2, Nat.mod_lt _ (by decide)⟩ x) (by
        rw [Shape.rowMajor_val_two, Shape.rowMajor_val_three]
        show (κ.val / 2 * 2 + κ.val % 2) * 256 + x.val = κ.val * 256 + x.val
        omega)
      rw [← hv, ← e]
      rfl
    rw [code]
    refine key _ _ ?_
    rcases Nat.mod_two_eq_zero_or_one κ.val with h0 | h1
    · rw [if_pos h0, concatenate_pair_apply_left (t := S128x2x256) (s₁ := S128x1x256) (s₂ := S128x1x256) 1 _ _ _ _ rfl (ix3 ⟨κ.val / 2, by omega⟩ ⟨0, Nat.one_pos⟩ x) (by
        intro b
        match b with
        | ⟨0, _⟩ => rfl
        | ⟨1, _⟩ => exact h0.symm
        | ⟨2, _⟩ => rfl),
        shapeCast_apply _ shapeCasts_S128x256_S128x1x256 _ (ix2 ⟨κ.val / 2, by omega⟩ x) (by
          rw [Shape.rowMajor_val_two, Shape.rowMajor_val_three]
          show κ.val / 2 * 256 + x.val = (κ.val / 2 * 1 + 0) * 256 + x.val
          omega)]
      rfl
    · rw [if_neg (by omega), concatenate_pair_apply_right (t := S128x2x256) (s₁ := S128x1x256) (s₂ := S128x1x256) 1 _ _ _ _ rfl rfl (ix3 ⟨κ.val / 2, by omega⟩ ⟨0, Nat.one_pos⟩ x) (by
        intro b hb
        match b with
        | ⟨0, _⟩ => rfl
        | ⟨1, _⟩ => exact absurd rfl hb
        | ⟨2, _⟩ => rfl) (by show 0 + 1 = κ.val % 2; omega),
        shapeCast_apply _ shapeCasts_S128x256_S128x1x256 _ (ix2 ⟨κ.val / 2, by omega⟩ x) (by
          rw [Shape.rowMajor_val_two, Shape.rowMajor_val_three]
          show κ.val / 2 * 256 + x.val = (κ.val / 2 * 1 + 0) * 256 + x.val
          omega)]
      rfl
  · -- the scales
    have hm : κ.val % 32 < 32 := Nat.mod_lt _ (by decide)
    rw [shapeCast_apply _ shapeCasts_S8x32x256_S256x256 (ix2 κ x) (ix3 ⟨κ.val / 32, by omega⟩ ⟨κ.val % 32, hm⟩ x) (by
        rw [Shape.rowMajor_val_two, Shape.rowMajor_val_three]
        show (κ.val / 32 * 32 + κ.val % 32) * 256 + x.val = κ.val * 256 + x.val
        omega),
      broadcastTo_apply _ broadcasts_S8x1x256_S8x32x256 _ (ix3 ⟨κ.val / 32, by omega⟩ ⟨0, Nat.one_pos⟩ x) (by
        intro b
        match b with
        | ⟨0, _⟩ => rfl
        | ⟨1, _⟩ => rfl
        | ⟨2, _⟩ => rfl),
      shapeCast_apply _ shapeCasts_S8x1x256_S8x1x256 _ (ix3 ⟨κ.val / 32, by omega⟩ ⟨0, Nat.one_pos⟩ x) rfl,
      shapeCast_apply _ shapeCasts_S8x256_S8x1x256 _ (ix2 ⟨κ.val / 32, by omega⟩ x) (by
        rw [Shape.rowMajor_val_two, Shape.rowMajor_val_three]
        show κ.val / 32 * 256 + x.val = (κ.val / 32 * 1 + 0) * 256 + x.val
        omega)]

/-! ## The lanes reordered -/

theorem perm_lt (l : Fin 128) : perm l.val < 128 := by unfold perm; omega

theorem lane_idx0 : ∀ l : Fin 128, (k0_pay118 (ix2 (0 : Fin 80) l)).toNat = perm l.val := by decide +kernel
theorem lane_idx (p : Fin 80) (l : Fin 128) : (k0_pay118 (ix2 p l)).toNat = perm l.val :=
  (show (k0_pay118 (ix2 p l)).toNat = (k0_pay118 (ix2 (0 : Fin 80) l)).toNat from rfl).trans (lane_idx0 l)

theorem gather_apply (X : FVec Ideal S80x128 .f32) (p : Fin 80) (l : Fin 128) :
    dynamicGather 1 X (shapeCast S80x128 (shapeCast S80x128x1 k0_pay118 shapeCasts_S80x128_S80x128x1) shapeCasts_S80x128x1_S80x128) (ix2 p l)
      = X (ix2 p ⟨perm l.val, perm_lt l⟩) := by
  have e : shapeCast S80x128 (shapeCast S80x128x1 k0_pay118 shapeCasts_S80x128_S80x128x1) shapeCasts_S80x128x1_S80x128 (ix2 p l) = k0_pay118 (ix2 p l) := by
    rw [shapeCast_apply _ shapeCasts_S80x128x1_S80x128 (ix2 p l) (ix3 p l ⟨0, Nat.one_pos⟩) (by
        rw [Shape.rowMajor_val_two, Shape.rowMajor_val_three]
        show (p.val * 128 + l.val) * 1 + 0 = p.val * 128 + l.val
        omega),
      shapeCast_apply _ shapeCasts_S80x128_S80x128x1 _ (ix2 p l) (by
        rw [Shape.rowMajor_val_two, Shape.rowMajor_val_three]
        show p.val * 128 + l.val = (p.val * 128 + l.val) * 1 + 0
        omega)]
  unfold dynamicGather
  refine congrArg X (funext fun b => ?_)
  match b with
  | ⟨0, _⟩ => rfl
  | ⟨1, _⟩ =>
    refine Fin.ext ?_
    show (shapeCast S80x128 (shapeCast S80x128x1 k0_pay118 shapeCasts_S80x128_S80x128x1) shapeCasts_S80x128x1_S80x128 (ix2 p l)).toNat % 128 = perm l.val
    rw [e, lane_idx]
    exact Nat.mod_eq_of_lt (perm_lt l)

theorem pay90_apply (v : FVec Ideal S80x1 .f32) (X : Vec Ideal S80x128 .f32) (Gn : Vec Ideal S1x128 .f32) (p : Fin 80) (l : Fin 128) :
    k0_pay90 v X Gn (ix2 p l) = (X (ix2 p ⟨perm l.val, perm_lt l⟩) * v (ix2 p ⟨0, Nat.one_pos⟩) : EReal) * Gn (ix2 ⟨0, Nat.one_pos⟩ ⟨perm l.val, perm_lt l⟩) := by
  have e := shapeCast_apply (dynamicGather 1 (mulf (mulf X (broadcastTo S80x128 v broadcasts_S80x1_S80x128)) (broadcastTo S80x128 Gn broadcasts_S1x128_S80x128) : FVec Ideal S80x128 .f32)
    (shapeCast S80x128 (shapeCast S80x128x1 k0_pay118 shapeCasts_S80x128_S80x128x1) shapeCasts_S80x128x1_S80x128)) shapeCasts_S80x128_S80x128 (ix2 p l) (ix2 p l) rfl
  refine Eq.trans (show _ = _ from rfl) (e.trans ?_)
  rw [gather_apply]
  refine congrArg₂ (fun u w : EReal => (X (ix2 p ⟨perm l.val, perm_lt l⟩) * u : EReal) * w) (broadcastTo_apply v broadcasts_S80x1_S80x128 _ (ix2 p ⟨0, Nat.one_pos⟩) ?_)
    (broadcastTo_apply Gn broadcasts_S1x128_S80x128 _ (ix2 ⟨0, Nat.one_pos⟩ ⟨perm l.val, perm_lt l⟩) ?_)
  all_goals
    intro b
    match b with
    | ⟨0, _⟩ => rfl
    | ⟨1, _⟩ => rfl

/-! ## The reciprocal root mean square -/

theorem inv_apply (B : Fin 16 → Vec Ideal S80x128 .f32) (p : Fin 80) (r : ℕ → EReal)
    (hB : ∀ (q : Fin 16) (l : Fin 128), B q (ix2 p l) = r (128 * q.val + l.val)) :
    k0_pay48 (k0_pay47 (k0_pay46 (B 0) (B 1) (B 2) (B 3) (B 4) (B 5)) (B 6) (B 7) (B 8) (B 9) (B 10) (B 11) (B 12)) (B 13) (B 14) (B 15) (ix2 p ⟨0, Nat.one_pos⟩)
      = rinv r := by
  have hl : ∀ l : Fin 128, (Ideal.ofBits .f32 0x00000000#32 + B 0 (ix2 p l) * B 0 (ix2 p l) + B 1 (ix2 p l) * B 1 (ix2 p l) + B 2 (ix2 p l) * B 2 (ix2 p l)
      + B 3 (ix2 p l) * B 3 (ix2 p l) + B 4 (ix2 p l) * B 4 (ix2 p l) + B 5 (ix2 p l) * B 5 (ix2 p l) + B 6 (ix2 p l) * B 6 (ix2 p l)
      + B 7 (ix2 p l) * B 7 (ix2 p l) + B 8 (ix2 p l) * B 8 (ix2 p l) + B 9 (ix2 p l) * B 9 (ix2 p l) + B 10 (ix2 p l) * B 10 (ix2 p l)
      + B 11 (ix2 p l) * B 11 (ix2 p l) + B 12 (ix2 p l) * B 12 (ix2 p l) + B 13 (ix2 p l) * B 13 (ix2 p l) + B 14 (ix2 p l) * B 14 (ix2 p l)
      + B 15 (ix2 p l) * B 15 (ix2 p l) : EReal) = ∑ q ∈ Finset.range 16, r (128 * q + l.val) * r (128 * q + l.val) := by
    intro l
    simp only [hB, Finset.sum_range_succ, Finset.sum_range_zero, Ideal.ofBits_zero_f32]
    rfl
  have key : ∀ (Y : FVec Ideal S80x128 .f32), (∀ l : Fin 128, Y (ix2 p l) = ∑ q ∈ Finset.range 16, r (128 * q + l.val) * r (128 * q + l.val)) →
      shapeCast S80x1 (multiReduction .add [1] S80 Y 0x00000000#32 reduces_S80x128_S80 (.inl rfl) rfl) shapeCasts_S80_S80x1 (ix2 p ⟨0, Nat.one_pos⟩)
        = ∑ j ∈ Finset.range 2048, r j * r j := by
    intro Y hY
    rw [shapeCast_apply _ shapeCasts_S80_S80x1 _ (ix1 p) (by
        rw [Shape.rowMajor_val_two, Shape.rowMajor_val_one]
        show p.val = p.val * 1 + 0
        omega), multiReduction_add_apply, Ideal.reduceAdd_def, Ideal.reduceAdd_r2_a1]
    refine Eq.trans ?_ (sum_lanes 16 128 (fun j => r j * r j))
    rw [Finset.sum_range]
    exact Finset.sum_congr rfl fun l _ => hY l
  have e := key (addf (addf (addf (k0_pay47 (k0_pay46 (B 0) (B 1) (B 2) (B 3) (B 4) (B 5)) (B 6) (B 7) (B 8) (B 9) (B 10) (B 11) (B 12)) (mulf (B 13) (B 13))) (mulf (B 14) (B 14))) (mulf (B 15) (B 15))) hl
  unfold rinv
  rw [← e]
  rfl

/-! ## The gate -/

theorem perm_lt' (κ : Fin 256) : perm κ.val < 256 := by unfold perm; omega

theorem gated_apply (g u : Acc Ideal) (p : Fin 80) (κ : Fin 256) :
    gated g u (ix2 p κ) = gate (g (ix2 p ⟨perm κ.val, perm_lt' κ⟩)) (u (ix2 p ⟨perm κ.val, perm_lt' κ⟩)) := by
  have hs : ∀ (o : ℕ) (off : Fin 2 → ℕ) (hoff : off = ![0, o]) (s : S80x256.Slices off S80x128) (l : Fin 128) (k : Fin 256) (hk : k.val = o + perm l.val),
      dynamicGather 1 (extractStridedSlice S80x128 off (k0_pay115 u (k0_pay114 g)) s : FVec Ideal S80x128 .f32)
        (shapeCast S80x128 (shapeCast S80x128x1 k0_pay118 shapeCasts_S80x128_S80x128x1) shapeCasts_S80x128x1_S80x128) (ix2 p l) = gate (g (ix2 p k)) (u (ix2 p k)) := by
    intro o off hoff s l k hk
    subst hoff
    rw [gather_apply, extractStridedSlice_apply _ _ s _ (ix2 p k) (by
      intro b
      match b with
      | ⟨0, _⟩ => show p.val = 0 + p.val; omega
      | ⟨1, _⟩ => exact hk)]
    rfl
  have hκ := κ.isLt
  unfold gated k0_pay119
  by_cases h : κ.val < 128
  · rw [concatenate_pair_apply_left (t := S80x256) (s₁ := S80x128) (s₂ := S80x128) 1 _ _ _ _ rfl (ix2 p ⟨κ.val, h⟩) (by
      intro b
      match b with
      | ⟨0, _⟩ => rfl
      | ⟨1, _⟩ => rfl)]
    exact hs 0 ![0, 0] rfl slices_S80x256_o0_0_S80x128 ⟨κ.val, h⟩ ⟨perm κ.val, perm_lt' κ⟩ (Nat.zero_add _).symm
  · rw [concatenate_pair_apply_right (t := S80x256) (s₁ := S80x128) (s₂ := S80x128) 1 _ _ _ _ rfl rfl (ix2 p ⟨κ.val - 128, by omega⟩) (by
      intro b hb
      match b with
      | ⟨0, _⟩ => rfl
      | ⟨1, _⟩ => exact absurd rfl hb) (by show κ.val - 128 + 128 = κ.val; omega)]
    exact hs 128 ![0, 128] rfl slices_S80x256_o0_128_S80x128 ⟨κ.val - 128, by omega⟩ ⟨perm κ.val, perm_lt' κ⟩ (by show perm κ.val = 128 + perm (κ.val - 128); unfold perm; omega)

/-! ## Passes one after another -/

theorem depF_apply (i : (Shape.mk 2 ![80, 256]).Idx) (l : List (Lhs Ideal × Til Ideal)) (e : Acc Ideal) (b : Bool) (v : EReal)
    (hv : (if b then e i else 0) = v) (hl : b = true ∨ l ≠ []) : depF b e l i = v + (l.map fun x => pass x.1 x.2 i).sum := by
  induction l generalizing e b v with
  | nil =>
    have hb : b = true := hl.resolve_right (fun h => h rfl)
    subst hb
    simpa [depF] using hv
  | cons x l ih =>
    rw [depF, List.map_cons, List.sum_cons, ← add_assoc]
    refine ih _ true _ ?_ (Or.inl rfl)
    cases b
    · have : v = 0 := by rw [← hv]; rfl
      rw [this, zero_add]; rfl
    · rw [← hv]; rfl

end Cert.Proof.Mlp
-- ==== Proof.KerVal.lean ====
/-
  The kernel's result over the reals, element by element: the blocks its copies bring in read as elements of the arrays, the
  normalized input, the products accumulated chunk by chunk, and the layer's mathematical value.
-/
module

public import proofs.«01_k».proof.Proof.KerOps
public import proofs.«01_k».proof.Proof.Run

@[expose] public section

set_option backward.isDefEq.respectTransparency.types false

noncomputable section

namespace Cert.Proof.Mlp

open Cert.KernelIdeal Cert.KernelIdeal.Gen
open Idealize.ShloMosaic hiding ix0 ix1 ix2 ix3 ix4
open Idealize.ShloMosaic.TcCoe Idealize.ShloMosaic.ValueIdx
open scoped BigOperators

/-! ## The blocks in HBM, and the slots -/

theorem gSrc_emb (l x : ℕ) (y : S1024x256.Idx) : ((gSrc l x).view.emb y : S2x1024x11264.Idx)
    = ix3 ⟨min l 1, by omega⟩ ⟨(y 0).val, (y 0).isLt⟩ ⟨min x 11008 + (y 1).val, by have : (y 1).val < 256 := (y 1).isLt; omega⟩ := by
  refine @Eq.trans S2x1024x11264.Idx _ _ _ (blk_emb wguH.view (gSrcOff l x) (gSrcOff_inb l x) _ y) ?_
  refine funext fun a => ?_
  fin_cases a <;> apply Fin.ext
  · show min l 1 + 1 * 0 = _; simp
  · show 0 + 1 * (y 0).val = _; simp
  · show min x 11008 + 1 * (y 1).val = _; simp
theorem sgSrc_emb (l x : ℕ) (y : S64x256.Idx) : ((sgSrc l x).view.emb y : S2x64x11264.Idx)
    = ix3 ⟨min l 1, by omega⟩ ⟨(y 0).val, (y 0).isLt⟩ ⟨min x 11008 + (y 1).val, by have : (y 1).val < 256 := (y 1).isLt; omega⟩ := by
  refine @Eq.trans S2x64x11264.Idx _ _ _ (blk_emb sguH.view (sgSrcOff l x) (sgSrcOff_inb l x) _ y) ?_
  refine funext fun a => ?_
  fin_cases a <;> apply Fin.ext
  · show min l 1 + 1 * 0 = _; simp
  · show 0 + 1 * (y 0).val = _; simp
  · show min x 11008 + 1 * (y 1).val = _; simp
theorem dSrc_emb (l x : ℕ) (y : S128x2048.Idx) : ((dSrc l x).view.emb y : S2x2816x2048.Idx)
    = ix3 ⟨min l 1, by omega⟩ ⟨min x 2688 + (y 0).val, by have : (y 0).val < 128 := (y 0).isLt; omega⟩ ⟨(y 1).val, (y 1).isLt⟩ := by
  refine @Eq.trans S2x2816x2048.Idx _ _ _ (blk_emb wdH.view (dSrcOff l x) (dSrcOff_inb l x) _ y) ?_
  refine funext fun a => ?_
  fin_cases a <;> apply Fin.ext
  · show min l 1 + 1 * 0 = _; simp
  · show min x 2688 + 1 * (y 0).val = _; simp
  · show 0 + 1 * (y 1).val = _; simp
theorem sdSrc_emb (l x : ℕ) (y : S8x2048.Idx) : ((sdSrc l x).view.emb y : S2x176x2048.Idx)
    = ix3 ⟨min l 1, by omega⟩ ⟨min x 168 + (y 0).val, by have : (y 0).val < 8 := (y 0).isLt; omega⟩ ⟨(y 1).val, (y 1).isLt⟩ := by
  refine @Eq.trans S2x176x2048.Idx _ _ _ (blk_emb sdH.view (sdSrcOff l x) (sdSrcOff_inb l x) _ y) ?_
  refine funext fun a => ?_
  fin_cases a <;> apply Fin.ext
  · show min l 1 + 1 * 0 = _; simp
  · show min x 168 + 1 * (y 0).val = _; simp
  · show 0 + 1 * (y 1).val = _; simp
theorem gSlot_emb (s : ℕ) (y : S1024x512.Idx) : ((gSlot s).view.emb y : S12x1024x512.Idx)
    = ix3 ⟨min s 11, by omega⟩ ⟨(y 0).val, (y 0).isLt⟩ ⟨(y 1).val, (y 1).isLt⟩ := by
  refine @Eq.trans S12x1024x512.Idx _ _ _ (blk_emb wgM.view (gSlotOff s) (gSlotOff_inb s) _ y) ?_
  refine funext fun a => ?_
  fin_cases a <;> apply Fin.ext
  · show min s 11 + 1 * 0 = _; simp
  · show 0 + 1 * (y 0).val = _; simp
  · show 0 + 1 * (y 1).val = _; simp
theorem sgSlot_emb (s : ℕ) (y : S64x512.Idx) : ((sgSlot s).view.emb y : S12x64x512.Idx)
    = ix3 ⟨min s 11, by omega⟩ ⟨(y 0).val, (y 0).isLt⟩ ⟨(y 1).val, (y 1).isLt⟩ := by
  refine @Eq.trans S12x64x512.Idx _ _ _ (blk_emb sgM.view (sgSlotOff s) (sgSlotOff_inb s) _ y) ?_
  refine funext fun a => ?_
  fin_cases a <;> apply Fin.ext
  · show min s 11 + 1 * 0 = _; simp
  · show 0 + 1 * (y 0).val = _; simp
  · show 0 + 1 * (y 1).val = _; simp

variable (c : Dev nD) (A : Wts Ideal c)

/-- The four weight arrays. -/
abbrev wGU : IVec S2x1024x11264 8 := A.gu
abbrev wSGU : FVec Ideal S2x64x11264 .bf16 := A.sgu
abbrev wD : IVec S2x2816x2048 8 := A.d
abbrev wSD : FVec Ideal S2x176x2048 .bf16 := A.sd

theorem gSrc_read (l x : ℕ) (hl : l ≤ 1) (hx : x ≤ 11008) (y : S1024x256.Idx) :
    (gSrc l x).view.read (Elt Ideal) A.gu y = at3 (wGU c A) l (y 0).val (x + (y 1).val) := by
  refine Eq.trans (b := wGU c A ((gSrc l x).view.emb y)) rfl ?_
  rw [gSrc_emb]
  exact at3_eq (wGU c A) _ _ _ _ (Nat.min_eq_left hl) rfl (by show min x 11008 + (y 1).val = _; omega)
theorem sgSrc_read (l x : ℕ) (hl : l ≤ 1) (hx : x ≤ 11008) (y : S64x256.Idx) :
    (sgSrc l x).view.read (Elt Ideal) A.sgu y = at3 (wSGU c A) l (y 0).val (x + (y 1).val) := by
  refine Eq.trans (b := wSGU c A ((sgSrc l x).view.emb y)) rfl ?_
  rw [sgSrc_emb]
  exact at3_eq (wSGU c A) _ _ _ _ (Nat.min_eq_left hl) rfl (by show min x 11008 + (y 1).val = _; omega)
theorem dSrc_read (l x : ℕ) (hl : l ≤ 1) (hx : x ≤ 2688) (y : S128x2048.Idx) :
    (dSrc l x).view.read (Elt Ideal) A.d y = at3 (wD c A) l (x + (y 0).val) (y 1).val := by
  refine Eq.trans (b := wD c A ((dSrc l x).view.emb y)) rfl ?_
  rw [dSrc_emb]
  exact at3_eq (wD c A) _ _ _ _ (Nat.min_eq_left hl) (by show min x 2688 + (y 0).val = _; omega) rfl
theorem sdSrc_read (l x : ℕ) (hl : l ≤ 1) (hx : x ≤ 168) (y : S8x2048.Idx) :
    (sdSrc l x).view.read (Elt Ideal) A.sd y = at3 (wSD c A) l (x + (y 0).val) (y 1).val := by
  refine Eq.trans (b := wSD c A ((sdSrc l x).view.emb y)) rfl ?_
  rw [sdSrc_emb]
  exact at3_eq (wSD c A) _ _ _ _ (Nat.min_eq_left hl) (by show min x 168 + (y 0).val = _; omega) rfl

/-- A landed slot's element of the gate (`q = 0`) or up (`q = 1`) block. -/
theorem gC_read (L j : ℕ) (hL : L ≤ 1) (hj : j < 22) (s : ℕ) (y : S1024x512.Idx) (q : ℕ) (hq : q < 2) (x : ℕ) (hx : x < 256) (h1 : (y 1).val = 256 * q + x) :
    (gSlot s).view.read (Elt Ideal) (gC c A (22 * L + j)) y = at3 (wGU c A) L (y 0).val (5632 * q + 256 * j + x) := by
  have hd : (22 * L + j) / 22 = L := by omega
  have hm : (22 * L + j) % 22 = j := by omega
  refine Eq.trans (b := (gC c A (22 * L + j)) ((gSlot s).view.emb y : S12x1024x512.Idx)) rfl ?_
  rw [gSlot_emb]
  unfold gC
  by_cases h : (y 1).val < 256
  · refine (dif_pos h).trans ?_
    rw [gSrc_read c A _ _ (by omega) (by omega), hd, hm]
    refine congrArg₂ (at3 (wGU c A) L) rfl ?_
    show 256 * j + (y 1).val = _
    omega
  · refine (dif_neg h).trans ?_
    rw [gSrc_read c A _ _ (by omega) (by omega), hd, hm]
    refine congrArg₂ (at3 (wGU c A) L) rfl ?_
    show 5632 + 256 * j + ((y 1).val - 256) = _
    omega
theorem sgC_read (L j : ℕ) (hL : L ≤ 1) (hj : j < 22) (s : ℕ) (y : S64x512.Idx) (q : ℕ) (hq : q < 2) (x : ℕ) (hx : x < 256) (h1 : (y 1).val = 256 * q + x) :
    (sgSlot s).view.read (Elt Ideal) (sgC c A (22 * L + j)) y = at3 (wSGU c A) L (y 0).val (5632 * q + 256 * j + x) := by
  have hd : (22 * L + j) / 22 = L := by omega
  have hm : (22 * L + j) % 22 = j := by omega
  refine Eq.trans (b := (sgC c A (22 * L + j)) ((sgSlot s).view.emb y : S12x64x512.Idx)) rfl ?_
  rw [sgSlot_emb]
  unfold sgC
  by_cases h : (y 1).val < 256
  · refine (dif_pos h).trans ?_
    rw [sgSrc_read c A _ _ (by omega) (by omega), hd, hm]
    refine congrArg₂ (at3 (wSGU c A) L) rfl ?_
    show 256 * j + (y 1).val = _
    omega
  · refine (dif_neg h).trans ?_
    rw [sgSrc_read c A _ _ (by omega) (by omega), hd, hm]
    refine congrArg₂ (at3 (wSGU c A) L) rfl ?_
    show 5632 + 256 * j + ((y 1).val - 256) = _
    omega
theorem dC_read (L j : ℕ) (hL : L ≤ 1) (hj : j < 22) (s : ℕ) (y : S128x2048.Idx) :
    (dSlot s).view.read (Elt Ideal) (dC c A (22 * L + j)) y = at3 (wD c A) L (128 * j + (y 0).val) (y 1).val := by
  have hd : (22 * L + j) / 22 = L := by omega
  have hm : (22 * L + j) % 22 = j := by omega
  refine Eq.trans (b := (dC c A (22 * L + j)) ((dSlot s).view.emb y : S12x128x2048.Idx)) rfl ?_
  rw [dSlot_emb]
  unfold dC
  rw [dSrc_read c A _ _ (by omega) (by omega), hd, hm]
theorem sdC_read (L j : ℕ) (hL : L ≤ 1) (hj : j < 22) (s : ℕ) (y : S8x2048.Idx) :
    (sdSlot s).view.read (Elt Ideal) (sdC c A (22 * L + j)) y = at3 (wSD c A) L (8 * j + (y 0).val) (y 1).val := by
  have hd : (22 * L + j) / 22 = L := by omega
  have hm : (22 * L + j) % 22 = j := by omega
  refine Eq.trans (b := (sdC c A (22 * L + j)) ((sdSlot s).view.emb y : S12x8x2048.Idx)) rfl ?_
  rw [sdSlot_emb]
  unfold sdC
  rw [sdSrc_read c A _ _ (by omega) (by omega), hd, hm]

/-! ## The tiles -/

theorem gT_apply (L j : ℕ) (hL : L ≤ 1) (hj : j < 22) (k : Fin 8) (q : Fin 2) (κ x : Fin 256) :
    gT c A (22 * L + j) k q (ix2 κ x) = code ((256 * k.val + κ.val) % 2) (at3 (wGU c A) L ((256 * k.val + κ.val) / 2) (5632 * q.val + 256 * j + x.val))
      * at3 (wSGU c A) L ((256 * k.val + κ.val) / 32) (5632 * q.val + 256 * j + x.val) := by
  have hκ := κ.isLt
  unfold gT
  rw [tile_apply, View.readAt_apply, View.readAt_apply,
    gC_read c A L j hL hj _ _ q.val q.isLt x.val x.isLt (by show 256 * q.val + 1 * x.val = _; omega),
    sgC_read c A L j hL hj _ _ q.val q.isLt x.val x.isLt (by show 256 * q.val + 1 * x.val = _; omega)]
  have e1 : κ.val % 2 = (256 * k.val + κ.val) % 2 := by omega
  have e2 : 128 * k.val + 1 * (κ.val / 2) = (256 * k.val + κ.val) / 2 := by omega
  have e3 : 8 * k.val + 1 * (κ.val / 32) = (256 * k.val + κ.val) / 32 := by omega
  rw [← e1, ← e2, ← e3]
  rfl

theorem dT_apply (L j : ℕ) (hL : L ≤ 1) (hj : j < 22) (n : Fin 4) (q : Fin 2) (κ x : Fin 256) :
    dT c A (22 * L + j) n q (ix2 κ x) = code ((256 * j + κ.val) % 2) (at3 (wD c A) L ((256 * j + κ.val) / 2) (256 * (2 * n.val + q.val) + x.val))
      * at3 (wSD c A) L ((256 * j + κ.val) / 32) (256 * (2 * n.val + q.val) + x.val) := by
  have hκ := κ.isLt
  unfold dT
  rw [tile_apply, View.readAt_apply, View.readAt_apply, dC_read c A L j hL hj, sdC_read c A L j hL hj]
  have e1 : κ.val % 2 = (256 * j + κ.val) % 2 := by omega
  have e2 : 128 * j + (0 + 1 * (κ.val / 2)) = (256 * j + κ.val) / 2 := by omega
  have e3 : 8 * j + (0 + 1 * (κ.val / 32)) = (256 * j + κ.val) / 32 := by omega
  have e4 : 256 * (2 * n.val + q.val) + 1 * x.val = 256 * (2 * n.val + q.val) + x.val := by omega
  rw [← e1, ← e2, ← e3, ← e4]
  rfl

/-! ## The normalized input -/

variable (X : Cts (F := Ideal) c stM) (N : Cts (F := Ideal) c nmM)

abbrev xs : FVec Ideal S2x80x2048 .f32 := X
abbrev ns : FVec Ideal S2x2048 .f32 := N

theorem row_emb (t1 : T1) (y : S80x2048.Idx) :
    ((((stM.slice (Rect.unit (s := S2x80x2048) (k0_off1 t1) S1x80x2048.size (k0_off1_inb t1)) (fun _ => rfl)).squeeze S80x2048 squeezes_S1x80x2048_S80x2048).view).emb y : S2x80x2048.Idx)
      = ix3 ⟨t1.val, t1.isLt⟩ ⟨(y 0).val, (y 0).isLt⟩ ⟨(y 1).val, (y 1).isLt⟩ := by
  have h : ∀ (off : Fin 3 → ℕ) (hb), off = ![t1.val, 0, 0] →
      ((((stM.slice (Rect.unit (s := S2x80x2048) off S1x80x2048.size hb) (fun _ => rfl)).squeeze S80x2048 squeezes_S1x80x2048_S80x2048).view).emb y : S2x80x2048.Idx)
        = ix3 ⟨t1.val, t1.isLt⟩ ⟨(y 0).val, (y 0).isLt⟩ ⟨(y 1).val, (y 1).isLt⟩ := by
    intro off hb e
    subst e
    refine @Eq.trans S2x80x2048.Idx _ _ _ (blk_emb stM.view ![t1.val, 0, 0] hb _ y) ?_
    refine funext fun a => ?_
    fin_cases a <;> apply Fin.ext
    · show t1.val + 1 * 0 = _; simp
    · show 0 + 1 * (y 0).val = _; simp
    · show 0 + 1 * (y 1).val = _; simp
  exact h _ _ (k0_off1_eq t1)

theorem xB_apply (t1 : T1) (o : ℕ) (h) (p : Fin 80) (l : Fin 128) :
    xB c stM t1 X o h (ix2 p l) = at3 (xs c X) t1.val p.val (o + l.val) := by
  unfold xB
  rw [View.readAt_apply]
  refine Eq.trans (b := xs c X ((((stM.slice (Rect.unit (s := S2x80x2048) (k0_off1 t1) S1x80x2048.size (k0_off1_inb t1)) (fun _ => rfl)).squeeze S80x2048 squeezes_S1x80x2048_S80x2048).view).emb
    ((Rect.unit (s := S80x2048) ![0, o] S80x128.size h).toLoadRect.idx (ix2 p l)) : S2x80x2048.Idx)) rfl ?_
  rw [row_emb]
  exact at3_eq (xs c X) _ _ _ _ rfl (by show 0 + 1 * p.val = _; omega) (by show o + 1 * l.val = _; omega)

theorem nB_apply (t1 : T1) (o : ℕ) (h) (l : Fin 128) :
    nB c t1 N o h (ix2 ⟨0, Nat.one_pos⟩ l) = at2 (ns c N) t1.val (o + l.val) := by
  unfold nB
  rw [View.readAt_apply]
  refine Eq.trans (b := ns c N (((Rect.unit (s := S2x2048) (k0_off2 t1) S1x2048.size (k0_off2_inb t1)).withinL
    (Rect.unit (s := S1x2048) ![0, o] S1x128.size h).toLoadRect (fun _ => rfl)).idx (ix2 ⟨0, Nat.one_pos⟩ l) : S2x2048.Idx)) rfl ?_
  have e := k0_off2_eq t1
  have e0 : k0_off2 t1 0 = t1.val := congrFun e 0
  have e1 : k0_off2 t1 1 = 0 := congrFun e 1
  refine at2_eq (ns c N) _ _ _ ?_ ?_
  · show k0_off2 t1 0 + 0 + 1 * 0 = _; omega
  · show k0_off2 t1 1 + o + 1 * l.val = _; omega

theorem invV_apply (t1 : T1) (p : Fin 80) : invV c stM t1 X (ix2 p ⟨0, Nat.one_pos⟩) = rinv (at3 (xs c X) t1.val p.val) :=
  inv_apply (fun q => xB c stM t1 X (128 * q.val) (blk_inb q.val q.isLt)) p (at3 (xs c X) t1.val p.val) fun q l => xB_apply c X t1 _ _ p l

theorem hpC_apply (t1 : T1) (p : Fin 80) (j : Fin 2048) :
    hpC c stM t1 X N (ix2 p j) = hn (at3 (xs c X) t1.val p.val) (at2 (ns c N) t1.val) (perm j.val) := by
  have hj := j.isLt
  have hl : j.val % 128 < 128 := Nat.mod_lt _ (by decide)
  show normB c stM t1 X N (128 * (j.val / 128)) _ _ (fun a => match a with | ⟨0, _⟩ => ⟨p.val, p.isLt⟩ | ⟨1, _⟩ => ⟨j.val % 128, hl⟩) = _
  have e : (fun a => match a with | ⟨0, _⟩ => ⟨p.val, p.isLt⟩ | ⟨1, _⟩ => ⟨j.val % 128, hl⟩ : S80x128.Idx) = ix2 p ⟨j.val % 128, hl⟩ := by
    funext a
    match a with
    | ⟨0, _⟩ => rfl
    | ⟨1, _⟩ => rfl
  rw [e]
  unfold normB
  rw [pay90_apply, xB_apply, invV_apply, nB_apply]
  have ep : 128 * (j.val / 128) + perm (j.val % 128) = perm j.val := by unfold perm; omega
  show at3 (xs c X) t1.val p.val (128 * (j.val / 128) + perm (j.val % 128)) * _ * at2 (ns c N) t1.val (128 * (j.val / 128) + perm (j.val % 128)) = _
  rw [ep]
  rfl

/-! ## The products -/

/-- The gate and up products of layer `L`, row `p`. -/
def guR (L p i : ℕ) : EReal :=
  lin 64 (hn (at3 (xs c X) L p) (at2 (ns c N) L)) (fun ρ => at3 (wGU c A) L ρ i) (fun g => at3 (wSGU c A) L g i)

theorem hpT_apply (t1 : T1) (k : Fin 8) (p : Fin 80) (κ : Fin 256) :
    hpT c (hpC c stM t1 X N) k (ix2 p κ) = hn (at3 (xs c X) t1.val p.val) (at2 (ns c N) t1.val) (perm (256 * k.val + κ.val)) := by
  have hκ := κ.isLt
  have hk := k.isLt
  unfold hpT
  rw [View.readAt_apply]
  refine Eq.trans (b := (hpC c stM t1 X N) ((Rect.unit (s := S80x2048) ![0, 256 * k.val] S80x256.size (hp_inb k)).toLoadRect.idx (ix2 p κ) : S80x2048.Idx)) rfl ?_
  have e : ((Rect.unit (s := S80x2048) ![0, 256 * k.val] S80x256.size (hp_inb k)).toLoadRect.idx (ix2 p κ) : S80x2048.Idx)
      = ix2 p ⟨256 * k.val + κ.val, by omega⟩ := by
    funext a
    match a with
    | ⟨0, _⟩ => exact Fin.ext (by show 0 + 1 * p.val = p.val; omega)
    | ⟨1, _⟩ => exact Fin.ext (by show 256 * k.val + 1 * κ.val = 256 * k.val + κ.val; omega)
  rw [e, hpC_apply]

theorem list8_sum (f : ℕ → EReal) : [f 0, f 1, f 2, f 3, f 4, f 5, f 6, f 7].sum = ∑ k ∈ Finset.range 8, f k := by
  simp only [Finset.sum_range_succ, Finset.sum_range_zero, List.sum_cons, List.sum_nil, add_zero, zero_add, add_assoc]

theorem guV_apply (t1 : T1) (j : ℕ) (hj : j < 22) (q : Fin 2) (p : Fin 80) (x : Fin 256) :
    guV c A (hpC c stM t1 X N) (22 * t1.val + j) q (ix2 p x) = guR c A X N t1.val p.val (5632 * q.val + 256 * j + x.val) := by
  have hL : t1.val ≤ 1 := Nat.lt_succ_iff.mp (show t1.val < 2 from t1.isLt)
  have hs : ∀ k : Fin 8, pass (hpT c (hpC c stM t1 X N) k) (gT c A (22 * t1.val + j) k q) (ix2 p x)
      = ∑ r ∈ Finset.range 256, term' (hn (at3 (xs c X) t1.val p.val) (at2 (ns c N) t1.val)) (fun ρ => at3 (wGU c A) t1.val ρ (5632 * q.val + 256 * j + x.val))
          (fun g => at3 (wSGU c A) t1.val g (5632 * q.val + 256 * j + x.val)) (256 * k.val + r) := by
    intro k
    refine pass_range _ _ p x _ fun κ => ?_
    rw [hpT_apply, gT_apply c A t1.val j hL hj]
    rfl
  unfold guV
  rw [depF_apply (ix2 p x) _ _ false 0 rfl (Or.inr (by simp [guSteps])), zero_add]
  have hl : ((guSteps c A (hpC c stM t1 X N) (22 * t1.val + j)).map fun y => (y.lhs, y.t q)).map (fun y => pass y.1 y.2 (ix2 p x))
      = [pass (hpT c (hpC c stM t1 X N) 0) (gT c A (22 * t1.val + j) 0 q) (ix2 p x), pass (hpT c (hpC c stM t1 X N) 1) (gT c A (22 * t1.val + j) 1 q) (ix2 p x),
         pass (hpT c (hpC c stM t1 X N) 2) (gT c A (22 * t1.val + j) 2 q) (ix2 p x), pass (hpT c (hpC c stM t1 X N) 3) (gT c A (22 * t1.val + j) 3 q) (ix2 p x),
         pass (hpT c (hpC c stM t1 X N) 4) (gT c A (22 * t1.val + j) 4 q) (ix2 p x), pass (hpT c (hpC c stM t1 X N) 5) (gT c A (22 * t1.val + j) 5 q) (ix2 p x),
         pass (hpT c (hpC c stM t1 X N) 6) (gT c A (22 * t1.val + j) 6 q) (ix2 p x), pass (hpT c (hpC c stM t1 X N) 7) (gT c A (22 * t1.val + j) 7 q) (ix2 p x)] := rfl
  rw [hl]
  simp only [hs]
  unfold guR
  rw [← sum_term', ← sum_blocks 8 256]
  exact list8_sum fun k => ∑ r ∈ Finset.range 256, term' (hn (at3 (xs c X) t1.val p.val) (at2 (ns c N) t1.val)) (fun ρ => at3 (wGU c A) t1.val ρ (5632 * q.val + 256 * j + x.val))
          (fun g => at3 (wSGU c A) t1.val g (5632 * q.val + 256 * j + x.val)) (256 * k + r)

/-- What the gate makes of those products. -/
def actR (L p o : ℕ) : EReal := gate (guR c A X N L p o) (guR c A X N L p (5632 + o))

theorem actV_apply (t1 : T1) (j : ℕ) (hj : j < 22) (p : Fin 80) (κ : Fin 256) :
    actV c A (hpC c stM t1 X N) (22 * t1.val + j) (ix2 p κ) = actR c A X N t1.val p.val (perm (256 * j + κ.val)) := by
  have e : perm (256 * j + κ.val) = 256 * j + perm κ.val := by unfold perm; omega
  unfold actV actR
  rw [gated_apply, guV_apply c A X N t1 j hj, guV_apply c A X N t1 j hj, e]
  refine congrArg₂ (fun a b => gate (guR c A X N t1.val p.val a) (guR c A X N t1.val p.val b)) ?_ ?_
  · show 5632 * 0 + 256 * j + perm κ.val = _; omega
  · show 5632 * 1 + 256 * j + perm κ.val = _; omega

theorem dpass_apply (t1 : T1) (j : ℕ) (hj : j < 22) (n : Fin 4) (q : Fin 2) (p : Fin 80) (x : Fin 256) :
    pass (actV c A (hpC c stM t1 X N) (22 * t1.val + j)) (dT c A (22 * t1.val + j) n q) (ix2 p x)
      = ∑ r ∈ Finset.range 256, term' (actR c A X N t1.val p.val) (fun ρ => at3 (wD c A) t1.val ρ (256 * (2 * n.val + q.val) + x.val))
          (fun g => at3 (wSD c A) t1.val g (256 * (2 * n.val + q.val) + x.val)) (256 * j + r) := by
  have hL : t1.val ≤ 1 := Nat.lt_succ_iff.mp (show t1.val < 2 from t1.isLt)
  refine pass_range _ _ p x _ fun κ => ?_
  rw [actV_apply c A X N t1 j hj, dT_apply c A t1.val j hL hj]
  rfl

theorem dV_apply (t1 : T1) (n : Fin 4) (q : Fin 2) (p : Fin 80) (x : Fin 256) : ∀ k : ℕ, k ≤ 22 →
    dV c A (hpC c stM t1 X N) t1.val k n q (ix2 p x)
      = ∑ j ∈ Finset.range k, ∑ r ∈ Finset.range 256, term' (actR c A X N t1.val p.val) (fun ρ => at3 (wD c A) t1.val ρ (256 * (2 * n.val + q.val) + x.val))
          (fun g => at3 (wSD c A) t1.val g (256 * (2 * n.val + q.val) + x.val)) (256 * j + r)
  | 0, _ => (show _ = Ideal.ofBits .f32 0x00000000#32 from rfl).trans Ideal.ofBits_zero_f32
  | 1, _ => by
    rw [Finset.sum_range_one]
    exact dpass_apply c A X N t1 0 (by decide) n q p x
  | k + 2, h => by
    rw [Finset.sum_range_succ]
    exact congrArg₂ (fun y z : EReal => y + z) (dV_apply t1 n q p x (k + 1) (by omega)) (dpass_apply c A X N t1 (k + 1) (by omega) n q p x)

/-! ## The result -/

theorem pay142_apply (Y : Vec Ideal S1x80x256 .f32) (d : FVec Ideal S80x256 .f32) (p : Fin 80) (x : Fin 256) :
    k0_pay142 Y d (ix3 ⟨0, Nat.one_pos⟩ p x) = (Y (ix3 ⟨0, Nat.one_pos⟩ p x) + d (ix2 p x) : EReal) := by
  unfold k0_pay142
  rw [shapeCast_apply _ shapeCasts_S80x256_S1x80x256 _ (ix2 p x) (by
      rw [Shape.rowMajor_val_two, Shape.rowMajor_val_three]
      show p.val * 256 + x.val = (0 * 80 + p.val) * 256 + x.val
      omega)]
  refine congrArg (fun y : EReal => y + d (ix2 p x)) (shapeCast_apply Y shapeCasts_S1x80x256_S80x256 (ix2 p x) (ix3 ⟨0, Nat.one_pos⟩ p x) ?_)
  rw [Shape.rowMajor_val_two, Shape.rowMajor_val_three]
  show (0 * 80 + p.val) * 256 + x.val = p.val * 256 + x.val
  omega

/-- A layer's stored result. -/
theorem oC_apply (t1 : T1) (p : Fin 80) (x : Fin 2048) (z : Fin 3) :
    oC c A stM X N t1 (ix3 z p x) = layer (at3 (xs c X) t1.val p.val) (at2 (ns c N) t1.val) (at3 (wGU c A) t1.val) (at3 (wSGU c A) t1.val)
      (at3 (wD c A) t1.val) (at3 (wSD c A) t1.val) x.val := by
  have hx := x.isLt
  have hb : x.val / 256 < 8 := by omega
  have hl : x.val % 256 < 256 := Nat.mod_lt _ (by decide)
  have ex : 256 * (2 * (x.val / 256 / 2) + x.val / 256 % 2) + x.val % 256 = x.val := by omega
  show oBk c stM X (dV c A (hpC c stM t1 X N) t1.val 22) (x.val / 256) hb ![t1.val, 0, 256 * (x.val / 256)] (oBk_inb t1 _ hb)
    (fun a => match a with | ⟨0, _⟩ => ⟨0, Nat.one_pos⟩ | ⟨1, _⟩ => ⟨p.val, p.isLt⟩ | ⟨2, _⟩ => ⟨x.val % 256, hl⟩) = _
  have e : (fun a => match a with | ⟨0, _⟩ => ⟨0, Nat.one_pos⟩ | ⟨1, _⟩ => ⟨p.val, p.isLt⟩ | ⟨2, _⟩ => ⟨x.val % 256, hl⟩ : S1x80x256.Idx)
      = ix3 ⟨0, Nat.one_pos⟩ p ⟨x.val % 256, hl⟩ := by
    funext a
    match a with
    | ⟨0, _⟩ => rfl
    | ⟨1, _⟩ => rfl
    | ⟨2, _⟩ => rfl
  rw [e]
  unfold oBk
  rw [pay142_apply, dV_apply c A X N t1 _ _ p _ 22 (Nat.le_refl _), sum_blocks, show (256 * 22 : ℕ) = 32 * 176 from rfl, sum_term', View.readAt_apply]
  refine congrArg₂ (fun y w : EReal => y + w) ?_ ?_
  · refine Eq.trans (b := xs c X ((Rect.unit (s := S2x80x2048) ![t1.val, 0, 256 * (x.val / 256)] S1x80x256.size (oBk_inb t1 _ hb)).toLoadRect.idx
      (ix3 ⟨0, Nat.one_pos⟩ p ⟨x.val % 256, hl⟩) : S2x80x2048.Idx)) rfl ?_
    exact at3_eq (xs c X) _ _ _ _ (by show t1.val + 1 * 0 = _; omega) (by show 0 + 1 * p.val = _; omega)
      (by show 256 * (x.val / 256) + 1 * (x.val % 256) = _; omega)
  · show lin 176 _ (fun ρ => at3 (wD c A) t1.val ρ (256 * (2 * (x.val / 256 / 2) + x.val / 256 % 2) + x.val % 256))
      (fun g => at3 (wSD c A) t1.val g (256 * (2 * (x.val / 256 / 2) + x.val / 256 % 2) + x.val % 256)) = _
    rw [ex]
    rfl

end Cert.Proof.Mlp
-- ==== Proof.KerRes.lean ====
/-
  The kernel's result as launched: the layer's mathematical value of the arguments.
-/
module

public import proofs.«01_k».proof.Proof.KerVal

@[expose] public section

set_option backward.isDefEq.respectTransparency.types false

noncomputable section

namespace Cert.Proof.Mlp

open Cert.KernelIdeal Cert.KernelIdeal.Gen
open Idealize.ShloMosaic hiding ix0 ix1 ix2 ix3 ix4
open Idealize.ShloMosaic.TcCoe Idealize.ShloMosaic.ValueIdx
open scoped BigOperators

variable (c : Dev nD) (m : (ℓ : Loc nD τ sig) → Buf (Elt Ideal) ℓ)

/-- The six arguments. -/
abbrev k0 : FVec Ideal S2x80x2048 .f32 := VV m c main_arg0
abbrev k1 : FVec Ideal S2x2048 .f32 := VV m c main_arg1
abbrev k2 : IVec S2x1024x11264 8 := VV m c main_arg2
abbrev k3 : FVec Ideal S2x64x11264 .bf16 := VV m c main_arg3
abbrev k4 : IVec S2x2816x2048 8 := VV m c main_arg4
abbrev k5 : FVec Ideal S2x176x2048 .bf16 := VV m c main_arg5

theorem hid_layer (L : Fin 2) (p : Fin 80) (x : Fin 2048) (z : Fin 3) :
    oC c (wts m c) stM (xC m c) (nC c (gainC m c)) ⟨L.val, L.isLt⟩ (ix3 z p x)
      = layer (at3 (k0 c m) L.val p.val) (at2 (k1 c m) L.val) (at3 (k2 c m) L.val) (at3 (k3 c m) L.val) (at3 (k4 c m) L.val) (at3 (k5 c m) L.val) x.val :=
  oC_apply c (wts m c) (xC m c) (nC c (gainC m c)) ⟨L.val, L.isLt⟩ p x z

theorem hid_at (L : Fin 2) (p : Fin 80) (x : Fin 2048) :
    hidF m c (ix3 L p x) = oC c (wts m c) stM (xC m c) (nC c (gainC m c)) ⟨L.val, L.isLt⟩ (ix3 ⟨L.val + 1, Nat.succ_lt_succ L.isLt⟩ p x) := by
  unfold hidF
  generalize oC c (wts m c) stM (xC m c) (nC c (gainC m c)) = O
  refine congrArg (O ⟨L.val, L.isLt⟩) (funext fun a => ?_)
  match a with
  | ⟨0, _⟩ => rfl
  | ⟨1, _⟩ => rfl
  | ⟨2, _⟩ => rfl

/-- The kernel's result is the layer's value. -/
theorem hidF_apply (L : Fin 2) (p : Fin 80) (x : Fin 2048) :
    hidF m c (ix3 L p x) = layer (at3 (k0 c m) L.val p.val) (at2 (k1 c m) L.val) (at3 (k2 c m) L.val) (at3 (k3 c m) L.val) (at3 (k4 c m) L.val) (at3 (k5 c m) L.val) x.val :=
  (hid_at c m L p x).trans (hid_layer c m L p x _)

end Cert.Proof.Mlp
-- ==== Proof.RefLin.lean ====
/-
  The reference's lines read at an index: a layer cut from a stack, a product by packed weights whole, the gate.
-/
module

public import proofs.«01_k».proof.Proof.RefOps

@[expose] public section

set_option backward.isDefEq.respectTransparency.types false

noncomputable section

namespace Cert.Proof.Mlp

open Idealize.ShloMosaic hiding ix0 ix1 ix2 ix3 ix4
open Idealize.ShloMosaic.ValueIdx
open scoped BigOperators

/-- Layer `L` of a stack. -/
theorem cut_apply {n a b : ℕ} [NeZero n] [NeZero a] [NeZero b] {α : Type} (V : (⟨3, ![n, a, b]⟩ : Shape).Idx → α) (L : ℕ) (hL : L < n)
    (off : Fin 3 → ℕ) (hoff : off = ![L, 0, 0]) (s c) (i : Fin a) (j : Fin b) :
    shapeCast ⟨2, ![a, b]⟩ (extractStridedSlice ⟨3, ![1, a, b]⟩ off V s) c (ix2 i j) = at3 V L i.val j.val := by
  subst hoff
  rw [shapeCast_apply _ c (ix2 i j) (ix3 ⟨0, Nat.one_pos⟩ i j) (by
      rw [Shape.rowMajor_val_two, Shape.rowMajor_val_three]
      show (0 * a + i.val) * b + j.val = i.val * b + j.val
      rw [Nat.zero_mul, Nat.zero_add]),
    extractStridedSlice_apply _ V s _ (ix3 ⟨L, hL⟩ i j) (by
      intro d
      match d with
      | ⟨0, _⟩ => rfl
      | ⟨1, _⟩ => show i.val = 0 + i.val; omega
      | ⟨2, _⟩ => show j.val = 0 + j.val; omega)]
  exact at3_eq V _ _ _ _ rfl rfl rfl

theorem cut1_apply {n b : ℕ} [NeZero n] [NeZero b] {α : Type} (V : (⟨2, ![n, b]⟩ : Shape).Idx → α) (L : ℕ) (hL : L < n)
    (off : Fin 2 → ℕ) (hoff : off = ![L, 0]) (s c) (j : Fin b) :
    shapeCast ⟨1, ![b]⟩ (extractStridedSlice ⟨2, ![1, b]⟩ off V s) c (ix1 j) = at2 V L j.val := by
  subst hoff
  rw [shapeCast_apply _ c (ix1 j) (ix2 ⟨0, Nat.one_pos⟩ j) (by
      rw [Shape.rowMajor_val_two, Shape.rowMajor_val_one]
      show 0 * b + j.val = j.val
      omega),
    extractStridedSlice_apply _ V s _ (ix2 ⟨L, hL⟩ j) (by
      intro d
      match d with
      | ⟨0, _⟩ => rfl
      | ⟨1, _⟩ => show j.val = 0 + j.val; omega)]
  exact at2_eq V _ _ _ rfl rfl

theorem code_lo {t : Shape} (W : IVec t 32) (b1 b2) (j : t.Idx) (w : BitVec 8) (hW : W j = w.setWidth 32) :
    (sitofp .bf16 (subi (andi W (broadcastInDim t ![] b1 (constantI ⟨0, ![]⟩ 32 15#32))) (broadcastInDim t ![] b2 (constantI ⟨0, ![]⟩ 32 8#32))) : FVec Ideal t .bf16) j
      = code 0 w := by
  show (((((W j) &&& broadcastInDim t ![] b1 (constantI ⟨0, ![]⟩ 32 15#32) j) - broadcastInDim t ![] b2 (constantI ⟨0, ![]⟩ 32 8#32) j).toInt : ℝ) : EReal) = _
  rw [splat_apply, splat_apply, hW]
  rfl
theorem code_hi {t : Shape} (W : IVec t 32) (b1 b2) (j : t.Idx) (w : BitVec 8) (hW : W j = w.setWidth 32) :
    (sitofp .bf16 (subi (Host.shrsi W (broadcastInDim t ![] b1 (constantI ⟨0, ![]⟩ 32 4#32))) (broadcastInDim t ![] b2 (constantI ⟨0, ![]⟩ 32 8#32))) : FVec Ideal t .bf16) j
      = code 1 w := by
  show ((((IntOp.shrsi .host (W j) (broadcastInDim t ![] b1 (constantI ⟨0, ![]⟩ 32 4#32) j)) - broadcastInDim t ![] b2 (constantI ⟨0, ![]⟩ 32 8#32) j).toInt : ℝ) : EReal) = _
  rw [splat_apply, splat_apply, hW]
  rfl

/-- A product by packed weights. -/
theorem lin_apply {G K N : ℕ} (hK : K = 16 * G) (A : FVec Ideal ⟨4, ![80, G, 2, 16]⟩ .bf16) (W : IVec ⟨2, ![K, N]⟩ 32)
    (S : FVec Ideal ⟨2, ![G, N]⟩ .bf16) (d : DotDims ⟨2, ![80, K]⟩ ⟨2, ![K, N]⟩ ⟨2, ![80, N]⟩) (hd : d = DotDims.plain 80 K N)
    (s1 s1' c1 c2 c3 b1 b2 c4 k1 k2 k3) (p : Fin 80) (x : Fin N) (a : ℕ → EReal) (w : ℕ → BitVec 8) (s : ℕ → EReal)
    (hA : ∀ (g : Fin G) (h : Fin 2) (r : Fin 16), A (ix4 p g h r) = a (32 * g.val + 16 * h.val + r.val))
    (hW : ∀ ρ : Fin K, W (ix2 ρ x) = (w ρ.val).setWidth 32) (hS : ∀ g : Fin G, S (ix2 g x) = s g.val) :
    (addf
      (Host.dotGeneral d none
        (shapeCast ⟨2, ![80, K]⟩ (shapeCast ⟨3, ![80, G, 16]⟩ (extractStridedSlice ⟨4, ![80, G, 1, 16]⟩ ![0, 0, 0, 0] A s1) c1) c2)
        (shapeCast ⟨2, ![K, N]⟩ (mulf (shapeCast ⟨3, ![G, 16, N]⟩ (sitofp .bf16 (subi (andi W (broadcastInDim ⟨2, ![K, N]⟩ ![] k1 (constantI ⟨0, ![]⟩ 32 15#32))) (broadcastInDim ⟨2, ![K, N]⟩ ![] k2 (constantI ⟨0, ![]⟩ 32 8#32)))) c3)
          (broadcastInDim ⟨3, ![G, 16, N]⟩ ![0, 1, 2] b1 (broadcastInDim ⟨3, ![G, 1, N]⟩ ![0, 2] b2 S))) c4))
      (Host.dotGeneral d none
        (shapeCast ⟨2, ![80, K]⟩ (shapeCast ⟨3, ![80, G, 16]⟩ (extractStridedSlice ⟨4, ![80, G, 1, 16]⟩ ![0, 0, 1, 0] A s1') c1) c2)
        (shapeCast ⟨2, ![K, N]⟩ (mulf (shapeCast ⟨3, ![G, 16, N]⟩ (sitofp .bf16 (subi (Host.shrsi W (broadcastInDim ⟨2, ![K, N]⟩ ![] k3 (constantI ⟨0, ![]⟩ 32 4#32))) (broadcastInDim ⟨2, ![K, N]⟩ ![] k2 (constantI ⟨0, ![]⟩ 32 8#32)))) c3)
          (broadcastInDim ⟨3, ![G, 16, N]⟩ ![0, 1, 2] b1 (broadcastInDim ⟨3, ![G, 1, N]⟩ ![0, 2] b2 S))) c4)) : FVec Ideal ⟨2, ![80, N]⟩ .f32) (ix2 p x)
      = lin G a w s := by
  have e0 := half_apply hK A _ S d hd 0 (by decide) ![0, 0, 0, 0] rfl s1 c1 c2 c3 b1 b2 c4 p x a w s (fun g r => hA g 0 r)
    (fun ρ => code_lo W k1 k2 (ix2 ρ x) (w ρ.val) (hW ρ)) hS
  have e1 := half_apply hK A _ S d hd 1 (by decide) ![0, 0, 1, 0] rfl s1' c1 c2 c3 b1 b2 c4 p x a w s (fun g r => hA g 1 r)
    (fun ρ => code_hi W k3 k2 (ix2 ρ x) (w ρ.val) (hW ρ)) hS
  refine (congrArg₂ (fun y z : EReal => y + z) e0 e1).trans ?_
  subst hK
  rfl

/-- The gated rows, their columns cut into groups of two halves. -/
theorem gate_apply (Y : FVec Ideal ⟨2, ![80, 11264]⟩ .f32) (s1 s2 k1 k2 bt c1) (p : Fin 80) (y : ℕ → EReal)
    (hY : ∀ x : Fin 11264, Y (ix2 p x) = y x.val) (gr : Fin 176) (h : Fin 2) (q : Fin 16) :
    (shapeCast ⟨4, ![80, 176, 2, 16]⟩ (truncf .bf16 (mulf (mulf (extractStridedSlice ⟨2, ![80, 5632]⟩ ![0, 0] Y s1)
        (Host.divf (broadcastInDim ⟨2, ![80, 5632]⟩ ![] k1 (constant ⟨0, ![]⟩ .f32 0x3F800000#32))
          (addf (broadcastInDim ⟨2, ![80, 5632]⟩ ![] k2 (constant ⟨0, ![]⟩ .f32 0x3F800000#32)) (Host.exp (Host.negf (extractStridedSlice ⟨2, ![80, 5632]⟩ ![0, 0] Y s1))))))
        (extractStridedSlice ⟨2, ![80, 5632]⟩ ![0, 5632] Y s2)) bt) c1 : FVec Ideal ⟨4, ![80, 176, 2, 16]⟩ .bf16) (ix4 p gr h q)
      = gate (y (32 * gr.val + 16 * h.val + q.val)) (y (5632 + (32 * gr.val + 16 * h.val + q.val))) := by
  have hb : 32 * gr.val + 16 * h.val + q.val < 5632 := by have := gr.isLt; have := h.isLt; have := q.isLt; omega
  rw [shapeCast_apply _ c1 _ (ix2 p ⟨32 * gr.val + 16 * h.val + q.val, hb⟩) (by
    rw [Shape.rowMajor_val_two, Shape.rowMajor_val_four]
    show p.val * 5632 + (32 * gr.val + 16 * h.val + q.val) = ((p.val * 176 + gr.val) * 2 + h.val) * 16 + q.val
    omega)]
  generalize hj : (⟨32 * gr.val + 16 * h.val + q.val, hb⟩ : Fin 5632) = j
  have hj' : 32 * gr.val + 16 * h.val + q.val = j.val := by rw [← hj]
  rw [hj']
  have e1 : extractStridedSlice ⟨2, ![80, 5632]⟩ ![0, 0] Y s1 (ix2 p j) = y j.val :=
    (extractStridedSlice_apply _ Y s1 _ (ix2 p ⟨j.val, by have := j.isLt; omega⟩) (by
      intro d
      match d with
      | ⟨0, _⟩ => show p.val = 0 + p.val; omega
      | ⟨1, _⟩ => show j.val = 0 + j.val; omega)).trans (hY _)
  have e2 : extractStridedSlice ⟨2, ![80, 5632]⟩ ![0, 5632] Y s2 (ix2 p j) = y (5632 + j.val) :=
    (extractStridedSlice_apply _ Y s2 _ (ix2 p ⟨5632 + j.val, by have := j.isLt; omega⟩) (by
      intro d
      match d with
      | ⟨0, _⟩ => show p.val = 0 + p.val; omega
      | ⟨1, _⟩ => rfl)).trans (hY _)
  have e3 : broadcastInDim ⟨2, ![80, 5632]⟩ ![] k1 (constant ⟨0, ![]⟩ .f32 0x3F800000#32 : FVec Ideal ⟨0, ![]⟩ .f32) (ix2 p j) = (1 : EReal) :=
    (splat_apply ![] k1 _ (ix2 p j)).trans ofBits_one
  have e4 : broadcastInDim ⟨2, ![80, 5632]⟩ ![] k2 (constant ⟨0, ![]⟩ .f32 0x3F800000#32 : FVec Ideal ⟨0, ![]⟩ .f32) (ix2 p j) = (1 : EReal) :=
    (splat_apply ![] k2 _ (ix2 p j)).trans ofBits_one
  unfold gate Ideal.logistic
  rw [← e1, ← e2]
  refine Eq.trans ?_ (congrArg₂ (fun u v : EReal => extractStridedSlice ⟨2, ![80, 5632]⟩ ![0, 0] Y s1 (ix2 p j)
    * Ideal.div u (v + Ideal.exp (-(extractStridedSlice ⟨2, ![80, 5632]⟩ ![0, 0] Y s1 (ix2 p j)))) * extractStridedSlice ⟨2, ![80, 5632]⟩ ![0, 5632] Y s2 (ix2 p j)) e3 e4)
  rfl

end Cert.Proof.Mlp
-- ==== Proof.RefVal.lean ====
/-
  The reference's result, element by element: the layer's mathematical value.
-/
module

public import proofs.«01_k».proof.Proof.RefLin
public import proofs.«01_k».proof.Proof.Gen.ReferenceIdeal.Run

@[expose] public section

set_option backward.isDefEq.respectTransparency.types false

noncomputable section

namespace Cert.Proof.Mlp.Ref

open Cert.ReferenceIdeal Cert.ReferenceIdeal.Gen Cert.ReferenceIdeal.Value
open Idealize.ShloMosaic hiding ix0 ix1 ix2 ix3 ix4
open Idealize.ShloMosaic.ValueIdx Idealize.ShloMosaic.StableHlo
open scoped BigOperators

variable (V0 : Valuation τ sig (Elt Ideal))

/-- The six arguments. -/
abbrev a0 : FVec Ideal S2x80x2048 .f32 := V0 (Proc.devRef .tc main_arg0)
abbrev a1 : FVec Ideal S2x2048 .f32 := V0 (Proc.devRef .tc main_arg1)
abbrev a2 : IVec S2x1024x11264 8 := V0 (Proc.devRef .tc main_arg2)
abbrev a3 : FVec Ideal S2x64x11264 .bf16 := V0 (Proc.devRef .tc main_arg3)
abbrev a4 : IVec S2x2816x2048 8 := V0 (Proc.devRef .tc main_arg4)
abbrev a5 : FVec Ideal S2x176x2048 .bf16 := V0 (Proc.devRef .tc main_arg5)

/-- The gate and up products of layer `L`, row `p`. -/
def gu (L p j : ℕ) : EReal :=
  lin 64 (hn (at3 (a0 V0) L p) (at2 (a1 V0) L)) (fun ρ => at3 (a2 V0) L ρ j) (fun g => at3 (a3 V0) L g j)
/-- The result of layer `L`, row `p`. -/
def lay (L p x : ℕ) : EReal :=
  layer (at3 (a0 V0) L p) (at2 (a1 V0) L) (at3 (a2 V0) L) (at3 (a3 V0) L) (at3 (a4 V0) L) (at3 (a5 V0) L) x

/-! ## The first layer -/

/-- The layer's gains. -/
def gn0 : FVec Ideal S2048 .f32 := shapeCast S2048 (extractStridedSlice S1x2048 ![0, 0] (a1 V0) slices_S2x2048_S1x2048_0_0) shapeCasts_S1x2048_S2048

theorem v1_apply (p : Fin 80) (j : Fin 2048) : (res_main_v1 V0 : FVec Ideal S80x2048 .f32) (ix2 p j) = at3 (a0 V0) 0 p.val j.val :=
  cut_apply (a0 V0) 0 (by decide) ![0, 0, 0] rfl slices_S2x80x2048_S1x80x2048_0_0_0 shapeCasts_S1x80x2048_S80x2048 p j

theorem v23_apply (p : Fin 80) (gr : Fin 64) (h : Fin 2) (q : Fin 16) : (res_main_v23 V0 : FVec Ideal S80x64x2x16 .bf16) (ix4 p gr h q)
    = hn (at3 (a0 V0) 0 p.val) (at2 (a1 V0) 0) (32 * gr.val + 16 * h.val + q.val) :=
  norm_apply (res_main_v1 V0) (gn0 V0)
    _ _ _ _ _ _ _ _ _ _ p _ _ (v1_apply V0 p) (fun j => cut1_apply (a1 V0) 0 (by decide) ![0, 0] rfl slices_S2x2048_S1x2048_0_0 shapeCasts_S1x2048_S2048 j) gr h q

theorem v52_apply (p : Fin 80) (x : Fin 11264) : (res_main_v52 V0 : FVec Ideal S80x11264 .f32) (ix2 p x) = gu V0 0 p.val x.val :=
  lin_apply (G := 64) rfl (res_main_v23 V0) (res_main_v22 V0) (res_main_v21 V0) dot_S80x1024_S1024x11264_S80x11264_1_0_0_1_n_n rfl
    _ _ _ _ _ _ _ _ _ _ _ p x _ (fun ρ => at3 (a2 V0) 0 ρ x.val) (fun g => at3 (a3 V0) 0 g x.val) (v23_apply V0 p)
    (fun ρ => congrArg (BitVec.setWidth 32) (cut_apply (a2 V0) 0 (by decide) ![0, 0, 0] rfl slices_S2x1024x11264_S1x1024x11264_0_0_0 shapeCasts_S1x1024x11264_S1024x11264 ρ x))
    (fun g => cut_apply (a3 V0) 0 (by decide) ![0, 0, 0] rfl slices_S2x64x11264_S1x64x11264_0_0_0 shapeCasts_S1x64x11264_S64x11264 g x)

theorem v71_apply (p : Fin 80) (gr : Fin 176) (h : Fin 2) (q : Fin 16) : (res_main_v71 V0 : FVec Ideal S80x176x2x16 .bf16) (ix4 p gr h q)
    = gate (gu V0 0 p.val (32 * gr.val + 16 * h.val + q.val)) (gu V0 0 p.val (5632 + (32 * gr.val + 16 * h.val + q.val))) :=
  gate_apply (res_main_v52 V0) _ _ _ _ _ _ p (gu V0 0 p.val) (v52_apply V0 p) gr h q

/-! ## The second layer -/

/-- The layer's gains. -/
def gn1 : FVec Ideal S2048 .f32 := shapeCast S2048 (extractStridedSlice S1x2048 ![1, 0] (a1 V0) slices_S2x2048_S1x2048_1_0) shapeCasts_S1x2048_S2048

theorem v103_apply (p : Fin 80) (j : Fin 2048) : (res_main_v103 V0 : FVec Ideal S80x2048 .f32) (ix2 p j) = at3 (a0 V0) 1 p.val j.val :=
  cut_apply (a0 V0) 1 (by decide) ![1, 0, 0] rfl slices_S2x80x2048_S1x80x2048_1_0_0 shapeCasts_S1x80x2048_S80x2048 p j

theorem v125_apply (p : Fin 80) (gr : Fin 64) (h : Fin 2) (q : Fin 16) : (res_main_v125 V0 : FVec Ideal S80x64x2x16 .bf16) (ix4 p gr h q)
    = hn (at3 (a0 V0) 1 p.val) (at2 (a1 V0) 1) (32 * gr.val + 16 * h.val + q.val) :=
  norm_apply (res_main_v103 V0) (gn1 V0)
    _ _ _ _ _ _ _ _ _ _ p _ _ (v103_apply V0 p) (fun j => cut1_apply (a1 V0) 1 (by decide) ![1, 0] rfl slices_S2x2048_S1x2048_1_0 shapeCasts_S1x2048_S2048 j) gr h q

theorem v154_apply (p : Fin 80) (x : Fin 11264) : (res_main_v154 V0 : FVec Ideal S80x11264 .f32) (ix2 p x) = gu V0 1 p.val x.val :=
  lin_apply (G := 64) rfl (res_main_v125 V0) (res_main_v124 V0) (res_main_v123 V0) dot_S80x1024_S1024x11264_S80x11264_1_0_0_1_n_n rfl
    _ _ _ _ _ _ _ _ _ _ _ p x _ (fun ρ => at3 (a2 V0) 1 ρ x.val) (fun g => at3 (a3 V0) 1 g x.val) (v125_apply V0 p)
    (fun ρ => congrArg (BitVec.setWidth 32) (cut_apply (a2 V0) 1 (by decide) ![1, 0, 0] rfl slices_S2x1024x11264_S1x1024x11264_1_0_0 shapeCasts_S1x1024x11264_S1024x11264 ρ x))
    (fun g => cut_apply (a3 V0) 1 (by decide) ![1, 0, 0] rfl slices_S2x64x11264_S1x64x11264_1_0_0 shapeCasts_S1x64x11264_S64x11264 g x)

theorem v173_apply (p : Fin 80) (gr : Fin 176) (h : Fin 2) (q : Fin 16) : (res_main_v173 V0 : FVec Ideal S80x176x2x16 .bf16) (ix4 p gr h q)
    = gate (gu V0 1 p.val (32 * gr.val + 16 * h.val + q.val)) (gu V0 1 p.val (5632 + (32 * gr.val + 16 * h.val + q.val))) :=
  gate_apply (res_main_v154 V0) _ _ _ _ _ _ p (gu V0 1 p.val) (v154_apply V0 p) gr h q

/-! ## The result -/

/-- The result with layer `L` at the residual plus the down product. -/
def tail (X : FVec Ideal S80x2048 .f32) (A : FVec Ideal S80x176x2x16 .bf16) (W : IVec S2816x2048 32) (S : FVec Ideal S176x2048 .bf16) : FVec Ideal S80x2048 .f32 :=
  addf X (addf (Host.dotGeneral dot_S80x2816_S2816x2048_S80x2048_1_0_0_1_n_n none (shapeCast _ (shapeCast _ (extractStridedSlice S80x176x1x16 ![0, 0, 0, 0] A slices_S80x176x2x16_S80x176x1x16_0_0_0_0) shapeCasts_S80x176x1x16_S80x176x16) shapeCasts_S80x176x16_S80x2816) (shapeCast _ (mulf (shapeCast _ (sitofp .bf16 (subi (andi W (broadcastInDim S2816x2048 ![] bcast_S_S2816x2048 (constantI S_ 32 15#32))) (broadcastInDim S2816x2048 ![] bcast_S_S2816x2048 (constantI S_ 32 8#32)))) shapeCasts_S2816x2048_S176x16x2048) (broadcastInDim S176x16x2048 ![0, 1, 2] bcast_S176x1x2048_S176x16x2048_0_1_2 (broadcastInDim S176x1x2048 ![0, 2] bcast_S176x2048_S176x1x2048_0_2 S))) shapeCasts_S176x16x2048_S2816x2048)) (Host.dotGeneral dot_S80x2816_S2816x2048_S80x2048_1_0_0_1_n_n none (shapeCast _ (shapeCast _ (extractStridedSlice S80x176x1x16 ![0, 0, 1, 0] A slices_S80x176x2x16_S80x176x1x16_0_0_1_0) shapeCasts_S80x176x1x16_S80x176x16) shapeCasts_S80x176x16_S80x2816) (shapeCast _ (mulf (shapeCast _ (sitofp .bf16 (subi (Host.shrsi W (broadcastInDim S2816x2048 ![] bcast_S_S2816x2048 (constantI S_ 32 4#32))) (broadcastInDim S2816x2048 ![] bcast_S_S2816x2048 (constantI S_ 32 8#32)))) shapeCasts_S2816x2048_S176x16x2048) (broadcastInDim S176x16x2048 ![0, 1, 2] bcast_S176x1x2048_S176x16x2048_0_1_2 (broadcastInDim S176x1x2048 ![0, 2] bcast_S176x2048_S176x1x2048_0_2 S))) shapeCasts_S176x16x2048_S2816x2048)))

theorem tail_apply (X A W S) (L : ℕ) (p : Fin 80) (x : Fin 2048) (hX : X (ix2 p x) = at3 (a0 V0) L p.val x.val)
    (hA : ∀ (gr : Fin 176) (h : Fin 2) (q : Fin 16), A (ix4 p gr h q)
      = gate (gu V0 L p.val (32 * gr.val + 16 * h.val + q.val)) (gu V0 L p.val (5632 + (32 * gr.val + 16 * h.val + q.val))))
    (hW : ∀ ρ : Fin 2816, W (ix2 ρ x) = (at3 (a4 V0) L ρ.val x.val).setWidth 32) (hS : ∀ g : Fin 176, S (ix2 g x) = at3 (a5 V0) L g.val x.val) :
    tail X A W S (ix2 p x) = lay V0 L p.val x.val :=
  congrArg₂ (fun y z : EReal => y + z) hX
    (lin_apply (G := 176) rfl A W S dot_S80x2816_S2816x2048_S80x2048_1_0_0_1_n_n rfl _ _ _ _ _ _ _ _ _ _ _ p x
      (fun o => gate (gu V0 L p.val o) (gu V0 L p.val (5632 + o))) (fun ρ => at3 (a4 V0) L ρ x.val) (fun g => at3 (a5 V0) L g x.val) hA hW hS)

/-- The result's term. -/
def res : FVec Ideal S2x80x2048 .f32 :=
  concatenate S2x80x2048 0 [⟨S1x80x2048, broadcastInDim S1x80x2048 ![1, 2] bcast_S80x2048_S1x80x2048_1_2
      (tail (shapeCast _ (extractStridedSlice S1x80x2048 ![0, 0, 0] (a0 V0) slices_S2x80x2048_S1x80x2048_0_0_0) shapeCasts_S1x80x2048_S80x2048) (res_main_v71 V0) (res_main_v70 V0) (res_main_v69 V0))⟩,
    ⟨S1x80x2048, broadcastInDim S1x80x2048 ![1, 2] bcast_S80x2048_S1x80x2048_1_2
      (tail (shapeCast _ (extractStridedSlice S1x80x2048 ![1, 0, 0] (a0 V0) slices_S2x80x2048_S1x80x2048_1_0_0) shapeCasts_S1x80x2048_S80x2048) (res_main_v173 V0) (res_main_v172 V0) (res_main_v171 V0))⟩]
    concatenates_S1x80x2048_S1x80x2048_S2x80x2048_d0

theorem lift_apply (X : FVec Ideal S80x2048 .f32) (z : Fin 1) (p : Fin 80) (x : Fin 2048) :
    broadcastInDim S1x80x2048 ![1, 2] bcast_S80x2048_S1x80x2048_1_2 X (ix3 z p x) = X (ix2 p x) :=
  broadcastInDim_apply ![1, 2] bcast_S80x2048_S1x80x2048_1_2 X _ (ix2 p x) (by
    intro b
    match b with
    | ⟨0, _⟩ => rfl
    | ⟨1, _⟩ => rfl)

theorem res_apply (L : Fin 2) (p : Fin 80) (x : Fin 2048) : res V0 (ix3 L p x) = lay V0 L.val p.val x.val := by
  unfold res
  match L with
  | ⟨0, _⟩ =>
    rw [concatenate_pair_apply_left (t := S2x80x2048) (s₁ := S1x80x2048) (s₂ := S1x80x2048) 0 _ _ _ _ rfl (ix3 ⟨0, Nat.one_pos⟩ p x) (by
      intro b
      match b with
      | ⟨0, _⟩ => rfl
      | ⟨1, _⟩ => rfl
      | ⟨2, _⟩ => rfl), lift_apply]
    exact tail_apply V0 _ _ _ _ 0 p x (v1_apply V0 p x) (v71_apply V0 p)
      (fun ρ => congrArg (BitVec.setWidth 32) (cut_apply (a4 V0) 0 (by decide) ![0, 0, 0] rfl slices_S2x2816x2048_S1x2816x2048_0_0_0 shapeCasts_S1x2816x2048_S2816x2048 ρ x))
      (fun g => cut_apply (a5 V0) 0 (by decide) ![0, 0, 0] rfl slices_S2x176x2048_S1x176x2048_0_0_0 shapeCasts_S1x176x2048_S176x2048 g x)
  | ⟨1, _⟩ =>
    rw [concatenate_pair_apply_right (t := S2x80x2048) (s₁ := S1x80x2048) (s₂ := S1x80x2048) 0 _ _ _ _ rfl rfl (ix3 ⟨0, Nat.one_pos⟩ p x) (by
      intro b hb
      match b with
      | ⟨0, _⟩ => exact absurd rfl hb
      | ⟨1, _⟩ => rfl
      | ⟨2, _⟩ => rfl) rfl, lift_apply]
    exact tail_apply V0 _ _ _ _ 1 p x (v103_apply V0 p x) (v173_apply V0 p)
      (fun ρ => congrArg (BitVec.setWidth 32) (cut_apply (a4 V0) 1 (by decide) ![1, 0, 0] rfl slices_S2x2816x2048_S1x2816x2048_1_0_0 shapeCasts_S1x2816x2048_S2816x2048 ρ x))
      (fun g => cut_apply (a5 V0) 1 (by decide) ![1, 0, 0] rfl slices_S2x176x2048_S1x176x2048_1_0_0 shapeCasts_S1x176x2048_S176x2048 g x)

/-- The reference ends, at any launch: the result at `res`, its arguments as they were. -/
theorem ends (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v206) = res (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run (F := Ideal) m ρ

end Cert.Proof.Mlp.Ref
-- ==== Proof.Value.lean ====
/-
  Over the reals, from equal arguments, the kernel and the reference end with equal results.
-/
module

public import proofs.«01_k».proof.Defs
public import proofs.«01_k».proof.Proof.KerRes
public import proofs.«01_k».proof.Proof.RefVal
public import proofs.«01_k».proof.Proof.Gen.ReferenceIdeal

@[expose] public section

namespace Cert.Proof.Mlp

open Idealize.ShloMosaic hiding ix0 ix1 ix2 ix3 ix4
open Idealize.ShloMosaic.TcCoe Idealize.ShloMosaic.ValueIdx Idealize.ShloMosaic.StableHlo Idealize.SL.Sem

/-- From equal arguments the two results are equal. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Ref.a0 (launchContents m' c) = VV m c Cert.KernelIdeal.main_arg0) (h1 : Ref.a1 (launchContents m' c) = VV m c Cert.KernelIdeal.main_arg1)
    (h2 : Ref.a2 (launchContents m' c) = VV m c Cert.KernelIdeal.main_arg2) (h3 : Ref.a3 (launchContents m' c) = VV m c Cert.KernelIdeal.main_arg3)
    (h4 : Ref.a4 (launchContents m' c) = VV m c Cert.KernelIdeal.main_arg4) (h5 : Ref.a5 (launchContents m' c) = VV m c Cert.KernelIdeal.main_arg5) :
    Ref.res (launchContents m' c) = hidC m c := by
  funext (i : Cert.KernelIdeal.S2x80x2048.Idx)
  have e : i = ix3 ⟨(i 0).val, (i 0).isLt⟩ ⟨(i 1).val, (i 1).isLt⟩ ⟨(i 2).val, (i 2).isLt⟩ := by
    funext a
    match a with
    | ⟨0, _⟩ => rfl
    | ⟨1, _⟩ => rfl
    | ⟨2, _⟩ => rfl
  rw [e]
  refine (Ref.res_apply (launchContents m' c) _ _ _).trans (Eq.trans ?_ (hidF_apply c m _ _ _).symm)
  unfold Ref.lay
  rw [h0, h1, h2, h3, h4, h5]

theorem algebraic : Cert.algebraic_KernelIdeal_ReferenceIdeal (hKernelIdeal := Cert.KernelIdeal.Gen.facts)
    (hReferenceIdeal := Cert.ReferenceIdeal.Gen.facts) := fun m g m' g' _ h =>
  ⟨fun c => hidC m c,
    (θ_run _ _ _).mono (fun _ k => k.1) (kernel_ends (F := Ideal) m g),
    (θ_run Cert.ReferenceIdeal.defs _ _).mono (fun _ k c => ⟨(k c).1.trans (res_eq m m' c (h c).1 (h c).2.1 (h c).2.2.1 (h c).2.2.2.1 (h c).2.2.2.2.1 (h c).2.2.2.2.2), (k c).2⟩)
      (Ref.ends m' g')⟩

end Cert.Proof.Mlp
-- ==== Proof.lean ====
/-
  The claims: the three frames, that nothing was rewritten between the kernel as printed for bits and for the reals, and that over
  the reals the kernel and the reference end with equal results.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal

@[expose] public section

theorem Cert.Proof.claim : Cert.Claim :=
  ⟨Cert.Kernel.Gen.facts, Cert.KernelIdeal.Gen.facts, Cert.ReferenceIdeal.Gen.facts,
    Cert.Proof.Mlp.frame_bits, Cert.Proof.Mlp.frame_ideal, Cert.Proof.Mlp.frame_reference, trivial,
    Cert.Proof.Mlp.algebraic⟩
